-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
-- ==== Pre_in_range.lean ====
abbrev S4x12000x128 : Shape := ⟨3, ![4, 12000, 128]⟩
abbrev S10000x16 : Shape := ⟨2, ![10000, 16]⟩
abbrev S2000x16 : Shape := ⟨2, ![2000, 16]⟩
abbrev S128x2048 : Shape := ⟨2, ![128, 2048]⟩
abbrev S128 : Shape := ⟨1, ![128]⟩
abbrev S_ : Shape := ⟨0, ![]⟩

class Facts : Prop where
  bcast_S_S10000x16 : S_.BroadcastsInDim S10000x16 (![] : Fin 0 → Fin S10000x16.rank)
  reducesTo_S10000x16_S_d0_1 : S10000x16.ReducesTo [0, 1] S_
  h_S_ : 0 < S_.numel
  bcast_S_S2000x16 : S_.BroadcastsInDim S2000x16 (![] : Fin 0 → Fin S2000x16.rank)
  reducesTo_S2000x16_S_d0_1 : S2000x16.ReducesTo [0, 1] S_

variable [Facts]

def fn {F : FTy → Type} [FloatOps F] (main_arg0 : FVec F S4x12000x128 .f32) (main_arg1 : IVec S10000x16 32) (main_arg2 : IVec S2000x16 32) (main_arg3 : FVec F S128x2048 .f32) (main_arg4 : FVec F S128 .f32) (main_arg5 : FVec F S128x2048 .f32) (main_arg6 : FVec F S128 .f32) : IVec S_ 1 :=
  let main_c : IVec S_ 32 := constantI S_ 32 0#32
  let main_v0 : IVec S10000x16 32 := broadcastInDim S10000x16 ![] bcast_S_S10000x16 main_c
  let main_v1 : IVec S10000x16 1 := cmpi .sge main_arg1 main_v0
  let main_c_0 : IVec S_ 32 := constantI S_ 32 20000#32
  let main_v2 : IVec S10000x16 32 := broadcastInDim S10000x16 ![] bcast_S_S10000x16 main_c_0
  let main_v3 : IVec S10000x16 1 := cmpi .slt main_arg1 main_v2
  let main_v4 : IVec S10000x16 1 := andi main_v1 main_v3
  let main_c_1 : IVec S_ 1 := constantI S_ 1 1#1
  let main_v5 : IVec S_ 1 := (fun x v => Host.reduce IntOp.andi x v reducesTo_S10000x16_S_d0_1 h_S_) main_v4 main_c_1
  let main_c_2 : IVec S_ 32 := constantI S_ 32 0#32
  let main_v6 : IVec S2000x16 32 := broadcastInDim S2000x16 ![] bcast_S_S2000x16 main_c_2
  let main_v7 : IVec S2000x16 1 := cmpi .sge main_arg2 main_v6
  let main_c_3 : IVec S_ 32 := constantI S_ 32 20000#32
  let main_v8 : IVec S2000x16 32 := broadcastInDim S2000x16 ![] bcast_S_S2000x16 main_c_3
  let main_v9 : IVec S2000x16 1 := cmpi .slt main_arg2 main_v8
  let main_v10 : IVec S2000x16 1 := andi main_v7 main_v9
  let main_c_4 : IVec S_ 1 := constantI S_ 1 1#1
  let main_v11 : IVec S_ 1 := (fun x v => Host.reduce IntOp.andi x v reducesTo_S2000x16_S_d0_1 h_S_) main_v10 main_c_4
  let main_v12 : IVec S_ 1 := andi main_v5 main_v11
  main_v12
-- ==== Kernel.lean ====
abbrev S4x12000x128 : Shape := ⟨3, ![4, 12000, 128]⟩
abbrev S10000x16 : Shape := ⟨2, ![10000, 16]⟩
abbrev S2000x16 : Shape := ⟨2, ![2000, 16]⟩
abbrev S128x2048 : Shape := ⟨2, ![128, 2048]⟩
abbrev S128 : Shape := ⟨1, ![128]⟩
abbrev S48000x128 : Shape := ⟨2, ![48000, 128]⟩
abbrev S_ : Shape := ⟨0, ![]⟩
abbrev S8x128 : Shape := ⟨2, ![8, 128]⟩
abbrev S48008x128 : Shape := ⟨2, ![48008, 128]⟩
abbrev S12000x16 : Shape := ⟨2, ![12000, 16]⟩
abbrev S4 : Shape := ⟨1, ![4]⟩
abbrev S4x1x1 : Shape := ⟨3, ![4, 1, 1]⟩
abbrev S1x12000x16 : Shape := ⟨3, ![1, 12000, 16]⟩
abbrev S4x12000x16 : Shape := ⟨3, ![4, 12000, 16]⟩
abbrev S768000 : Shape := ⟨1, ![768000]⟩
abbrev S6000x1x128 : Shape := ⟨3, ![6000, 1, 128]⟩
abbrev S768000x128 : Shape := ⟨2, ![768000, 128]⟩
abbrev S2x1x1x128 : Shape := ⟨4, ![2, 1, 1, 128]⟩
abbrev S2 : Shape := ⟨1, ![2]⟩
abbrev S2x128x128 : Shape := ⟨3, ![2, 128, 128]⟩
abbrev S1x1x1x128 : Shape := ⟨4, ![1, 1, 1, 128]⟩
abbrev S1x1x128 : Shape := ⟨3, ![1, 1, 128]⟩
abbrev S1 : Shape := ⟨1, ![1]⟩
abbrev S1x128x128 : Shape := ⟨3, ![1, 128, 128]⟩
abbrev S128x128 : Shape := ⟨2, ![128, 128]⟩
abbrev S48000x2048 : Shape := ⟨2, ![48000, 2048]⟩
abbrev S2048x128 : Shape := ⟨2, ![2048, 128]⟩
abbrev S1x2048x128 : Shape := ⟨3, ![1, 2048, 128]⟩
abbrev S2x2048x128 : Shape := ⟨3, ![2, 2048, 128]⟩
abbrev S1x128 : Shape := ⟨2, ![1, 128]⟩
abbrev S2x128 : Shape := ⟨2, ![2, 128]⟩
abbrev S2x1x128 : Shape := ⟨3, ![2, 1, 128]⟩
abbrev S1000x2048 : Shape := ⟨2, ![1000, 2048]⟩
abbrev S1000x128 : Shape := ⟨2, ![1000, 128]⟩

abbrev nBuf : Table → Nat
  | .hbm => 45
  | .local .tc .vmem => 8
  | .local .scVector .vmem => 2
  | _ => 0

abbrev bufTy : (tb : Table) → Fin (nBuf tb) → BufTy
  | .hbm, ⟨0, _⟩ => ⟨S4x12000x128, .f32⟩
  | .hbm, ⟨1, _⟩ => ⟨S10000x16, .i32⟩
  | .hbm, ⟨2, _⟩ => ⟨S2000x16, .i32⟩
  | .hbm, ⟨3, _⟩ => ⟨S128x2048, .f32⟩
  | .hbm, ⟨4, _⟩ => ⟨S128, .f32⟩
  | .hbm, ⟨5, _⟩ => ⟨S128x2048, .f32⟩
  | .hbm, ⟨6, _⟩ => ⟨S128, .f32⟩
  | .hbm, ⟨7, _⟩ => ⟨S48000x128, .f32⟩
  | .hbm, ⟨8, _⟩ => ⟨S_, .f32⟩
  | .hbm, ⟨9, _⟩ => ⟨S8x128, .f32⟩
  | .hbm, ⟨10, _⟩ => ⟨S48008x128, .f32⟩
  | .hbm, ⟨11, _⟩ => ⟨S12000x16, .i32⟩
  | .hbm, ⟨12, _⟩ => ⟨S4, .i32⟩
  | .hbm, ⟨13, _⟩ => ⟨S_, .i32⟩
  | .hbm, ⟨14, _⟩ => ⟨S4, .i32⟩
  | .hbm, ⟨15, _⟩ => ⟨S4, .i32⟩
  | .hbm, ⟨16, _⟩ => ⟨S4x1x1, .i32⟩
  | .hbm, ⟨17, _⟩ => ⟨S1x12000x16, .i32⟩
  | .hbm, ⟨18, _⟩ => ⟨S_, .i32⟩
  | .hbm, ⟨19, _⟩ => ⟨S1x12000x16, .i32⟩
  | .hbm, ⟨20, _⟩ => ⟨S1x12000x16, .i1⟩
  | .hbm, ⟨21, _⟩ => ⟨S1x12000x16, .i32⟩
  | .hbm, ⟨22, _⟩ => ⟨S4x12000x16, .i32⟩
  | .hbm, ⟨23, _⟩ => ⟨S4x12000x16, .i32⟩
  | .hbm, ⟨24, _⟩ => ⟨S4x12000x16, .i32⟩
  | .hbm, ⟨25, _⟩ => ⟨S_, .i32⟩
  | .hbm, ⟨26, _⟩ => ⟨S_, .i32⟩
  | .hbm, ⟨27, _⟩ => ⟨S4x12000x16, .i1⟩
  | .hbm, ⟨28, _⟩ => ⟨S4x12000x16, .i32⟩
  | .hbm, ⟨29, _⟩ => ⟨S4x12000x16, .i32⟩
  | .hbm, ⟨30, _⟩ => ⟨S768000, .i32⟩
  | .hbm, ⟨31, _⟩ => ⟨S6000x1x128, .i32⟩
  | .hbm, ⟨32, _⟩ => ⟨S768000x128, .f32⟩
  | .hbm, ⟨33, _⟩ => ⟨S48000x2048, .f32⟩
  | .hbm, ⟨34, _⟩ => ⟨S2048x128, .f32⟩
  | .hbm, ⟨35, _⟩ => ⟨S2048x128, .f32⟩
  | .hbm, ⟨36, _⟩ => ⟨S1x2048x128, .f32⟩
  | .hbm, ⟨37, _⟩ => ⟨S1x2048x128, .f32⟩
  | .hbm, ⟨38, _⟩ => ⟨S2x2048x128, .f32⟩
  | .hbm, ⟨39, _⟩ => ⟨S1x128, .f32⟩
  | .hbm, ⟨40, _⟩ => ⟨S1x128, .f32⟩
  | .hbm, ⟨41, _⟩ => ⟨S2x128, .f32⟩
  | .hbm, ⟨42, _⟩ => ⟨S2x1x128, .f32⟩
  | .hbm, ⟨43, _⟩ => ⟨S48000x128, .f32⟩
  | .hbm, ⟨44, _⟩ => ⟨S4x12000x128, .f32⟩
  | .local .tc .vmem, ⟨0, _⟩ => ⟨S1000x2048, .f32⟩
  | .local .tc .vmem, ⟨1, _⟩ => ⟨S1000x2048, .f32⟩
  | .local .tc .vmem, ⟨2, _⟩ => ⟨S1x2048x128, .f32⟩
  | .local .tc .vmem, ⟨3, _⟩ => ⟨S1x2048x128, .f32⟩
  | .local .tc .vmem, ⟨4, _⟩ => ⟨S1x1x128, .f32⟩
  | .local .tc .vmem, ⟨5, _⟩ => ⟨S1x1x128, .f32⟩
  | .local .tc .vmem, ⟨6, _⟩ => ⟨S1000x128, .f32⟩
  | .local .tc .vmem, ⟨7, _⟩ => ⟨S1000x128, .f32⟩
  | .local .scVector .vmem, ⟨0, _⟩ => ⟨S2x1x1x128, .i32⟩
  | .local .scVector .vmem, ⟨1, _⟩ => ⟨S2x128x128, .f32⟩
  | _, _ => ⟨S4x12000x128, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 14 → Bool
  | ⟨0, _⟩ => false
  | ⟨1, _⟩ => false
  | ⟨2, _⟩ => false
  | ⟨3, _⟩ => false
  | ⟨4, _⟩ => false
  | ⟨5, _⟩ => false
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTables nBuf rfl bufTy 4 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_c : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_c_0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_c_1 : Ref sig .tc := ⟨.hbm, 25, rfl⟩
abbrev main_call0_v0 : Ref sig .tc := ⟨.hbm, 26, rfl⟩
abbrev main_call0_v1 : Ref sig .tc := ⟨.hbm, 27, rfl⟩
abbrev main_call0_v2 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v2_scv : Ref sig .scVector := ⟨.hbm, 10, rfl⟩
abbrev main_v17_scv : Ref sig .scVector := ⟨.hbm, 31, rfl⟩
abbrev main_v18_scv : Ref sig .scVector := ⟨.hbm, 32, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg2_1 : Ref sig .tc := ⟨.vmem, 5, rfl⟩
abbrev cc1_stg3_0 : Ref sig .tc := ⟨.vmem, 6, rfl⟩
abbrev cc1_stg3_1 : Ref sig .tc := ⟨.vmem, 7, rfl⟩
abbrev cc0_scoped0 : Ref sig .scVector := ⟨.vmem, 0, rfl⟩
abbrev cc0_scoped2 : Ref sig .scVector := ⟨.vmem, 1, rfl⟩
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_cond1 (i : grid0.Coords) : BitVec 1 :=
  let c1_i32_4 : BitVec 32 := 1#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 1 := Scalar.cmpi .slt v3 c16_i32_0
  let c188_i32 : BitVec 32 := 188#32
  let c187_i32 : BitVec 32 := 187#32
  let v5 : BitVec 32 := Scalar.select v4 c188_i32 c187_i32
  let v11 : BitVec 32 := Scalar.muli c1_i32_4 v5
  let c0_i32_6_r0 : BitVec 32 := 0#32
  let v14_r0 : BitVec 1 := Scalar.cmpi .sgt v11 c0_i32_6_r0
  let v15_r0 : BitVec 32 := Scalar.extui v14_r0
  let c0_i32_7_r0 : BitVec 32 := 0#32
  let v16_r0 : BitVec 1 := Scalar.cmpi .ne v15_r0 c0_i32_7_r0
  v16_r0

def k0_cond2 (i : grid0.Coords) : BitVec 1 :=
  let true_23_r0 : BitVec 1 := 1#1
  let c1_i32_8_r0 : BitVec 32 := 1#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 1 := Scalar.cmpi .slt v3 c16_i32_0
  let c188_i32 : BitVec 32 := 188#32
  let c187_i32 : BitVec 32 := 187#32
  let v5 : BitVec 32 := Scalar.select v4 c188_i32 c187_i32
  let v17_r0 : BitVec 32 := Scalar.muli c1_i32_8_r0 v5
  let c0_i32_22_r0 : BitVec 32 := 0#32
  let v35_r0 : BitVec 1 := Scalar.cmpi .sgt v17_r0 c0_i32_22_r0
  let v36_r0 : BitVec 1 := Scalar.andi true_23_r0 v35_r0
  let true_24_r0 : BitVec 1 := 1#1
  let v37_r0 : BitVec 1 := Scalar.andi v36_r0 true_24_r0
  let v38_r0 : BitVec 32 := Scalar.extui v37_r0
  let c0_i32_26_r0 : BitVec 32 := 0#32
  let v39_r0 : BitVec 1 := Scalar.cmpi .ne v38_r0 c0_i32_26_r0
  v39_r0

def k0_off1 : Fin 4 → Nat :=
  let c0_i32_25_r0 : BitVec 32 := 0#32
  let c2_i32_r0 : BitVec 32 := 2#32
  let v80_r0 : BitVec 32 := Scalar.remui c0_i32_25_r0 c2_i32_r0
  let c0_i32_59_r0 : BitVec 32 := 0#32
  let c0_i32_60_r0 : BitVec 32 := 0#32
  let c0_i32_61_r0 : BitVec 32 := 0#32
  ![v80_r0.toNat, 0, 0, 0]
def k0_off2 (i : grid0.Coords) : Fin 3 → Nat :=
  let c1_i32_58_r0 : BitVec 32 := 1#32
  let c0_i32_11_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_1 : BitVec 32 := 16#32
  let v6 : BitVec 1 := Scalar.cmpi .slt v3 c16_i32_1
  let c16_i32_0 : BitVec 32 := 16#32
  let v4 : BitVec 1 := Scalar.cmpi .slt v3 c16_i32_0
  let c188_i32 : BitVec 32 := 188#32
  let c187_i32 : BitVec 32 := 187#32
  let v5 : BitVec 32 := Scalar.select v4 c188_i32 c187_i32
  let v7 : BitVec 32 := Scalar.muli v3 v5
  let c187_i32_2 : BitVec 32 := 187#32
  let v8 : BitVec 32 := Scalar.muli v3 c187_i32_2
  let c16_i32_3 : BitVec 32 := 16#32
  let v9 : BitVec 32 := Scalar.addi v8 c16_i32_3
  let v10 : BitVec 32 := Scalar.select v6 v7 v9
  let v20_r0 : BitVec 32 := Scalar.addi c0_i32_11_r0 v10
  let v81_r0 : BitVec 32 := Scalar.muli c1_i32_58_r0 v20_r0
  let c0_i32_62_r0 : BitVec 32 := 0#32
  let c0_i32_63_r0 : BitVec 32 := 0#32
  ![v81_r0.toNat, 0, 0]
def k0_off3 : Fin 1 → Nat :=
  let c0_i32_25_r0 : BitVec 32 := 0#32
  let c2_i32_r0 : BitVec 32 := 2#32
  let v80_r0 : BitVec 32 := Scalar.remui c0_i32_25_r0 c2_i32_r0
  ![v80_r0.toNat]
@[reducible] def k0_t1_loop (i : grid0.Coords) : Scf.Loop 32 :=
  let c0_i32_30_r0 : BitVec 32 := 0#32
  let c1_i32_4 : BitVec 32 := 1#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 1 := Scalar.cmpi .slt v3 c16_i32_0
  let c188_i32 : BitVec 32 := 188#32
  let c187_i32 : BitVec 32 := 187#32
  let v5 : BitVec 32 := Scalar.select v4 c188_i32 c187_i32
  let v11 : BitVec 32 := Scalar.muli c1_i32_4 v5
  let v42_r0 : BitVec 32 := Scalar.subi v11 c0_i32_30_r0
  let c1_i32_35_r0 : BitVec 32 := 1#32
  let v44_r0 : BitVec 32 := Scalar.divsi v42_r0 c1_i32_35_r0
  let v45_r0 : BitVec 32 := Scalar.muli v44_r0 c1_i32_35_r0
  let v46_r0 : BitVec 32 := Scalar.addi c0_i32_30_r0 v45_r0
  let c1_i32_36_r0 : BitVec 32 := 1#32
  ⟨c0_i32_30_r0, v46_r0, c1_i32_36_r0⟩
def k0_off4 (arg6_r0 : BitVec 32) : Fin 4 → Nat :=
  let c2_i32_103_r0 : BitVec 32 := 2#32
  let v167_r0 : BitVec 32 := Scalar.remui arg6_r0 c2_i32_103_r0
  let c0_i32_105_r0 : BitVec 32 := 0#32
  let c0_i32_106_r0 : BitVec 32 := 0#32
  let c0_i32_107_r0 : BitVec 32 := 0#32
  ![v167_r0.toNat, 0, 0, 0]
def k0_cond3 (i : grid0.Coords) (k0_t1 : Fin (k0_t1_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_1 : BitVec 32 := 16#32
  let v6 : BitVec 1 := Scalar.cmpi .slt v3 c16_i32_1
  let c16_i32_0 : BitVec 32 := 16#32
  let v4 : BitVec 1 := Scalar.cmpi .slt v3 c16_i32_0
  let c188_i32 : BitVec 32 := 188#32
  let c187_i32 : BitVec 32 := 187#32
  let v5 : BitVec 32 := Scalar.select v4 c188_i32 c187_i32
  let v7 : BitVec 32 := Scalar.muli v3 v5
  let c187_i32_2 : BitVec 32 := 187#32
  let v8 : BitVec 32 := Scalar.muli v3 c187_i32_2
  let c16_i32_3 : BitVec 32 := 16#32
  let v9 : BitVec 32 := Scalar.addi v8 c16_i32_3
  let v10 : BitVec 32 := Scalar.select v6 v7 v9
  let v84_r0 : BitVec 32 := Scalar.addi arg10_r0 v10
  let true_66_r0 : BitVec 1 := 1#1
  let c1_i32_65_r0 : BitVec 32 := 1#32
  let v91_r0 : BitVec 32 := Scalar.addi arg10_r0 c1_i32_65_r0
  let v92_r0 : BitVec 32 := Scalar.select true_66_r0 v91_r0 arg10_r0
  let v93_r0 : BitVec 1 := Scalar.cmpi .eq v92_r0 v5
  let c0_i32_67_r0 : BitVec 32 := 0#32
  let v94_r0 : BitVec 32 := Scalar.select v93_r0 c0_i32_67_r0 v92_r0
  let v95_r0 : BitVec 32 := Scalar.addi v94_r0 v10
  let v101_r0 : BitVec 1 := Scalar.cmpi .ne v84_r0 v95_r0
  let c0_i32_30_r0 : BitVec 32 := 0#32
  let c1_i32_36_r0 : BitVec 32 := 1#32
  let arg5_r0 : BitVec 32 := Scf.iv c0_i32_30_r0 c1_i32_36_r0 k0_t1
  let c1_i32_58_r0 : BitVec 32 := 1#32
  let v80_r0 : BitVec 32 := Scalar.muli c1_i32_58_r0 v5
  let c2_i32_r0 : BitVec 32 := 2#32
  let v102_r0 : BitVec 32 := Scalar.subi v80_r0 c2_i32_r0
  let c1_i32_71_r0 : BitVec 32 := 1#32
  let v103_r0 : BitVec 32 := Scalar.addi v102_r0 c1_i32_71_r0
  let v104_r0 : BitVec 1 := Scalar.cmpi .sge arg5_r0 v103_r0
  let true_72_r0 : BitVec 1 := 1#1
  let v105_r0 : BitVec 1 := Scalar.xori v104_r0 true_72_r0
  let v106_r0 : BitVec 1 := Scalar.andi v101_r0 v105_r0
  let true_73_r0 : BitVec 1 := 1#1
  let v107_r0 : BitVec 1 := Scalar.andi v106_r0 true_73_r0
  let v108_r0 : BitVec 32 := Scalar.extui v107_r0
  let c0_i32_74_r0 : BitVec 32 := 0#32
  let v109_r0 : BitVec 1 := Scalar.cmpi .ne v108_r0 c0_i32_74_r0
  v109_r0

def k0_off5 (i : grid0.Coords) (arg10_r0 : BitVec 32) : Fin 3 → Nat :=
  let c1_i32_104_r0 : BitVec 32 := 1#32
  let true_66_r0 : BitVec 1 := 1#1
  let c1_i32_65_r0 : BitVec 32 := 1#32
  let v91_r0 : BitVec 32 := Scalar.addi arg10_r0 c1_i32_65_r0
  let v92_r0 : BitVec 32 := Scalar.select true_66_r0 v91_r0 arg10_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 1 := Scalar.cmpi .slt v3 c16_i32_0
  let c188_i32 : BitVec 32 := 188#32
  let c187_i32 : BitVec 32 := 187#32
  let v5 : BitVec 32 := Scalar.select v4 c188_i32 c187_i32
  let v93_r0 : BitVec 1 := Scalar.cmpi .eq v92_r0 v5
  let c0_i32_67_r0 : BitVec 32 := 0#32
  let v94_r0 : BitVec 32 := Scalar.select v93_r0 c0_i32_67_r0 v92_r0
  let c16_i32_1 : BitVec 32 := 16#32
  let v6 : BitVec 1 := Scalar.cmpi .slt v3 c16_i32_1
  let v7 : BitVec 32 := Scalar.muli v3 v5
  let c187_i32_2 : BitVec 32 := 187#32
  let v8 : BitVec 32 := Scalar.muli v3 c187_i32_2
  let c16_i32_3 : BitVec 32 := 16#32
  let v9 : BitVec 32 := Scalar.addi v8 c16_i32_3
  let v10 : BitVec 32 := Scalar.select v6 v7 v9
  let v95_r0 : BitVec 32 := Scalar.addi v94_r0 v10
  let v168_r0 : BitVec 32 := Scalar.muli c1_i32_104_r0 v95_r0
  let c0_i32_108_r0 : BitVec 32 := 0#32
  let c0_i32_109_r0 : BitVec 32 := 0#32
  ![v168_r0.toNat, 0, 0]
def k0_off6 (arg6_r0 : BitVec 32) : Fin 1 → Nat :=
  let c2_i32_103_r0 : BitVec 32 := 2#32
  let v167_r0 : BitVec 32 := Scalar.remui arg6_r0 c2_i32_103_r0
  ![v167_r0.toNat]
def k0_off7 (arg7_r0 : BitVec 32) : Fin 4 → Nat :=
  let c2_i32_104_r0 : BitVec 32 := 2#32
  let v168_r0 : BitVec 32 := Scalar.remui arg7_r0 c2_i32_104_r0
  let c0_i32_105_r0 : BitVec 32 := 0#32
  let c0_i32_106_r0 : BitVec 32 := 0#32
  let c0_i32_107_r0 : BitVec 32 := 0#32
  ![v168_r0.toNat, 0, 0, 0]
def k0_cond4 (i : grid0.Coords) (k0_t1 : Fin (k0_t1_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_1 : BitVec 32 := 16#32
  let v6 : BitVec 1 := Scalar.cmpi .slt v3 c16_i32_1
  let c16_i32_0 : BitVec 32 := 16#32
  let v4 : BitVec 1 := Scalar.cmpi .slt v3 c16_i32_0
  let c188_i32 : BitVec 32 := 188#32
  let c187_i32 : BitVec 32 := 187#32
  let v5 : BitVec 32 := Scalar.select v4 c188_i32 c187_i32
  let v7 : BitVec 32 := Scalar.muli v3 v5
  let c187_i32_2 : BitVec 32 := 187#32
  let v8 : BitVec 32 := Scalar.muli v3 c187_i32_2
  let c16_i32_3 : BitVec 32 := 16#32
  let v9 : BitVec 32 := Scalar.addi v8 c16_i32_3
  let v10 : BitVec 32 := Scalar.select v6 v7 v9
  let v84_r0 : BitVec 32 := Scalar.addi arg10_r0 v10
  let true_62_r0 : BitVec 1 := 1#1
  let c1_i32_61_r0 : BitVec 32 := 1#32
  let v85_r0 : BitVec 32 := Scalar.subi arg10_r0 c1_i32_61_r0
  let v86_r0 : BitVec 32 := Scalar.select true_62_r0 v85_r0 arg10_r0
  let c_m1_i32_63_r0 : BitVec 32 := 4294967295#32
  let v87_r0 : BitVec 1 := Scalar.cmpi .eq v86_r0 c_m1_i32_63_r0
  let c1_i32_64_r0 : BitVec 32 := 1#32
  let v88_r0 : BitVec 32 := Scalar.subi v5 c1_i32_64_r0
  let v89_r0 : BitVec 32 := Scalar.select v87_r0 v88_r0 v86_r0
  let v90_r0 : BitVec 32 := Scalar.addi v89_r0 v10
  let v119_r0 : BitVec 1 := Scalar.cmpi .ne v84_r0 v90_r0
  let c0_i32_30_r0 : BitVec 32 := 0#32
  let c1_i32_36_r0 : BitVec 32 := 1#32
  let arg5_r0 : BitVec 32 := Scf.iv c0_i32_30_r0 c1_i32_36_r0 k0_t1
  let c0_i32_59_r0 : BitVec 32 := 0#32
  let v81_r0 : BitVec 1 := Scalar.cmpi .eq arg5_r0 c0_i32_59_r0
  let v120_r0 : BitVec 1 := Scalar.ori v119_r0 v81_r0
  let c0_i32_80_r0 : BitVec 32 := 0#32
  let v121_r0 : BitVec 1 := Scalar.cmpi .sge arg5_r0 c0_i32_80_r0
  let v122_r0 : BitVec 1 := Scalar.andi v120_r0 v121_r0
  let v123_r0 : BitVec 32 := Scalar.extui v122_r0
  let c0_i32_81_r0 : BitVec 32 := 0#32
  let v124_r0 : BitVec 1 := Scalar.cmpi .ne v123_r0 c0_i32_81_r0
  v124_r0

def k0_off8 (i : grid0.Coords) (arg10_r0 : BitVec 32) : Fin 3 → Nat :=
  let c1_i32_103_r0 : BitVec 32 := 1#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_1 : BitVec 32 := 16#32
  let v6 : BitVec 1 := Scalar.cmpi .slt v3 c16_i32_1
  let c16_i32_0 : BitVec 32 := 16#32
  let v4 : BitVec 1 := Scalar.cmpi .slt v3 c16_i32_0
  let c188_i32 : BitVec 32 := 188#32
  let c187_i32 : BitVec 32 := 187#32
  let v5 : BitVec 32 := Scalar.select v4 c188_i32 c187_i32
  let v7 : BitVec 32 := Scalar.muli v3 v5
  let c187_i32_2 : BitVec 32 := 187#32
  let v8 : BitVec 32 := Scalar.muli v3 c187_i32_2
  let c16_i32_3 : BitVec 32 := 16#32
  let v9 : BitVec 32 := Scalar.addi v8 c16_i32_3
  let v10 : BitVec 32 := Scalar.select v6 v7 v9
  let v84_r0 : BitVec 32 := Scalar.addi arg10_r0 v10
  let v167_r0 : BitVec 32 := Scalar.muli c1_i32_103_r0 v84_r0
  let c0_i32_108_r0 : BitVec 32 := 0#32
  let c0_i32_109_r0 : BitVec 32 := 0#32
  ![v167_r0.toNat, 0, 0]
def k0_off9 (arg7_r0 : BitVec 32) : Fin 1 → Nat :=
  let c2_i32_104_r0 : BitVec 32 := 2#32
  let v168_r0 : BitVec 32 := Scalar.remui arg7_r0 c2_i32_104_r0
  ![v168_r0.toNat]
def k0_off10 (arg8_r0 : BitVec 32) : Fin 3 → Nat :=
  let c2_i32_85_r0 : BitVec 32 := 2#32
  let v132_r0 : BitVec 32 := Scalar.remui arg8_r0 c2_i32_85_r0
  let c0_i32_103_r1 : BitVec 32 := 0#32
  let c0_i32_104_r1 : BitVec 32 := 0#32
  ![v132_r0.toNat, 0, 0]

def k0_chk2 (i : grid0.Coords) (arg8_r0 : BitVec 32) : Prop :=
  (∀ (k0_h1 : k0_cond1 i = 1#1), ∀ a, (k0_off10 arg8_r0) a + S1x128x128.size a ≤ S2x128x128.size a)
theorem k0_off10_inb : ∀ (i : grid0.Coords) (arg8_r0 : BitVec 32) (k0_hw2 : k0_chk2 i arg8_r0), ∀ (k0_h1 : k0_cond1 i = 1#1), ∀ a, (k0_off10 arg8_r0) a + S1x128x128.size a ≤ S2x128x128.size a := fun i arg8_r0 k0_hw2 k0_h1 => k0_hw2 k0_h1

def k0_off11 (arg7_r0 : BitVec 32) : Fin 4 → Nat :=
  let c2_i32_84_r0 : BitVec 32 := 2#32
  let v131_r0 : BitVec 32 := Scalar.remui arg7_r0 c2_i32_84_r0
  let c0_i32_105_r1 : BitVec 32 := 0#32
  let c0_i32_106_r1 : BitVec 32 := 0#32
  let c0_i32_107_r1 : BitVec 32 := 0#32
  ![v131_r0.toNat, 0, 0, 0]

def k0_chk3 (i : grid0.Coords) (arg7_r0 : BitVec 32) : Prop :=
  (∀ (k0_h1 : k0_cond1 i = 1#1), ∀ a, (k0_off11 arg7_r0) a + S1x1x1x128.size a ≤ S2x1x1x128.size a)
theorem k0_off11_inb : ∀ (i : grid0.Coords) (arg7_r0 : BitVec 32) (k0_hw3 : k0_chk3 i arg7_r0), ∀ (k0_h1 : k0_cond1 i = 1#1), ∀ a, (k0_off11 arg7_r0) a + S1x1x1x128.size a ≤ S2x1x1x128.size a := fun i arg7_r0 k0_hw3 k0_h1 => k0_hw3 k0_h1

def k0_off12 (arg8_r0 : BitVec 32) : Fin 3 → Nat :=
  let c2_i32_103_r0 : BitVec 32 := 2#32
  let v167_r0 : BitVec 32 := Scalar.remui arg8_r0 c2_i32_103_r0
  let c0_i32_104_r0 : BitVec 32 := 0#32
  let c0_i32_105_r0 : BitVec 32 := 0#32
  ![v167_r0.toNat, 0, 0]
def k0_cond7 (i : grid0.Coords) (k0_t1 : Fin (k0_t1_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_1 : BitVec 32 := 16#32
  let v6 : BitVec 1 := Scalar.cmpi .slt v3 c16_i32_1
  let c16_i32_0 : BitVec 32 := 16#32
  let v4 : BitVec 1 := Scalar.cmpi .slt v3 c16_i32_0
  let c188_i32 : BitVec 32 := 188#32
  let c187_i32 : BitVec 32 := 187#32
  let v5 : BitVec 32 := Scalar.select v4 c188_i32 c187_i32
  let v7 : BitVec 32 := Scalar.muli v3 v5
  let c187_i32_2 : BitVec 32 := 187#32
  let v8 : BitVec 32 := Scalar.muli v3 c187_i32_2
  let c16_i32_3 : BitVec 32 := 16#32
  let v9 : BitVec 32 := Scalar.addi v8 c16_i32_3
  let v10 : BitVec 32 := Scalar.select v6 v7 v9
  let v84_r0 : BitVec 32 := Scalar.addi arg10_r0 v10
  let true_66_r0 : BitVec 1 := 1#1
  let c1_i32_65_r0 : BitVec 32 := 1#32
  let v91_r0 : BitVec 32 := Scalar.addi arg10_r0 c1_i32_65_r0
  let v92_r0 : BitVec 32 := Scalar.select true_66_r0 v91_r0 arg10_r0
  let v93_r0 : BitVec 1 := Scalar.cmpi .eq v92_r0 v5
  let c0_i32_67_r0 : BitVec 32 := 0#32
  let v94_r0 : BitVec 32 := Scalar.select v93_r0 c0_i32_67_r0 v92_r0
  let v95_r0 : BitVec 32 := Scalar.addi v94_r0 v10
  let v138_r0 : BitVec 1 := Scalar.cmpi .ne v84_r0 v95_r0
  let c0_i32_30_r0 : BitVec 32 := 0#32
  let c1_i32_36_r0 : BitVec 32 := 1#32
  let arg5_r0 : BitVec 32 := Scf.iv c0_i32_30_r0 c1_i32_36_r0 k0_t1
  let c1_i32_58_r0 : BitVec 32 := 1#32
  let v80_r0 : BitVec 32 := Scalar.muli c1_i32_58_r0 v5
  let c1_i32_60_r0 : BitVec 32 := 1#32
  let v82_r0 : BitVec 32 := Scalar.subi v80_r0 c1_i32_60_r0
  let v83_r0 : BitVec 1 := Scalar.cmpi .eq arg5_r0 v82_r0
  let v139_r0 : BitVec 1 := Scalar.ori v138_r0 v83_r0
  let v140_r0 : BitVec 32 := Scalar.extui v139_r0
  let c0_i32_89_r0 : BitVec 32 := 0#32
  let v141_r0 : BitVec 1 := Scalar.cmpi .ne v140_r0 c0_i32_89_r0
  v141_r0

def k0_off13 (i : grid0.Coords) (arg10_r0 : BitVec 32) : Fin 2 → Nat :=
  let c128_i32_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_1 : BitVec 32 := 16#32
  let v6 : BitVec 1 := Scalar.cmpi .slt v3 c16_i32_1
  let c16_i32_0 : BitVec 32 := 16#32
  let v4 : BitVec 1 := Scalar.cmpi .slt v3 c16_i32_0
  let c188_i32 : BitVec 32 := 188#32
  let c187_i32 : BitVec 32 := 187#32
  let v5 : BitVec 32 := Scalar.select v4 c188_i32 c187_i32
  let v7 : BitVec 32 := Scalar.muli v3 v5
  let c187_i32_2 : BitVec 32 := 187#32
  let v8 : BitVec 32 := Scalar.muli v3 c187_i32_2
  let c16_i32_3 : BitVec 32 := 16#32
  let v9 : BitVec 32 := Scalar.addi v8 c16_i32_3
  let v10 : BitVec 32 := Scalar.select v6 v7 v9
  let v84_r0 : BitVec 32 := Scalar.addi arg10_r0 v10
  let v168_r0 : BitVec 32 := Scalar.muli c128_i32_r0 v84_r0
  let c0_i32_106_r0 : BitVec 32 := 0#32
  ![v168_r0.toNat, 0]
def k0_off14 (arg8_r0 : BitVec 32) : Fin 1 → Nat :=
  let c2_i32_103_r0 : BitVec 32 := 2#32
  let v167_r0 : BitVec 32 := Scalar.remui arg8_r0 c2_i32_103_r0
  ![v167_r0.toNat]
def k0_off15 (arg9_r0 : BitVec 32) : Fin 3 → Nat :=
  let c2_i32_103_r0 : BitVec 32 := 2#32
  let v167_r0 : BitVec 32 := Scalar.remui arg9_r0 c2_i32_103_r0
  let c0_i32_104_r0 : BitVec 32 := 0#32
  let c0_i32_105_r0 : BitVec 32 := 0#32
  ![v167_r0.toNat, 0, 0]
def k0_cond9 (i : grid0.Coords) (k0_t1 : Fin (k0_t1_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_1 : BitVec 32 := 16#32
  let v6 : BitVec 1 := Scalar.cmpi .slt v3 c16_i32_1
  let c16_i32_0 : BitVec 32 := 16#32
  let v4 : BitVec 1 := Scalar.cmpi .slt v3 c16_i32_0
  let c188_i32 : BitVec 32 := 188#32
  let c187_i32 : BitVec 32 := 187#32
  let v5 : BitVec 32 := Scalar.select v4 c188_i32 c187_i32
  let v7 : BitVec 32 := Scalar.muli v3 v5
  let c187_i32_2 : BitVec 32 := 187#32
  let v8 : BitVec 32 := Scalar.muli v3 c187_i32_2
  let c16_i32_3 : BitVec 32 := 16#32
  let v9 : BitVec 32 := Scalar.addi v8 c16_i32_3
  let v10 : BitVec 32 := Scalar.select v6 v7 v9
  let v84_r0 : BitVec 32 := Scalar.addi arg10_r0 v10
  let true_62_r0 : BitVec 1 := 1#1
  let c1_i32_61_r0 : BitVec 32 := 1#32
  let v85_r0 : BitVec 32 := Scalar.subi arg10_r0 c1_i32_61_r0
  let v86_r0 : BitVec 32 := Scalar.select true_62_r0 v85_r0 arg10_r0
  let c_m1_i32_63_r0 : BitVec 32 := 4294967295#32
  let v87_r0 : BitVec 1 := Scalar.cmpi .eq v86_r0 c_m1_i32_63_r0
  let c1_i32_64_r0 : BitVec 32 := 1#32
  let v88_r0 : BitVec 32 := Scalar.subi v5 c1_i32_64_r0
  let v89_r0 : BitVec 32 := Scalar.select v87_r0 v88_r0 v86_r0
  let v90_r0 : BitVec 32 := Scalar.addi v89_r0 v10
  let v151_r0 : BitVec 1 := Scalar.cmpi .ne v84_r0 v90_r0
  let c0_i32_30_r0 : BitVec 32 := 0#32
  let c1_i32_36_r0 : BitVec 32 := 1#32
  let arg5_r0 : BitVec 32 := Scf.iv c0_i32_30_r0 c1_i32_36_r0 k0_t1
  let c0_i32_59_r0 : BitVec 32 := 0#32
  let v81_r0 : BitVec 1 := Scalar.cmpi .eq arg5_r0 c0_i32_59_r0
  let true_95_r0 : BitVec 1 := 1#1
  let v152_r0 : BitVec 1 := Scalar.xori v81_r0 true_95_r0
  let v153_r0 : BitVec 1 := Scalar.andi v151_r0 v152_r0
  let v154_r0 : BitVec 32 := Scalar.extui v153_r0
  let c0_i32_96_r0 : BitVec 32 := 0#32
  let v155_r0 : BitVec 1 := Scalar.cmpi .ne v154_r0 c0_i32_96_r0
  v155_r0

def k0_off16 (i : grid0.Coords) (arg10_r0 : BitVec 32) : Fin 2 → Nat :=
  let c128_i32_r0 : BitVec 32 := 128#32
  let true_62_r0 : BitVec 1 := 1#1
  let c1_i32_61_r0 : BitVec 32 := 1#32
  let v85_r0 : BitVec 32 := Scalar.subi arg10_r0 c1_i32_61_r0
  let v86_r0 : BitVec 32 := Scalar.select true_62_r0 v85_r0 arg10_r0
  let c_m1_i32_63_r0 : BitVec 32 := 4294967295#32
  let v87_r0 : BitVec 1 := Scalar.cmpi .eq v86_r0 c_m1_i32_63_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 1 := Scalar.cmpi .slt v3 c16_i32_0
  let c188_i32 : BitVec 32 := 188#32
  let c187_i32 : BitVec 32 := 187#32
  let v5 : BitVec 32 := Scalar.select v4 c188_i32 c187_i32
  let c1_i32_64_r0 : BitVec 32 := 1#32
  let v88_r0 : BitVec 32 := Scalar.subi v5 c1_i32_64_r0
  let v89_r0 : BitVec 32 := Scalar.select v87_r0 v88_r0 v86_r0
  let c16_i32_1 : BitVec 32 := 16#32
  let v6 : BitVec 1 := Scalar.cmpi .slt v3 c16_i32_1
  let v7 : BitVec 32 := Scalar.muli v3 v5
  let c187_i32_2 : BitVec 32 := 187#32
  let v8 : BitVec 32 := Scalar.muli v3 c187_i32_2
  let c16_i32_3 : BitVec 32 := 16#32
  let v9 : BitVec 32 := Scalar.addi v8 c16_i32_3
  let v10 : BitVec 32 := Scalar.select v6 v7 v9
  let v90_r0 : BitVec 32 := Scalar.addi v89_r0 v10
  let v168_r0 : BitVec 32 := Scalar.muli c128_i32_r0 v90_r0
  let c0_i32_106_r0 : BitVec 32 := 0#32
  ![v168_r0.toNat, 0]
def k0_off17 (arg9_r0 : BitVec 32) : Fin 1 → Nat :=
  let c2_i32_103_r0 : BitVec 32 := 2#32
  let v167_r0 : BitVec 32 := Scalar.remui arg9_r0 c2_i32_103_r0
  ![v167_r0.toNat]

def k0_chk1 (i : grid0.Coords) (k0_t1 : Fin (k0_t1_loop i).trips) (arg6_r0 : BitVec 32) (arg7_r0 : BitVec 32) (arg8_r0 : BitVec 32) (arg9_r0 : BitVec 32) (arg10_r0 : BitVec 32) : Prop :=
  (∀ (k0_h1 : k0_cond1 i = 1#1), ∀ (k0_h3 : k0_cond3 i k0_t1 arg10_r0 = 1#1), ∀ a, (k0_off4 arg6_r0) a + S1x1x1x128.size a ≤ S2x1x1x128.size a) ∧
  (∀ (k0_h1 : k0_cond1 i = 1#1), ∀ (k0_h3 : k0_cond3 i k0_t1 arg10_r0 = 1#1), ∀ a, (k0_off5 i arg10_r0) a + S1x1x128.size a ≤ S6000x1x128.size a) ∧
  (∀ (k0_h1 : k0_cond1 i = 1#1), ∀ (k0_h3 : k0_cond3 i k0_t1 arg10_r0 = 1#1), ∀ a, (k0_off6 arg6_r0) a + S1.size a ≤ S2.size a) ∧
  (∀ (k0_h1 : k0_cond1 i = 1#1), ∀ (k0_h4 : k0_cond4 i k0_t1 arg10_r0 = 1#1), ∀ a, (k0_off7 arg7_r0) a + S1x1x1x128.size a ≤ S2x1x1x128.size a) ∧
  (∀ (k0_h1 : k0_cond1 i = 1#1), ∀ (k0_h4 : k0_cond4 i k0_t1 arg10_r0 = 1#1), ∀ a, (k0_off8 i arg10_r0) a + S1x1x128.size a ≤ S6000x1x128.size a) ∧
  (∀ (k0_h1 : k0_cond1 i = 1#1), ∀ (k0_h4 : k0_cond4 i k0_t1 arg10_r0 = 1#1), ∀ a, (k0_off9 arg7_r0) a + S1.size a ≤ S2.size a) ∧
  (∀ (k0_h1 : k0_cond1 i = 1#1), ∀ (k0_h7 : k0_cond7 i k0_t1 arg10_r0 = 1#1), ∀ a, (k0_off12 arg8_r0) a + S1x128x128.size a ≤ S2x128x128.size a) ∧
  (∀ (k0_h1 : k0_cond1 i = 1#1), ∀ (k0_h7 : k0_cond7 i k0_t1 arg10_r0 = 1#1), ∀ a, (k0_off13 i arg10_r0) a + S128x128.size a ≤ S768000x128.size a) ∧
  (∀ (k0_h1 : k0_cond1 i = 1#1), ∀ (k0_h7 : k0_cond7 i k0_t1 arg10_r0 = 1#1), ∀ a, (k0_off14 arg8_r0) a + S1.size a ≤ S2.size a) ∧
  (∀ (k0_h1 : k0_cond1 i = 1#1), ∀ (k0_h9 : k0_cond9 i k0_t1 arg10_r0 = 1#1), ∀ a, (k0_off15 arg9_r0) a + S1x128x128.size a ≤ S2x128x128.size a) ∧
  (∀ (k0_h1 : k0_cond1 i = 1#1), ∀ (k0_h9 : k0_cond9 i k0_t1 arg10_r0 = 1#1), ∀ a, (k0_off16 i arg10_r0) a + S128x128.size a ≤ S768000x128.size a) ∧
  (∀ (k0_h1 : k0_cond1 i = 1#1), ∀ (k0_h9 : k0_cond9 i k0_t1 arg10_r0 = 1#1), ∀ a, (k0_off17 arg9_r0) a + S1.size a ≤ S2.size a)
theorem k0_off4_inb : ∀ (i : grid0.Coords) (k0_t1 : Fin (k0_t1_loop i).trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i = 1#1), ∀ (k0_h3 : k0_cond3 i k0_t1 arg10_r0 = 1#1), ∀ a, (k0_off4 arg6_r0) a + S1x1x1x128.size a ≤ S2x1x1x128.size a := fun i k0_t1 arg6_r0 arg7_r0 arg8_r0 arg9_r0 arg10_r0 k0_hw1 k0_h1 k0_h3 => k0_hw1.1 k0_h1 k0_h3
theorem k0_off5_inb : ∀ (i : grid0.Coords) (k0_t1 : Fin (k0_t1_loop i).trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i = 1#1), ∀ (k0_h3 : k0_cond3 i k0_t1 arg10_r0 = 1#1), ∀ a, (k0_off5 i arg10_r0) a + S1x1x128.size a ≤ S6000x1x128.size a := fun i k0_t1 arg6_r0 arg7_r0 arg8_r0 arg9_r0 arg10_r0 k0_hw1 k0_h1 k0_h3 => k0_hw1.2.1 k0_h1 k0_h3
theorem k0_off6_inb : ∀ (i : grid0.Coords) (k0_t1 : Fin (k0_t1_loop i).trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i = 1#1), ∀ (k0_h3 : k0_cond3 i k0_t1 arg10_r0 = 1#1), ∀ a, (k0_off6 arg6_r0) a + S1.size a ≤ S2.size a := fun i k0_t1 arg6_r0 arg7_r0 arg8_r0 arg9_r0 arg10_r0 k0_hw1 k0_h1 k0_h3 => k0_hw1.2.2.1 k0_h1 k0_h3
theorem k0_off7_inb : ∀ (i : grid0.Coords) (k0_t1 : Fin (k0_t1_loop i).trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i = 1#1), ∀ (k0_h4 : k0_cond4 i k0_t1 arg10_r0 = 1#1), ∀ a, (k0_off7 arg7_r0) a + S1x1x1x128.size a ≤ S2x1x1x128.size a := fun i k0_t1 arg6_r0 arg7_r0 arg8_r0 arg9_r0 arg10_r0 k0_hw1 k0_h1 k0_h4 => k0_hw1.2.2.2.1 k0_h1 k0_h4
theorem k0_off8_inb : ∀ (i : grid0.Coords) (k0_t1 : Fin (k0_t1_loop i).trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i = 1#1), ∀ (k0_h4 : k0_cond4 i k0_t1 arg10_r0 = 1#1), ∀ a, (k0_off8 i arg10_r0) a + S1x1x128.size a ≤ S6000x1x128.size a := fun i k0_t1 arg6_r0 arg7_r0 arg8_r0 arg9_r0 arg10_r0 k0_hw1 k0_h1 k0_h4 => k0_hw1.2.2.2.2.1 k0_h1 k0_h4
theorem k0_off9_inb : ∀ (i : grid0.Coords) (k0_t1 : Fin (k0_t1_loop i).trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i = 1#1), ∀ (k0_h4 : k0_cond4 i k0_t1 arg10_r0 = 1#1), ∀ a, (k0_off9 arg7_r0) a + S1.size a ≤ S2.size a := fun i k0_t1 arg6_r0 arg7_r0 arg8_r0 arg9_r0 arg10_r0 k0_hw1 k0_h1 k0_h4 => k0_hw1.2.2.2.2.2.1 k0_h1 k0_h4
theorem k0_off12_inb : ∀ (i : grid0.Coords) (k0_t1 : Fin (k0_t1_loop i).trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i = 1#1), ∀ (k0_h7 : k0_cond7 i k0_t1 arg10_r0 = 1#1), ∀ a, (k0_off12 arg8_r0) a + S1x128x128.size a ≤ S2x128x128.size a := fun i k0_t1 arg6_r0 arg7_r0 arg8_r0 arg9_r0 arg10_r0 k0_hw1 k0_h1 k0_h7 => k0_hw1.2.2.2.2.2.2.1 k0_h1 k0_h7
theorem k0_off13_inb : ∀ (i : grid0.Coords) (k0_t1 : Fin (k0_t1_loop i).trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i = 1#1), ∀ (k0_h7 : k0_cond7 i k0_t1 arg10_r0 = 1#1), ∀ a, (k0_off13 i arg10_r0) a + S128x128.size a ≤ S768000x128.size a := fun i k0_t1 arg6_r0 arg7_r0 arg8_r0 arg9_r0 arg10_r0 k0_hw1 k0_h1 k0_h7 => k0_hw1.2.2.2.2.2.2.2.1 k0_h1 k0_h7
theorem k0_off14_inb : ∀ (i : grid0.Coords) (k0_t1 : Fin (k0_t1_loop i).trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i = 1#1), ∀ (k0_h7 : k0_cond7 i k0_t1 arg10_r0 = 1#1), ∀ a, (k0_off14 arg8_r0) a + S1.size a ≤ S2.size a := fun i k0_t1 arg6_r0 arg7_r0 arg8_r0 arg9_r0 arg10_r0 k0_hw1 k0_h1 k0_h7 => k0_hw1.2.2.2.2.2.2.2.2.1 k0_h1 k0_h7
theorem k0_off15_inb : ∀ (i : grid0.Coords) (k0_t1 : Fin (k0_t1_loop i).trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i = 1#1), ∀ (k0_h9 : k0_cond9 i k0_t1 arg10_r0 = 1#1), ∀ a, (k0_off15 arg9_r0) a + S1x128x128.size a ≤ S2x128x128.size a := fun i k0_t1 arg6_r0 arg7_r0 arg8_r0 arg9_r0 arg10_r0 k0_hw1 k0_h1 k0_h9 => k0_hw1.2.2.2.2.2.2.2.2.2.1 k0_h1 k0_h9
theorem k0_off16_inb : ∀ (i : grid0.Coords) (k0_t1 : Fin (k0_t1_loop i).trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i = 1#1), ∀ (k0_h9 : k0_cond9 i k0_t1 arg10_r0 = 1#1), ∀ a, (k0_off16 i arg10_r0) a + S128x128.size a ≤ S768000x128.size a := fun i k0_t1 arg6_r0 arg7_r0 arg8_r0 arg9_r0 arg10_r0 k0_hw1 k0_h1 k0_h9 => k0_hw1.2.2.2.2.2.2.2.2.2.2.1 k0_h1 k0_h9
theorem k0_off17_inb : ∀ (i : grid0.Coords) (k0_t1 : Fin (k0_t1_loop i).trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i = 1#1), ∀ (k0_h9 : k0_cond9 i k0_t1 arg10_r0 = 1#1), ∀ a, (k0_off17 arg9_r0) a + S1.size a ≤ S2.size a := fun i k0_t1 arg6_r0 arg7_r0 arg8_r0 arg9_r0 arg10_r0 k0_hw1 k0_h1 k0_h9 => k0_hw1.2.2.2.2.2.2.2.2.2.2.2 k0_h1 k0_h9

@[reducible] def k0_t2_loop (i : grid0.Coords) : Scf.Loop 32 :=
  let c0_i32_30_r0 : BitVec 32 := 0#32
  let c1_i32_4 : BitVec 32 := 1#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 1 := Scalar.cmpi .slt v3 c16_i32_0
  let c188_i32 : BitVec 32 := 188#32
  let c187_i32 : BitVec 32 := 187#32
  let v5 : BitVec 32 := Scalar.select v4 c188_i32 c187_i32
  let v11 : BitVec 32 := Scalar.muli c1_i32_4 v5
  let v42_r0 : BitVec 32 := Scalar.subi v11 c0_i32_30_r0
  let c1_i32_35_r0 : BitVec 32 := 1#32
  let v44_r0 : BitVec 32 := Scalar.divsi v42_r0 c1_i32_35_r0
  let v45_r0 : BitVec 32 := Scalar.muli v44_r0 c1_i32_35_r0
  let v46_r0 : BitVec 32 := Scalar.addi c0_i32_30_r0 v45_r0
  let v43_r0 : BitVec 32 := Scalar.addi c0_i32_30_r0 v42_r0
  let c1_i32_37_r0 : BitVec 32 := 1#32
  ⟨v46_r0, v43_r0, c1_i32_37_r0⟩
def k0_off18 (arg6_r0 : BitVec 32) : Fin 4 → Nat :=
  let c2_i32_103_r0 : BitVec 32 := 2#32
  let v167_r0 : BitVec 32 := Scalar.remui arg6_r0 c2_i32_103_r0
  let c0_i32_105_r0 : BitVec 32 := 0#32
  let c0_i32_106_r0 : BitVec 32 := 0#32
  let c0_i32_107_r0 : BitVec 32 := 0#32
  ![v167_r0.toNat, 0, 0, 0]
def k0_cond10 (i : grid0.Coords) (k0_t2 : Fin (k0_t2_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_1 : BitVec 32 := 16#32
  let v6 : BitVec 1 := Scalar.cmpi .slt v3 c16_i32_1
  let c16_i32_0 : BitVec 32 := 16#32
  let v4 : BitVec 1 := Scalar.cmpi .slt v3 c16_i32_0
  let c188_i32 : BitVec 32 := 188#32
  let c187_i32 : BitVec 32 := 187#32
  let v5 : BitVec 32 := Scalar.select v4 c188_i32 c187_i32
  let v7 : BitVec 32 := Scalar.muli v3 v5
  let c187_i32_2 : BitVec 32 := 187#32
  let v8 : BitVec 32 := Scalar.muli v3 c187_i32_2
  let c16_i32_3 : BitVec 32 := 16#32
  let v9 : BitVec 32 := Scalar.addi v8 c16_i32_3
  let v10 : BitVec 32 := Scalar.select v6 v7 v9
  let v84_r0 : BitVec 32 := Scalar.addi arg10_r0 v10
  let true_66_r0 : BitVec 1 := 1#1
  let c1_i32_65_r0 : BitVec 32 := 1#32
  let v91_r0 : BitVec 32 := Scalar.addi arg10_r0 c1_i32_65_r0
  let v92_r0 : BitVec 32 := Scalar.select true_66_r0 v91_r0 arg10_r0
  let v93_r0 : BitVec 1 := Scalar.cmpi .eq v92_r0 v5
  let c0_i32_67_r0 : BitVec 32 := 0#32
  let v94_r0 : BitVec 32 := Scalar.select v93_r0 c0_i32_67_r0 v92_r0
  let v95_r0 : BitVec 32 := Scalar.addi v94_r0 v10
  let v101_r0 : BitVec 1 := Scalar.cmpi .ne v84_r0 v95_r0
  let c0_i32_30_r0 : BitVec 32 := 0#32
  let c1_i32_4 : BitVec 32 := 1#32
  let v11 : BitVec 32 := Scalar.muli c1_i32_4 v5
  let v42_r0 : BitVec 32 := Scalar.subi v11 c0_i32_30_r0
  let c1_i32_35_r0 : BitVec 32 := 1#32
  let v44_r0 : BitVec 32 := Scalar.divsi v42_r0 c1_i32_35_r0
  let v45_r0 : BitVec 32 := Scalar.muli v44_r0 c1_i32_35_r0
  let v46_r0 : BitVec 32 := Scalar.addi c0_i32_30_r0 v45_r0
  let c1_i32_37_r0 : BitVec 32 := 1#32
  let arg5_r0 : BitVec 32 := Scf.iv v46_r0 c1_i32_37_r0 k0_t2
  let c1_i32_58_r0 : BitVec 32 := 1#32
  let v80_r0 : BitVec 32 := Scalar.muli c1_i32_58_r0 v5
  let c2_i32_r0 : BitVec 32 := 2#32
  let v102_r0 : BitVec 32 := Scalar.subi v80_r0 c2_i32_r0
  let c1_i32_71_r0 : BitVec 32 := 1#32
  let v103_r0 : BitVec 32 := Scalar.addi v102_r0 c1_i32_71_r0
  let v104_r0 : BitVec 1 := Scalar.cmpi .sge arg5_r0 v103_r0
  let true_72_r0 : BitVec 1 := 1#1
  let v105_r0 : BitVec 1 := Scalar.xori v104_r0 true_72_r0
  let v106_r0 : BitVec 1 := Scalar.andi v101_r0 v105_r0
  let true_73_r0 : BitVec 1 := 1#1
  let v107_r0 : BitVec 1 := Scalar.andi v106_r0 true_73_r0
  let v108_r0 : BitVec 32 := Scalar.extui v107_r0
  let c0_i32_74_r0 : BitVec 32 := 0#32
  let v109_r0 : BitVec 1 := Scalar.cmpi .ne v108_r0 c0_i32_74_r0
  v109_r0

def k0_off19 (i : grid0.Coords) (arg10_r0 : BitVec 32) : Fin 3 → Nat :=
  let c1_i32_104_r0 : BitVec 32 := 1#32
  let true_66_r0 : BitVec 1 := 1#1
  let c1_i32_65_r0 : BitVec 32 := 1#32
  let v91_r0 : BitVec 32 := Scalar.addi arg10_r0 c1_i32_65_r0
  let v92_r0 : BitVec 32 := Scalar.select true_66_r0 v91_r0 arg10_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 1 := Scalar.cmpi .slt v3 c16_i32_0
  let c188_i32 : BitVec 32 := 188#32
  let c187_i32 : BitVec 32 := 187#32
  let v5 : BitVec 32 := Scalar.select v4 c188_i32 c187_i32
  let v93_r0 : BitVec 1 := Scalar.cmpi .eq v92_r0 v5
  let c0_i32_67_r0 : BitVec 32 := 0#32
  let v94_r0 : BitVec 32 := Scalar.select v93_r0 c0_i32_67_r0 v92_r0
  let c16_i32_1 : BitVec 32 := 16#32
  let v6 : BitVec 1 := Scalar.cmpi .slt v3 c16_i32_1
  let v7 : BitVec 32 := Scalar.muli v3 v5
  let c187_i32_2 : BitVec 32 := 187#32
  let v8 : BitVec 32 := Scalar.muli v3 c187_i32_2
  let c16_i32_3 : BitVec 32 := 16#32
  let v9 : BitVec 32 := Scalar.addi v8 c16_i32_3
  let v10 : BitVec 32 := Scalar.select v6 v7 v9
  let v95_r0 : BitVec 32 := Scalar.addi v94_r0 v10
  let v168_r0 : BitVec 32 := Scalar.muli c1_i32_104_r0 v95_r0
  let c0_i32_108_r0 : BitVec 32 := 0#32
  let c0_i32_109_r0 : BitVec 32 := 0#32
  ![v168_r0.toNat, 0, 0]
def k0_off20 (arg6_r0 : BitVec 32) : Fin 1 → Nat :=
  let c2_i32_103_r0 : BitVec 32 := 2#32
  let v167_r0 : BitVec 32 := Scalar.remui arg6_r0 c2_i32_103_r0
  ![v167_r0.toNat]
def k0_off21 (arg7_r0 : BitVec 32) : Fin 4 → Nat :=
  let c2_i32_104_r0 : BitVec 32 := 2#32
  let v168_r0 : BitVec 32 := Scalar.remui arg7_r0 c2_i32_104_r0
  let c0_i32_105_r0 : BitVec 32 := 0#32
  let c0_i32_106_r0 : BitVec 32 := 0#32
  let c0_i32_107_r0 : BitVec 32 := 0#32
  ![v168_r0.toNat, 0, 0, 0]
def k0_cond11 (i : grid0.Coords) (k0_t2 : Fin (k0_t2_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_1 : BitVec 32 := 16#32
  let v6 : BitVec 1 := Scalar.cmpi .slt v3 c16_i32_1
  let c16_i32_0 : BitVec 32 := 16#32
  let v4 : BitVec 1 := Scalar.cmpi .slt v3 c16_i32_0
  let c188_i32 : BitVec 32 := 188#32
  let c187_i32 : BitVec 32 := 187#32
  let v5 : BitVec 32 := Scalar.select v4 c188_i32 c187_i32
  let v7 : BitVec 32 := Scalar.muli v3 v5
  let c187_i32_2 : BitVec 32 := 187#32
  let v8 : BitVec 32 := Scalar.muli v3 c187_i32_2
  let c16_i32_3 : BitVec 32 := 16#32
  let v9 : BitVec 32 := Scalar.addi v8 c16_i32_3
  let v10 : BitVec 32 := Scalar.select v6 v7 v9
  let v84_r0 : BitVec 32 := Scalar.addi arg10_r0 v10
  let true_62_r0 : BitVec 1 := 1#1
  let c1_i32_61_r0 : BitVec 32 := 1#32
  let v85_r0 : BitVec 32 := Scalar.subi arg10_r0 c1_i32_61_r0
  let v86_r0 : BitVec 32 := Scalar.select true_62_r0 v85_r0 arg10_r0
  let c_m1_i32_63_r0 : BitVec 32 := 4294967295#32
  let v87_r0 : BitVec 1 := Scalar.cmpi .eq v86_r0 c_m1_i32_63_r0
  let c1_i32_64_r0 : BitVec 32 := 1#32
  let v88_r0 : BitVec 32 := Scalar.subi v5 c1_i32_64_r0
  let v89_r0 : BitVec 32 := Scalar.select v87_r0 v88_r0 v86_r0
  let v90_r0 : BitVec 32 := Scalar.addi v89_r0 v10
  let v119_r0 : BitVec 1 := Scalar.cmpi .ne v84_r0 v90_r0
  let c0_i32_30_r0 : BitVec 32 := 0#32
  let c1_i32_4 : BitVec 32 := 1#32
  let v11 : BitVec 32 := Scalar.muli c1_i32_4 v5
  let v42_r0 : BitVec 32 := Scalar.subi v11 c0_i32_30_r0
  let c1_i32_35_r0 : BitVec 32 := 1#32
  let v44_r0 : BitVec 32 := Scalar.divsi v42_r0 c1_i32_35_r0
  let v45_r0 : BitVec 32 := Scalar.muli v44_r0 c1_i32_35_r0
  let v46_r0 : BitVec 32 := Scalar.addi c0_i32_30_r0 v45_r0
  let c1_i32_37_r0 : BitVec 32 := 1#32
  let arg5_r0 : BitVec 32 := Scf.iv v46_r0 c1_i32_37_r0 k0_t2
  let c0_i32_59_r0 : BitVec 32 := 0#32
  let v81_r0 : BitVec 1 := Scalar.cmpi .eq arg5_r0 c0_i32_59_r0
  let v120_r0 : BitVec 1 := Scalar.ori v119_r0 v81_r0
  let c0_i32_80_r0 : BitVec 32 := 0#32
  let v121_r0 : BitVec 1 := Scalar.cmpi .sge arg5_r0 c0_i32_80_r0
  let v122_r0 : BitVec 1 := Scalar.andi v120_r0 v121_r0
  let v123_r0 : BitVec 32 := Scalar.extui v122_r0
  let c0_i32_81_r0 : BitVec 32 := 0#32
  let v124_r0 : BitVec 1 := Scalar.cmpi .ne v123_r0 c0_i32_81_r0
  v124_r0

def k0_off22 (i : grid0.Coords) (arg10_r0 : BitVec 32) : Fin 3 → Nat :=
  let c1_i32_103_r0 : BitVec 32 := 1#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_1 : BitVec 32 := 16#32
  let v6 : BitVec 1 := Scalar.cmpi .slt v3 c16_i32_1
  let c16_i32_0 : BitVec 32 := 16#32
  let v4 : BitVec 1 := Scalar.cmpi .slt v3 c16_i32_0
  let c188_i32 : BitVec 32 := 188#32
  let c187_i32 : BitVec 32 := 187#32
  let v5 : BitVec 32 := Scalar.select v4 c188_i32 c187_i32
  let v7 : BitVec 32 := Scalar.muli v3 v5
  let c187_i32_2 : BitVec 32 := 187#32
  let v8 : BitVec 32 := Scalar.muli v3 c187_i32_2
  let c16_i32_3 : BitVec 32 := 16#32
  let v9 : BitVec 32 := Scalar.addi v8 c16_i32_3
  let v10 : BitVec 32 := Scalar.select v6 v7 v9
  let v84_r0 : BitVec 32 := Scalar.addi arg10_r0 v10
  let v167_r0 : BitVec 32 := Scalar.muli c1_i32_103_r0 v84_r0
  let c0_i32_108_r0 : BitVec 32 := 0#32
  let c0_i32_109_r0 : BitVec 32 := 0#32
  ![v167_r0.toNat, 0, 0]
def k0_off23 (arg7_r0 : BitVec 32) : Fin 1 → Nat :=
  let c2_i32_104_r0 : BitVec 32 := 2#32
  let v168_r0 : BitVec 32 := Scalar.remui arg7_r0 c2_i32_104_r0
  ![v168_r0.toNat]
def k0_off24 (arg8_r0 : BitVec 32) : Fin 3 → Nat :=
  let c2_i32_85_r0 : BitVec 32 := 2#32
  let v132_r0 : BitVec 32 := Scalar.remui arg8_r0 c2_i32_85_r0
  let c0_i32_103_r2 : BitVec 32 := 0#32
  let c0_i32_104_r2 : BitVec 32 := 0#32
  ![v132_r0.toNat, 0, 0]

def k0_chk5 (i : grid0.Coords) (k0_t2 : Fin (k0_t2_loop i).trips) (arg8_r0 : BitVec 32) : Prop :=
  (∀ (k0_h1 : k0_cond1 i = 1#1), ∀ a, (k0_off24 arg8_r0) a + S1x128x128.size a ≤ S2x128x128.size a)
theorem k0_off24_inb : ∀ (i : grid0.Coords) (k0_t2 : Fin (k0_t2_loop i).trips) (arg8_r0 : BitVec 32) (k0_hw5 : k0_chk5 i k0_t2 arg8_r0), ∀ (k0_h1 : k0_cond1 i = 1#1), ∀ a, (k0_off24 arg8_r0) a + S1x128x128.size a ≤ S2x128x128.size a := fun i k0_t2 arg8_r0 k0_hw5 k0_h1 => k0_hw5 k0_h1

def k0_off25 (arg7_r0 : BitVec 32) : Fin 4 → Nat :=
  let c2_i32_84_r0 : BitVec 32 := 2#32
  let v131_r0 : BitVec 32 := Scalar.remui arg7_r0 c2_i32_84_r0
  let c0_i32_105_r2 : BitVec 32 := 0#32
  let c0_i32_106_r2 : BitVec 32 := 0#32
  let c0_i32_107_r2 : BitVec 32 := 0#32
  ![v131_r0.toNat, 0, 0, 0]

def k0_chk6 (i : grid0.Coords) (k0_t2 : Fin (k0_t2_loop i).trips) (arg7_r0 : BitVec 32) : Prop :=
  (∀ (k0_h1 : k0_cond1 i = 1#1), ∀ a, (k0_off25 arg7_r0) a + S1x1x1x128.size a ≤ S2x1x1x128.size a)
theorem k0_off25_inb : ∀ (i : grid0.Coords) (k0_t2 : Fin (k0_t2_loop i).trips) (arg7_r0 : BitVec 32) (k0_hw6 : k0_chk6 i k0_t2 arg7_r0), ∀ (k0_h1 : k0_cond1 i = 1#1), ∀ a, (k0_off25 arg7_r0) a + S1x1x1x128.size a ≤ S2x1x1x128.size a := fun i k0_t2 arg7_r0 k0_hw6 k0_h1 => k0_hw6 k0_h1

def k0_off26 (arg8_r0 : BitVec 32) : Fin 3 → Nat :=
  let c2_i32_103_r0 : BitVec 32 := 2#32
  let v167_r0 : BitVec 32 := Scalar.remui arg8_r0 c2_i32_103_r0
  let c0_i32_104_r0 : BitVec 32 := 0#32
  let c0_i32_105_r0 : BitVec 32 := 0#32
  ![v167_r0.toNat, 0, 0]
def k0_cond14 (i : grid0.Coords) (k0_t2 : Fin (k0_t2_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_1 : BitVec 32 := 16#32
  let v6 : BitVec 1 := Scalar.cmpi .slt v3 c16_i32_1
  let c16_i32_0 : BitVec 32 := 16#32
  let v4 : BitVec 1 := Scalar.cmpi .slt v3 c16_i32_0
  let c188_i32 : BitVec 32 := 188#32
  let c187_i32 : BitVec 32 := 187#32
  let v5 : BitVec 32 := Scalar.select v4 c188_i32 c187_i32
  let v7 : BitVec 32 := Scalar.muli v3 v5
  let c187_i32_2 : BitVec 32 := 187#32
  let v8 : BitVec 32 := Scalar.muli v3 c187_i32_2
  let c16_i32_3 : BitVec 32 := 16#32
  let v9 : BitVec 32 := Scalar.addi v8 c16_i32_3
  let v10 : BitVec 32 := Scalar.select v6 v7 v9
  let v84_r0 : BitVec 32 := Scalar.addi arg10_r0 v10
  let true_66_r0 : BitVec 1 := 1#1
  let c1_i32_65_r0 : BitVec 32 := 1#32
  let v91_r0 : BitVec 32 := Scalar.addi arg10_r0 c1_i32_65_r0
  let v92_r0 : BitVec 32 := Scalar.select true_66_r0 v91_r0 arg10_r0
  let v93_r0 : BitVec 1 := Scalar.cmpi .eq v92_r0 v5
  let c0_i32_67_r0 : BitVec 32 := 0#32
  let v94_r0 : BitVec 32 := Scalar.select v93_r0 c0_i32_67_r0 v92_r0
  let v95_r0 : BitVec 32 := Scalar.addi v94_r0 v10
  let v138_r0 : BitVec 1 := Scalar.cmpi .ne v84_r0 v95_r0
  let c0_i32_30_r0 : BitVec 32 := 0#32
  let c1_i32_4 : BitVec 32 := 1#32
  let v11 : BitVec 32 := Scalar.muli c1_i32_4 v5
  let v42_r0 : BitVec 32 := Scalar.subi v11 c0_i32_30_r0
  let c1_i32_35_r0 : BitVec 32 := 1#32
  let v44_r0 : BitVec 32 := Scalar.divsi v42_r0 c1_i32_35_r0
  let v45_r0 : BitVec 32 := Scalar.muli v44_r0 c1_i32_35_r0
  let v46_r0 : BitVec 32 := Scalar.addi c0_i32_30_r0 v45_r0
  let c1_i32_37_r0 : BitVec 32 := 1#32
  let arg5_r0 : BitVec 32 := Scf.iv v46_r0 c1_i32_37_r0 k0_t2
  let c1_i32_58_r0 : BitVec 32 := 1#32
  let v80_r0 : BitVec 32 := Scalar.muli c1_i32_58_r0 v5
  let c1_i32_60_r0 : BitVec 32 := 1#32
  let v82_r0 : BitVec 32 := Scalar.subi v80_r0 c1_i32_60_r0
  let v83_r0 : BitVec 1 := Scalar.cmpi .eq arg5_r0 v82_r0
  let v139_r0 : BitVec 1 := Scalar.ori v138_r0 v83_r0
  let v140_r0 : BitVec 32 := Scalar.extui v139_r0
  let c0_i32_89_r0 : BitVec 32 := 0#32
  let v141_r0 : BitVec 1 := Scalar.cmpi .ne v140_r0 c0_i32_89_r0
  v141_r0

def k0_off27 (i : grid0.Coords) (arg10_r0 : BitVec 32) : Fin 2 → Nat :=
  let c128_i32_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_1 : BitVec 32 := 16#32
  let v6 : BitVec 1 := Scalar.cmpi .slt v3 c16_i32_1
  let c16_i32_0 : BitVec 32 := 16#32
  let v4 : BitVec 1 := Scalar.cmpi .slt v3 c16_i32_0
  let c188_i32 : BitVec 32 := 188#32
  let c187_i32 : BitVec 32 := 187#32
  let v5 : BitVec 32 := Scalar.select v4 c188_i32 c187_i32
  let v7 : BitVec 32 := Scalar.muli v3 v5
  let c187_i32_2 : BitVec 32 := 187#32
  let v8 : BitVec 32 := Scalar.muli v3 c187_i32_2
  let c16_i32_3 : BitVec 32 := 16#32
  let v9 : BitVec 32 := Scalar.addi v8 c16_i32_3
  let v10 : BitVec 32 := Scalar.select v6 v7 v9
  let v84_r0 : BitVec 32 := Scalar.addi arg10_r0 v10
  let v168_r0 : BitVec 32 := Scalar.muli c128_i32_r0 v84_r0
  let c0_i32_106_r0 : BitVec 32 := 0#32
  ![v168_r0.toNat, 0]
def k0_off28 (arg8_r0 : BitVec 32) : Fin 1 → Nat :=
  let c2_i32_103_r0 : BitVec 32 := 2#32
  let v167_r0 : BitVec 32 := Scalar.remui arg8_r0 c2_i32_103_r0
  ![v167_r0.toNat]
def k0_off29 (arg9_r0 : BitVec 32) : Fin 3 → Nat :=
  let c2_i32_103_r0 : BitVec 32 := 2#32
  let v167_r0 : BitVec 32 := Scalar.remui arg9_r0 c2_i32_103_r0
  let c0_i32_104_r0 : BitVec 32 := 0#32
  let c0_i32_105_r0 : BitVec 32 := 0#32
  ![v167_r0.toNat, 0, 0]
def k0_cond16 (i : grid0.Coords) (k0_t2 : Fin (k0_t2_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_1 : BitVec 32 := 16#32
  let v6 : BitVec 1 := Scalar.cmpi .slt v3 c16_i32_1
  let c16_i32_0 : BitVec 32 := 16#32
  let v4 : BitVec 1 := Scalar.cmpi .slt v3 c16_i32_0
  let c188_i32 : BitVec 32 := 188#32
  let c187_i32 : BitVec 32 := 187#32
  let v5 : BitVec 32 := Scalar.select v4 c188_i32 c187_i32
  let v7 : BitVec 32 := Scalar.muli v3 v5
  let c187_i32_2 : BitVec 32 := 187#32
  let v8 : BitVec 32 := Scalar.muli v3 c187_i32_2
  let c16_i32_3 : BitVec 32 := 16#32
  let v9 : BitVec 32 := Scalar.addi v8 c16_i32_3
  let v10 : BitVec 32 := Scalar.select v6 v7 v9
  let v84_r0 : BitVec 32 := Scalar.addi arg10_r0 v10
  let true_62_r0 : BitVec 1 := 1#1
  let c1_i32_61_r0 : BitVec 32 := 1#32
  let v85_r0 : BitVec 32 := Scalar.subi arg10_r0 c1_i32_61_r0
  let v86_r0 : BitVec 32 := Scalar.select true_62_r0 v85_r0 arg10_r0
  let c_m1_i32_63_r0 : BitVec 32 := 4294967295#32
  let v87_r0 : BitVec 1 := Scalar.cmpi .eq v86_r0 c_m1_i32_63_r0
  let c1_i32_64_r0 : BitVec 32 := 1#32
  let v88_r0 : BitVec 32 := Scalar.subi v5 c1_i32_64_r0
  let v89_r0 : BitVec 32 := Scalar.select v87_r0 v88_r0 v86_r0
  let v90_r0 : BitVec 32 := Scalar.addi v89_r0 v10
  let v151_r0 : BitVec 1 := Scalar.cmpi .ne v84_r0 v90_r0
  let c0_i32_30_r0 : BitVec 32 := 0#32
  let c1_i32_4 : BitVec 32 := 1#32
  let v11 : BitVec 32 := Scalar.muli c1_i32_4 v5
  let v42_r0 : BitVec 32 := Scalar.subi v11 c0_i32_30_r0
  let c1_i32_35_r0 : BitVec 32 := 1#32
  let v44_r0 : BitVec 32 := Scalar.divsi v42_r0 c1_i32_35_r0
  let v45_r0 : BitVec 32 := Scalar.muli v44_r0 c1_i32_35_r0
  let v46_r0 : BitVec 32 := Scalar.addi c0_i32_30_r0 v45_r0
  let c1_i32_37_r0 : BitVec 32 := 1#32
  let arg5_r0 : BitVec 32 := Scf.iv v46_r0 c1_i32_37_r0 k0_t2
  let c0_i32_59_r0 : BitVec 32 := 0#32
  let v81_r0 : BitVec 1 := Scalar.cmpi .eq arg5_r0 c0_i32_59_r0
  let true_95_r0 : BitVec 1 := 1#1
  let v152_r0 : BitVec 1 := Scalar.xori v81_r0 true_95_r0
  let v153_r0 : BitVec 1 := Scalar.andi v151_r0 v152_r0
  let v154_r0 : BitVec 32 := Scalar.extui v153_r0
  let c0_i32_96_r0 : BitVec 32 := 0#32
  let v155_r0 : BitVec 1 := Scalar.cmpi .ne v154_r0 c0_i32_96_r0
  v155_r0

def k0_off30 (i : grid0.Coords) (arg10_r0 : BitVec 32) : Fin 2 → Nat :=
  let c128_i32_r0 : BitVec 32 := 128#32
  let true_62_r0 : BitVec 1 := 1#1
  let c1_i32_61_r0 : BitVec 32 := 1#32
  let v85_r0 : BitVec 32 := Scalar.subi arg10_r0 c1_i32_61_r0
  let v86_r0 : BitVec 32 := Scalar.select true_62_r0 v85_r0 arg10_r0
  let c_m1_i32_63_r0 : BitVec 32 := 4294967295#32
  let v87_r0 : BitVec 1 := Scalar.cmpi .eq v86_r0 c_m1_i32_63_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 1 := Scalar.cmpi .slt v3 c16_i32_0
  let c188_i32 : BitVec 32 := 188#32
  let c187_i32 : BitVec 32 := 187#32
  let v5 : BitVec 32 := Scalar.select v4 c188_i32 c187_i32
  let c1_i32_64_r0 : BitVec 32 := 1#32
  let v88_r0 : BitVec 32 := Scalar.subi v5 c1_i32_64_r0
  let v89_r0 : BitVec 32 := Scalar.select v87_r0 v88_r0 v86_r0
  let c16_i32_1 : BitVec 32 := 16#32
  let v6 : BitVec 1 := Scalar.cmpi .slt v3 c16_i32_1
  let v7 : BitVec 32 := Scalar.muli v3 v5
  let c187_i32_2 : BitVec 32 := 187#32
  let v8 : BitVec 32 := Scalar.muli v3 c187_i32_2
  let c16_i32_3 : BitVec 32 := 16#32
  let v9 : BitVec 32 := Scalar.addi v8 c16_i32_3
  let v10 : BitVec 32 := Scalar.select v6 v7 v9
  let v90_r0 : BitVec 32 := Scalar.addi v89_r0 v10
  let v168_r0 : BitVec 32 := Scalar.muli c128_i32_r0 v90_r0
  let c0_i32_106_r0 : BitVec 32 := 0#32
  ![v168_r0.toNat, 0]
def k0_off31 (arg9_r0 : BitVec 32) : Fin 1 → Nat :=
  let c2_i32_103_r0 : BitVec 32 := 2#32
  let v167_r0 : BitVec 32 := Scalar.remui arg9_r0 c2_i32_103_r0
  ![v167_r0.toNat]

def k0_chk4 (i : grid0.Coords) (k0_t2 : Fin (k0_t2_loop i).trips) (arg6_r0 : BitVec 32) (arg7_r0 : BitVec 32) (arg8_r0 : BitVec 32) (arg9_r0 : BitVec 32) (arg10_r0 : BitVec 32) : Prop :=
  (∀ (k0_h1 : k0_cond1 i = 1#1), ∀ (k0_h10 : k0_cond10 i k0_t2 arg10_r0 = 1#1), ∀ a, (k0_off18 arg6_r0) a + S1x1x1x128.size a ≤ S2x1x1x128.size a) ∧
  (∀ (k0_h1 : k0_cond1 i = 1#1), ∀ (k0_h10 : k0_cond10 i k0_t2 arg10_r0 = 1#1), ∀ a, (k0_off19 i arg10_r0) a + S1x1x128.size a ≤ S6000x1x128.size a) ∧
  (∀ (k0_h1 : k0_cond1 i = 1#1), ∀ (k0_h10 : k0_cond10 i k0_t2 arg10_r0 = 1#1), ∀ a, (k0_off20 arg6_r0) a + S1.size a ≤ S2.size a) ∧
  (∀ (k0_h1 : k0_cond1 i = 1#1), ∀ (k0_h11 : k0_cond11 i k0_t2 arg10_r0 = 1#1), ∀ a, (k0_off21 arg7_r0) a + S1x1x1x128.size a ≤ S2x1x1x128.size a) ∧
  (∀ (k0_h1 : k0_cond1 i = 1#1), ∀ (k0_h11 : k0_cond11 i k0_t2 arg10_r0 = 1#1), ∀ a, (k0_off22 i arg10_r0) a + S1x1x128.size a ≤ S6000x1x128.size a) ∧
  (∀ (k0_h1 : k0_cond1 i = 1#1), ∀ (k0_h11 : k0_cond11 i k0_t2 arg10_r0 = 1#1), ∀ a, (k0_off23 arg7_r0) a + S1.size a ≤ S2.size a) ∧
  (∀ (k0_h1 : k0_cond1 i = 1#1), ∀ (k0_h14 : k0_cond14 i k0_t2 arg10_r0 = 1#1), ∀ a, (k0_off26 arg8_r0) a + S1x128x128.size a ≤ S2x128x128.size a) ∧
  (∀ (k0_h1 : k0_cond1 i = 1#1), ∀ (k0_h14 : k0_cond14 i k0_t2 arg10_r0 = 1#1), ∀ a, (k0_off27 i arg10_r0) a + S128x128.size a ≤ S768000x128.size a) ∧
  (∀ (k0_h1 : k0_cond1 i = 1#1), ∀ (k0_h14 : k0_cond14 i k0_t2 arg10_r0 = 1#1), ∀ a, (k0_off28 arg8_r0) a + S1.size a ≤ S2.size a) ∧
  (∀ (k0_h1 : k0_cond1 i = 1#1), ∀ (k0_h16 : k0_cond16 i k0_t2 arg10_r0 = 1#1), ∀ a, (k0_off29 arg9_r0) a + S1x128x128.size a ≤ S2x128x128.size a) ∧
  (∀ (k0_h1 : k0_cond1 i = 1#1), ∀ (k0_h16 : k0_cond16 i k0_t2 arg10_r0 = 1#1), ∀ a, (k0_off30 i arg10_r0) a + S128x128.size a ≤ S768000x128.size a) ∧
  (∀ (k0_h1 : k0_cond1 i = 1#1), ∀ (k0_h16 : k0_cond16 i k0_t2 arg10_r0 = 1#1), ∀ a, (k0_off31 arg9_r0) a + S1.size a ≤ S2.size a)
theorem k0_off18_inb : ∀ (i : grid0.Coords) (k0_t2 : Fin (k0_t2_loop i).trips) (arg6_r0 : BitVec 32) (arg7_r0 : BitVec 32) (arg8_r0 : BitVec 32) (arg9_r0 : BitVec 32) (arg10_r0 : BitVec 32) (k0_hw4 : k0_chk4 i k0_t2 arg6_r0 arg7_r0 arg8_r0 arg9_r0 arg10_r0), ∀ (k0_h1 : k0_cond1 i = 1#1), ∀ (k0_h10 : k0_cond10 i k0_t2 arg10_r0 = 1#1), ∀ a, (k0_off18 arg6_r0) a + S1x1x1x128.size a ≤ S2x1x1x128.size a := fun i k0_t2 arg6_r0 arg7_r0 arg8_r0 arg9_r0 arg10_r0 k0_hw4 k0_h1 k0_h10 => k0_hw4.1 k0_h1 k0_h10
theorem k0_off19_inb : ∀ (i : grid0.Coords) (k0_t2 : Fin (k0_t2_loop i).trips) (arg6_r0 : BitVec 32) (arg7_r0 : BitVec 32) (arg8_r0 : BitVec 32) (arg9_r0 : BitVec 32) (arg10_r0 : BitVec 32) (k0_hw4 : k0_chk4 i k0_t2 arg6_r0 arg7_r0 arg8_r0 arg9_r0 arg10_r0), ∀ (k0_h1 : k0_cond1 i = 1#1), ∀ (k0_h10 : k0_cond10 i k0_t2 arg10_r0 = 1#1), ∀ a, (k0_off19 i arg10_r0) a + S1x1x128.size a ≤ S6000x1x128.size a := fun i k0_t2 arg6_r0 arg7_r0 arg8_r0 arg9_r0 arg10_r0 k0_hw4 k0_h1 k0_h10 => k0_hw4.2.1 k0_h1 k0_h10
theorem k0_off20_inb : ∀ (i : grid0.Coords) (k0_t2 : Fin (k0_t2_loop i).trips) (arg6_r0 : BitVec 32) (arg7_r0 : BitVec 32) (arg8_r0 : BitVec 32) (arg9_r0 : BitVec 32) (arg10_r0 : BitVec 32) (k0_hw4 : k0_chk4 i k0_t2 arg6_r0 arg7_r0 arg8_r0 arg9_r0 arg10_r0), ∀ (k0_h1 : k0_cond1 i = 1#1), ∀ (k0_h10 : k0_cond10 i k0_t2 arg10_r0 = 1#1), ∀ a, (k0_off20 arg6_r0) a + S1.size a ≤ S2.size a := fun i k0_t2 arg6_r0 arg7_r0 arg8_r0 arg9_r0 arg10_r0 k0_hw4 k0_h1 k0_h10 => k0_hw4.2.2.1 k0_h1 k0_h10
theorem k0_off21_inb : ∀ (i : grid0.Coords) (k0_t2 : Fin (k0_t2_loop i).trips) (arg6_r0 : BitVec 32) (arg7_r0 : BitVec 32) (arg8_r0 : BitVec 32) (arg9_r0 : BitVec 32) (arg10_r0 : BitVec 32) (k0_hw4 : k0_chk4 i k0_t2 arg6_r0 arg7_r0 arg8_r0 arg9_r0 arg10_r0), ∀ (k0_h1 : k0_cond1 i = 1#1), ∀ (k0_h11 : k0_cond11 i k0_t2 arg10_r0 = 1#1), ∀ a, (k0_off21 arg7_r0) a + S1x1x1x128.size a ≤ S2x1x1x128.size a := fun i k0_t2 arg6_r0 arg7_r0 arg8_r0 arg9_r0 arg10_r0 k0_hw4 k0_h1 k0_h11 => k0_hw4.2.2.2.1 k0_h1 k0_h11
theorem k0_off22_inb : ∀ (i : grid0.Coords) (k0_t2 : Fin (k0_t2_loop i).trips) (arg6_r0 : BitVec 32) (arg7_r0 : BitVec 32) (arg8_r0 : BitVec 32) (arg9_r0 : BitVec 32) (arg10_r0 : BitVec 32) (k0_hw4 : k0_chk4 i k0_t2 arg6_r0 arg7_r0 arg8_r0 arg9_r0 arg10_r0), ∀ (k0_h1 : k0_cond1 i = 1#1), ∀ (k0_h11 : k0_cond11 i k0_t2 arg10_r0 = 1#1), ∀ a, (k0_off22 i arg10_r0) a + S1x1x128.size a ≤ S6000x1x128.size a := fun i k0_t2 arg6_r0 arg7_r0 arg8_r0 arg9_r0 arg10_r0 k0_hw4 k0_h1 k0_h11 => k0_hw4.2.2.2.2.1 k0_h1 k0_h11
theorem k0_off23_inb : ∀ (i : grid0.Coords) (k0_t2 : Fin (k0_t2_loop i).trips) (arg6_r0 : BitVec 32) (arg7_r0 : BitVec 32) (arg8_r0 : BitVec 32) (arg9_r0 : BitVec 32) (arg10_r0 : BitVec 32) (k0_hw4 : k0_chk4 i k0_t2 arg6_r0 arg7_r0 arg8_r0 arg9_r0 arg10_r0), ∀ (k0_h1 : k0_cond1 i = 1#1), ∀ (k0_h11 : k0_cond11 i k0_t2 arg10_r0 = 1#1), ∀ a, (k0_off23 arg7_r0) a + S1.size a ≤ S2.size a := fun i k0_t2 arg6_r0 arg7_r0 arg8_r0 arg9_r0 arg10_r0 k0_hw4 k0_h1 k0_h11 => k0_hw4.2.2.2.2.2.1 k0_h1 k0_h11
theorem k0_off26_inb : ∀ (i : grid0.Coords) (k0_t2 : Fin (k0_t2_loop i).trips) (arg6_r0 : BitVec 32) (arg7_r0 : BitVec 32) (arg8_r0 : BitVec 32) (arg9_r0 : BitVec 32) (arg10_r0 : BitVec 32) (k0_hw4 : k0_chk4 i k0_t2 arg6_r0 arg7_r0 arg8_r0 arg9_r0 arg10_r0), ∀ (k0_h1 : k0_cond1 i = 1#1), ∀ (k0_h14 : k0_cond14 i k0_t2 arg10_r0 = 1#1), ∀ a, (k0_off26 arg8_r0) a + S1x128x128.size a ≤ S2x128x128.size a := fun i k0_t2 arg6_r0 arg7_r0 arg8_r0 arg9_r0 arg10_r0 k0_hw4 k0_h1 k0_h14 => k0_hw4.2.2.2.2.2.2.1 k0_h1 k0_h14
theorem k0_off27_inb : ∀ (i : grid0.Coords) (k0_t2 : Fin (k0_t2_loop i).trips) (arg6_r0 : BitVec 32) (arg7_r0 : BitVec 32) (arg8_r0 : BitVec 32) (arg9_r0 : BitVec 32) (arg10_r0 : BitVec 32) (k0_hw4 : k0_chk4 i k0_t2 arg6_r0 arg7_r0 arg8_r0 arg9_r0 arg10_r0), ∀ (k0_h1 : k0_cond1 i = 1#1), ∀ (k0_h14 : k0_cond14 i k0_t2 arg10_r0 = 1#1), ∀ a, (k0_off27 i arg10_r0) a + S128x128.size a ≤ S768000x128.size a := fun i k0_t2 arg6_r0 arg7_r0 arg8_r0 arg9_r0 arg10_r0 k0_hw4 k0_h1 k0_h14 => k0_hw4.2.2.2.2.2.2.2.1 k0_h1 k0_h14
theorem k0_off28_inb : ∀ (i : grid0.Coords) (k0_t2 : Fin (k0_t2_loop i).trips) (arg6_r0 : BitVec 32) (arg7_r0 : BitVec 32) (arg8_r0 : BitVec 32) (arg9_r0 : BitVec 32) (arg10_r0 : BitVec 32) (k0_hw4 : k0_chk4 i k0_t2 arg6_r0 arg7_r0 arg8_r0 arg9_r0 arg10_r0), ∀ (k0_h1 : k0_cond1 i = 1#1), ∀ (k0_h14 : k0_cond14 i k0_t2 arg10_r0 = 1#1), ∀ a, (k0_off28 arg8_r0) a + S1.size a ≤ S2.size a := fun i k0_t2 arg6_r0 arg7_r0 arg8_r0 arg9_r0 arg10_r0 k0_hw4 k0_h1 k0_h14 => k0_hw4.2.2.2.2.2.2.2.2.1 k0_h1 k0_h14
theorem k0_off29_inb : ∀ (i : grid0.Coords) (k0_t2 : Fin (k0_t2_loop i).trips) (arg6_r0 : BitVec 32) (arg7_r0 : BitVec 32) (arg8_r0 : BitVec 32) (arg9_r0 : BitVec 32) (arg10_r0 : BitVec 32) (k0_hw4 : k0_chk4 i k0_t2 arg6_r0 arg7_r0 arg8_r0 arg9_r0 arg10_r0), ∀ (k0_h1 : k0_cond1 i = 1#1), ∀ (k0_h16 : k0_cond16 i k0_t2 arg10_r0 = 1#1), ∀ a, (k0_off29 arg9_r0) a + S1x128x128.size a ≤ S2x128x128.size a := fun i k0_t2 arg6_r0 arg7_r0 arg8_r0 arg9_r0 arg10_r0 k0_hw4 k0_h1 k0_h16 => k0_hw4.2.2.2.2.2.2.2.2.2.1 k0_h1 k0_h16
theorem k0_off30_inb : ∀ (i : grid0.Coords) (k0_t2 : Fin (k0_t2_loop i).trips) (arg6_r0 : BitVec 32) (arg7_r0 : BitVec 32) (arg8_r0 : BitVec 32) (arg9_r0 : BitVec 32) (arg10_r0 : BitVec 32) (k0_hw4 : k0_chk4 i k0_t2 arg6_r0 arg7_r0 arg8_r0 arg9_r0 arg10_r0), ∀ (k0_h1 : k0_cond1 i = 1#1), ∀ (k0_h16 : k0_cond16 i k0_t2 arg10_r0 = 1#1), ∀ a, (k0_off30 i arg10_r0) a + S128x128.size a ≤ S768000x128.size a := fun i k0_t2 arg6_r0 arg7_r0 arg8_r0 arg9_r0 arg10_r0 k0_hw4 k0_h1 k0_h16 => k0_hw4.2.2.2.2.2.2.2.2.2.2.1 k0_h1 k0_h16
theorem k0_off31_inb : ∀ (i : grid0.Coords) (k0_t2 : Fin (k0_t2_loop i).trips) (arg6_r0 : BitVec 32) (arg7_r0 : BitVec 32) (arg8_r0 : BitVec 32) (arg9_r0 : BitVec 32) (arg10_r0 : BitVec 32) (k0_hw4 : k0_chk4 i k0_t2 arg6_r0 arg7_r0 arg8_r0 arg9_r0 arg10_r0), ∀ (k0_h1 : k0_cond1 i = 1#1), ∀ (k0_h16 : k0_cond16 i k0_t2 arg10_r0 = 1#1), ∀ a, (k0_off31 arg9_r0) a + S1.size a ≤ S2.size a := fun i k0_t2 arg6_r0 arg7_r0 arg8_r0 arg9_r0 arg10_r0 k0_hw4 k0_h1 k0_h16 => k0_hw4.2.2.2.2.2.2.2.2.2.2.2 k0_h1 k0_h16

def k0_cond18 (i : grid0.Coords) : BitVec 1 :=
  let c1_i32_4 : BitVec 32 := 1#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 1 := Scalar.cmpi .slt v3 c16_i32_0
  let c188_i32 : BitVec 32 := 188#32
  let c187_i32 : BitVec 32 := 187#32
  let v5 : BitVec 32 := Scalar.select v4 c188_i32 c187_i32
  let v11 : BitVec 32 := Scalar.muli c1_i32_4 v5
  let c1_i32_42_r0 : BitVec 32 := 1#32
  let v54_r0 : BitVec 32 := Scalar.subi v11 c1_i32_42_r0
  let c1_i32_43_r0 : BitVec 32 := 1#32
  let v55_r0 : BitVec 32 := Scalar.muli c1_i32_43_r0 v5
  let c1_i32_45_r0 : BitVec 32 := 1#32
  let v57_r0 : BitVec 32 := Scalar.subi v55_r0 c1_i32_45_r0
  let v58_r0 : BitVec 1 := Scalar.cmpi .eq v54_r0 v57_r0
  let v78_r0 : BitVec 32 := Scalar.extui v58_r0
  let c0_i32_57_r0 : BitVec 32 := 0#32
  let v79_r0 : BitVec 1 := Scalar.cmpi .ne v78_r0 c0_i32_57_r0
  v79_r0

def k0_off32 (v48_3_r0 : BitVec 32) : Fin 3 → Nat :=
  let c2_i32_r0 : BitVec 32 := 2#32
  let v80_r0 : BitVec 32 := Scalar.remui v48_3_r0 c2_i32_r0
  let c0_i32_58_r0 : BitVec 32 := 0#32
  let c0_i32_59_r0 : BitVec 32 := 0#32
  ![v80_r0.toNat, 0, 0]

def k0_off33 (i : grid0.Coords) (v48_4_r0 : BitVec 32) : Fin 2 → Nat :=
  let c128_i32_r0 : BitVec 32 := 128#32
  let true_39_r0 : BitVec 1 := 1#1
  let c1_i32_38_r0 : BitVec 32 := 1#32
  let v49_r0 : BitVec 32 := Scalar.subi v48_4_r0 c1_i32_38_r0
  let v50_r0 : BitVec 32 := Scalar.select true_39_r0 v49_r0 v48_4_r0
  let c_m1_i32_40_r0 : BitVec 32 := 4294967295#32
  let v51_r0 : BitVec 1 := Scalar.cmpi .eq v50_r0 c_m1_i32_40_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 1 := Scalar.cmpi .slt v3 c16_i32_0
  let c188_i32 : BitVec 32 := 188#32
  let c187_i32 : BitVec 32 := 187#32
  let v5 : BitVec 32 := Scalar.select v4 c188_i32 c187_i32
  let c1_i32_41_r0 : BitVec 32 := 1#32
  let v52_r0 : BitVec 32 := Scalar.subi v5 c1_i32_41_r0
  let v53_r0 : BitVec 32 := Scalar.select v51_r0 v52_r0 v50_r0
  let c16_i32_1 : BitVec 32 := 16#32
  let v6 : BitVec 1 := Scalar.cmpi .slt v3 c16_i32_1
  let v7 : BitVec 32 := Scalar.muli v3 v5
  let c187_i32_2 : BitVec 32 := 187#32
  let v8 : BitVec 32 := Scalar.muli v3 c187_i32_2
  let c16_i32_3 : BitVec 32 := 16#32
  let v9 : BitVec 32 := Scalar.addi v8 c16_i32_3
  let v10 : BitVec 32 := Scalar.select v6 v7 v9
  let v59_r0 : BitVec 32 := Scalar.addi v53_r0 v10
  let v81_r0 : BitVec 32 := Scalar.muli c128_i32_r0 v59_r0
  let c0_i32_60_r0 : BitVec 32 := 0#32
  ![v81_r0.toNat, 0]

def k0_chk8 (i : grid0.Coords) (v48_4_r0 : BitVec 32) : Prop :=
  (∀ (k0_h1 : k0_cond1 i = 1#1), ∀ (k0_h18 : k0_cond18 i = 1#1), ∀ a, (k0_off33 i v48_4_r0) a + S128x128.size a ≤ S768000x128.size a)
theorem k0_off33_inb : ∀ (i : grid0.Coords) (v48_4_r0 : BitVec 32) (k0_hw8 : k0_chk8 i v48_4_r0), ∀ (k0_h1 : k0_cond1 i = 1#1), ∀ (k0_h18 : k0_cond18 i = 1#1), ∀ a, (k0_off33 i v48_4_r0) a + S128x128.size a ≤ S768000x128.size a := fun i v48_4_r0 k0_hw8 k0_h1 k0_h18 => k0_hw8 k0_h1 k0_h18

def k0_off34 (v48_3_r0 : BitVec 32) : Fin 1 → Nat :=
  let c2_i32_r0 : BitVec 32 := 2#32
  let v80_r0 : BitVec 32 := Scalar.remui v48_3_r0 c2_i32_r0
  ![v80_r0.toNat]
def k0_off35 (v48_3_r0 : BitVec 32) : Fin 3 → Nat :=
  let c2_i32_r0 : BitVec 32 := 2#32
  let v80_r0 : BitVec 32 := Scalar.remui v48_3_r0 c2_i32_r0
  let c0_i32_62_r0 : BitVec 32 := 0#32
  let c0_i32_63_r0 : BitVec 32 := 0#32
  ![v80_r0.toNat, 0, 0]

def k0_chk7 (i : grid0.Coords) (v48_3_r0 : BitVec 32) : Prop :=
  (∀ (k0_h1 : k0_cond1 i = 1#1), ∀ (k0_h18 : k0_cond18 i = 1#1), ∀ a, (k0_off32 v48_3_r0) a + S1x128x128.size a ≤ S2x128x128.size a) ∧
  (∀ (k0_h1 : k0_cond1 i = 1#1), ∀ (k0_h18 : k0_cond18 i = 1#1), ∀ a, (k0_off34 v48_3_r0) a + S1.size a ≤ S2.size a) ∧
  (∀ (k0_h1 : k0_cond1 i = 1#1), ∀ (k0_h18 : k0_cond18 i = 1#1), ∀ a, (k0_off35 v48_3_r0) a + S1x128x128.size a ≤ S2x128x128.size a)
theorem k0_off32_inb : ∀ (i : grid0.Coords) (v48_3_r0 : BitVec 32) (k0_hw7 : k0_chk7 i v48_3_r0), ∀ (k0_h1 : k0_cond1 i = 1#1), ∀ (k0_h18 : k0_cond18 i = 1#1), ∀ a, (k0_off32 v48_3_r0) a + S1x128x128.size a ≤ S2x128x128.size a := fun i v48_3_r0 k0_hw7 k0_h1 k0_h18 => k0_hw7.1 k0_h1 k0_h18
theorem k0_off34_inb : ∀ (i : grid0.Coords) (v48_3_r0 : BitVec 32) (k0_hw7 : k0_chk7 i v48_3_r0), ∀ (k0_h1 : k0_cond1 i = 1#1), ∀ (k0_h18 : k0_cond18 i = 1#1), ∀ a, (k0_off34 v48_3_r0) a + S1.size a ≤ S2.size a := fun i v48_3_r0 k0_hw7 k0_h1 k0_h18 => k0_hw7.2.1 k0_h1 k0_h18
theorem k0_off35_inb : ∀ (i : grid0.Coords) (v48_3_r0 : BitVec 32) (k0_hw7 : k0_chk7 i v48_3_r0), ∀ (k0_h1 : k0_cond1 i = 1#1), ∀ (k0_h18 : k0_cond18 i = 1#1), ∀ a, (k0_off35 v48_3_r0) a + S1x128x128.size a ≤ S2x128x128.size a := fun i v48_3_r0 k0_hw7 k0_h1 k0_h18 => k0_hw7.2.2 k0_h1 k0_h18

abbrev grid1 : Pipeline.Grid := ⟨1, ![48], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 3 → Nat :=
  let arg0 : BitVec 32 := BitVec.ofNat 32 (i 0).val
  let c12_i32 : BitVec 32 := 12#32
  let c0_i32 : BitVec 32 := 0#32
  let v0 : BitVec 1 := Scalar.cmpi .eq c12_i32 c0_i32
  let c1_i32 : BitVec 32 := 1#32
  let v1 : BitVec 32 := Scalar.select v0 c1_i32 c12_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c10_i32 : BitVec 32 := 10#32
  let v10 : BitVec 1 := Scalar.cmpi .slt v9 c10_i32
  let c0_i32_3 : BitVec 32 := 0#32
  let c1_i32_4 : BitVec 32 := 1#32
  let v11 : BitVec 32 := Scalar.select v10 c0_i32_3 c1_i32_4
  let c0_i32_5 : BitVec 32 := 0#32
  let c0_i32_6 : BitVec 32 := 0#32
  let c0_i32_7 : BitVec 32 := 0#32
  ![v11.toNat, c0_i32_5.toNat, c0_i32_6.toNat]

def cc1_transform_2 (i : grid1.Coords) : Fin 3 → Nat :=
  let arg0 : BitVec 32 := BitVec.ofNat 32 (i 0).val
  let c12_i32 : BitVec 32 := 12#32
  let c0_i32 : BitVec 32 := 0#32
  let v0 : BitVec 1 := Scalar.cmpi .eq c12_i32 c0_i32
  let c1_i32 : BitVec 32 := 1#32
  let v1 : BitVec 32 := Scalar.select v0 c1_i32 c12_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c10_i32 : BitVec 32 := 10#32
  let v10 : BitVec 1 := Scalar.cmpi .slt v9 c10_i32
  let c0_i32_3 : BitVec 32 := 0#32
  let c1_i32_4 : BitVec 32 := 1#32
  let v11 : BitVec 32 := Scalar.select v10 c0_i32_3 c1_i32_4
  let c0_i32_5 : BitVec 32 := 0#32
  let c0_i32_6 : BitVec 32 := 0#32
  let c0_i32_7 : BitVec 32 := 0#32
  ![v11.toNat, c0_i32_5.toNat, c0_i32_6.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x2048x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x1x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S4x12000x128 : Shape := ⟨3, ![4, 12000, 128]⟩
abbrev S10000x16 : Shape := ⟨2, ![10000, 16]⟩
abbrev S2000x16 : Shape := ⟨2, ![2000, 16]⟩
abbrev S128x2048 : Shape := ⟨2, ![128, 2048]⟩
abbrev S128 : Shape := ⟨1, ![128]⟩
abbrev S4x10000x128 : Shape := ⟨3, ![4, 10000, 128]⟩
abbrev S4x2000x128 : Shape := ⟨3, ![4, 2000, 128]⟩
abbrev S_ : Shape := ⟨0, ![]⟩
abbrev S4x8000x128 : Shape := ⟨3, ![4, 8000, 128]⟩
abbrev S4x20000x128 : Shape := ⟨3, ![4, 20000, 128]⟩
abbrev S160000 : Shape := ⟨1, ![160000]⟩
abbrev S160000x1 : Shape := ⟨2, ![160000, 1]⟩
abbrev S1 : Shape := ⟨1, ![1]⟩
abbrev S1x1 : Shape := ⟨2, ![1, 1]⟩
abbrev S4x160000x128 : Shape := ⟨3, ![4, 160000, 128]⟩
abbrev S4x10000x2048 : Shape := ⟨3, ![4, 10000, 2048]⟩
abbrev S2048x128 : Shape := ⟨2, ![2048, 128]⟩
abbrev S1x1x128 : Shape := ⟨3, ![1, 1, 128]⟩
abbrev S32000 : Shape := ⟨1, ![32000]⟩
abbrev S32000x1 : Shape := ⟨2, ![32000, 1]⟩
abbrev S4x32000x128 : Shape := ⟨3, ![4, 32000, 128]⟩
abbrev S4x2000x2048 : Shape := ⟨3, ![4, 2000, 2048]⟩

abbrev nBuf : Space → Nat
  | .hbm => 73
  | .vmem => 0
  | .smem => 0
  | _ => 0

abbrev bufTy : (tb : Table) → Fin (tcTables nBuf tb) → BufTy
  | .hbm, ⟨0, _⟩ => ⟨S4x12000x128, .f32⟩
  | .hbm, ⟨1, _⟩ => ⟨S10000x16, .i32⟩
  | .hbm, ⟨2, _⟩ => ⟨S2000x16, .i32⟩
  | .hbm, ⟨3, _⟩ => ⟨S128x2048, .f32⟩
  | .hbm, ⟨4, _⟩ => ⟨S128, .f32⟩
  | .hbm, ⟨5, _⟩ => ⟨S128x2048, .f32⟩
  | .hbm, ⟨6, _⟩ => ⟨S128, .f32⟩
  | .hbm, ⟨7, _⟩ => ⟨S4x10000x128, .f32⟩
  | .hbm, ⟨8, _⟩ => ⟨S4x2000x128, .f32⟩
  | .hbm, ⟨9, _⟩ => ⟨S_, .f32⟩
  | .hbm, ⟨10, _⟩ => ⟨S4x8000x128, .f32⟩
  | .hbm, ⟨11, _⟩ => ⟨S4x20000x128, .f32⟩
  | .hbm, ⟨12, _⟩ => ⟨S160000, .i32⟩
  | .hbm, ⟨13, _⟩ => ⟨S_, .i32⟩
  | .hbm, ⟨14, _⟩ => ⟨S160000, .i32⟩
  | .hbm, ⟨15, _⟩ => ⟨S160000, .i1⟩
  | .hbm, ⟨16, _⟩ => ⟨S_, .i32⟩
  | .hbm, ⟨17, _⟩ => ⟨S160000, .i32⟩
  | .hbm, ⟨18, _⟩ => ⟨S160000, .i32⟩
  | .hbm, ⟨19, _⟩ => ⟨S160000, .i32⟩
  | .hbm, ⟨20, _⟩ => ⟨S160000x1, .i32⟩
  | .hbm, ⟨21, _⟩ => ⟨S1, .i32⟩
  | .hbm, ⟨22, _⟩ => ⟨S_, .i32⟩
  | .hbm, ⟨23, _⟩ => ⟨S160000x1, .i32⟩
  | .hbm, ⟨24, _⟩ => ⟨S160000x1, .i1⟩
  | .hbm, ⟨25, _⟩ => ⟨S1x1, .i32⟩
  | .hbm, ⟨26, _⟩ => ⟨S160000x1, .i32⟩
  | .hbm, ⟨27, _⟩ => ⟨S160000x1, .i1⟩
  | .hbm, ⟨28, _⟩ => ⟨S160000x1, .i1⟩
  | .hbm, ⟨29, _⟩ => ⟨S_, .i1⟩
  | .hbm, ⟨30, _⟩ => ⟨S160000, .i1⟩
  | .hbm, ⟨31, _⟩ => ⟨S4x160000x128, .f32⟩
  | .hbm, ⟨32, _⟩ => ⟨S4x160000x128, .i1⟩
  | .hbm, ⟨33, _⟩ => ⟨S_, .f32⟩
  | .hbm, ⟨34, _⟩ => ⟨S4x160000x128, .f32⟩
  | .hbm, ⟨35, _⟩ => ⟨S4x160000x128, .f32⟩
  | .hbm, ⟨36, _⟩ => ⟨S4x10000x2048, .f32⟩
  | .hbm, ⟨37, _⟩ => ⟨S2048x128, .f32⟩
  | .hbm, ⟨38, _⟩ => ⟨S4x10000x128, .f32⟩
  | .hbm, ⟨39, _⟩ => ⟨S1x1x128, .f32⟩
  | .hbm, ⟨40, _⟩ => ⟨S4x10000x128, .f32⟩
  | .hbm, ⟨41, _⟩ => ⟨S4x10000x128, .f32⟩
  | .hbm, ⟨42, _⟩ => ⟨S32000, .i32⟩
  | .hbm, ⟨43, _⟩ => ⟨S_, .i32⟩
  | .hbm, ⟨44, _⟩ => ⟨S32000, .i32⟩
  | .hbm, ⟨45, _⟩ => ⟨S32000, .i1⟩
  | .hbm, ⟨46, _⟩ => ⟨S_, .i32⟩
  | .hbm, ⟨47, _⟩ => ⟨S32000, .i32⟩
  | .hbm, ⟨48, _⟩ => ⟨S32000, .i32⟩
  | .hbm, ⟨49, _⟩ => ⟨S32000, .i32⟩
  | .hbm, ⟨50, _⟩ => ⟨S32000x1, .i32⟩
  | .hbm, ⟨51, _⟩ => ⟨S1, .i32⟩
  | .hbm, ⟨52, _⟩ => ⟨S_, .i32⟩
  | .hbm, ⟨53, _⟩ => ⟨S32000x1, .i32⟩
  | .hbm, ⟨54, _⟩ => ⟨S32000x1, .i1⟩
  | .hbm, ⟨55, _⟩ => ⟨S1x1, .i32⟩
  | .hbm, ⟨56, _⟩ => ⟨S32000x1, .i32⟩
  | .hbm, ⟨57, _⟩ => ⟨S32000x1, .i1⟩
  | .hbm, ⟨58, _⟩ => ⟨S32000x1, .i1⟩
  | .hbm, ⟨59, _⟩ => ⟨S_, .i1⟩
  | .hbm, ⟨60, _⟩ => ⟨S32000, .i1⟩
  | .hbm, ⟨61, _⟩ => ⟨S4x32000x128, .f32⟩
  | .hbm, ⟨62, _⟩ => ⟨S4x32000x128, .i1⟩
  | .hbm, ⟨63, _⟩ => ⟨S_, .f32⟩
  | .hbm, ⟨64, _⟩ => ⟨S4x32000x128, .f32⟩
  | .hbm, ⟨65, _⟩ => ⟨S4x32000x128, .f32⟩
  | .hbm, ⟨66, _⟩ => ⟨S4x2000x2048, .f32⟩
  | .hbm, ⟨67, _⟩ => ⟨S2048x128, .f32⟩
  | .hbm, ⟨68, _⟩ => ⟨S4x2000x128, .f32⟩
  | .hbm, ⟨69, _⟩ => ⟨S1x1x128, .f32⟩
  | .hbm, ⟨70, _⟩ => ⟨S4x2000x128, .f32⟩
  | .hbm, ⟨71, _⟩ => ⟨S4x2000x128, .f32⟩
  | .hbm, ⟨72, _⟩ => ⟨S4x12000x128, .f32⟩
  | _, _ => ⟨S4x12000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_call0_c : Ref sig .tc := ⟨.hbm, 13, rfl⟩
abbrev main_call0_v0 : Ref sig .tc := ⟨.hbm, 14, rfl⟩
abbrev main_call0_v1 : Ref sig .tc := ⟨.hbm, 15, rfl⟩
abbrev main_call0_c_0 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_c_1 : Ref sig .tc := ⟨.hbm, 21, rfl⟩
abbrev main_call0_c_2 : Ref sig .tc := ⟨.hbm, 22, rfl⟩
abbrev main_call0_v6 : Ref sig .tc := ⟨.hbm, 23, rfl⟩
abbrev main_call0_v7 : Ref sig .tc := ⟨.hbm, 24, rfl⟩
abbrev main_call0_v8 : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_c_3 : Ref sig .tc := ⟨.hbm, 29, rfl⟩
abbrev main_call0_v12 : Ref sig .tc := ⟨.hbm, 30, rfl⟩
abbrev main_call0_v13 : Ref sig .tc := ⟨.hbm, 31, rfl⟩
abbrev main_call0_v14 : Ref sig .tc := ⟨.hbm, 32, rfl⟩
abbrev main_call0_cst : Ref sig .tc := ⟨.hbm, 33, rfl⟩
abbrev main_call0_v15 : Ref sig .tc := ⟨.hbm, 34, rfl⟩
abbrev main_v5 : Ref sig .tc := ⟨.hbm, 35, rfl⟩
abbrev main_v6 : Ref sig .tc := ⟨.hbm, 36, rfl⟩
abbrev main_v7 : Ref sig .tc := ⟨.hbm, 37, rfl⟩
abbrev main_v8 : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_call1_c : Ref sig .tc := ⟨.hbm, 43, rfl⟩
abbrev main_call1_v0 : Ref sig .tc := ⟨.hbm, 44, rfl⟩
abbrev main_call1_v1 : Ref sig .tc := ⟨.hbm, 45, rfl⟩
abbrev main_call1_c_0 : Ref sig .tc := ⟨.hbm, 46, rfl⟩
abbrev main_call1_v2 : Ref sig .tc := ⟨.hbm, 47, rfl⟩
abbrev main_call1_v3 : Ref sig .tc := ⟨.hbm, 48, rfl⟩
abbrev main_call1_v4 : Ref sig .tc := ⟨.hbm, 49, rfl⟩
abbrev main_call1_v5 : Ref sig .tc := ⟨.hbm, 50, rfl⟩
abbrev main_call1_c_1 : Ref sig .tc := ⟨.hbm, 51, rfl⟩
abbrev main_call1_c_2 : Ref sig .tc := ⟨.hbm, 52, rfl⟩
abbrev main_call1_v6 : Ref sig .tc := ⟨.hbm, 53, rfl⟩
abbrev main_call1_v7 : Ref sig .tc := ⟨.hbm, 54, rfl⟩
abbrev main_call1_v8 : Ref sig .tc := ⟨.hbm, 55, rfl⟩
abbrev main_call1_v9 : Ref sig .tc := ⟨.hbm, 56, rfl⟩
abbrev main_call1_v10 : Ref sig .tc := ⟨.hbm, 57, rfl⟩
abbrev main_call1_v11 : Ref sig .tc := ⟨.hbm, 58, rfl⟩
abbrev main_call1_c_3 : Ref sig .tc := ⟨.hbm, 59, rfl⟩
abbrev main_call1_v12 : Ref sig .tc := ⟨.hbm, 60, rfl⟩
abbrev main_call1_v13 : Ref sig .tc := ⟨.hbm, 61, rfl⟩
abbrev main_call1_v14 : Ref sig .tc := ⟨.hbm, 62, rfl⟩
abbrev main_call1_cst : Ref sig .tc := ⟨.hbm, 63, rfl⟩
abbrev main_call1_v15 : Ref sig .tc := ⟨.hbm, 64, rfl⟩
abbrev main_v13 : Ref sig .tc := ⟨.hbm, 65, rfl⟩
abbrev main_v14 : Ref sig .tc := ⟨.hbm, 66, rfl⟩
abbrev main_v15 : Ref sig .tc := ⟨.hbm, 67, rfl⟩
abbrev main_v16 : Ref sig .tc := ⟨.hbm, 68, rfl⟩
abbrev main_v17 : Ref sig .tc := ⟨.hbm, 69, rfl⟩
abbrev main_v18 : Ref sig .tc := ⟨.hbm, 70, rfl⟩
abbrev main_v19 : Ref sig .tc := ⟨.hbm, 71, rfl⟩
abbrev main_v20 : Ref sig .tc := ⟨.hbm, 72, rfl⟩

abbrev nD : Nat := 1
abbrev τ : Topo := Topo.v7x

variable {F : FTy → Type} [FloatOps F]
-- ==== Proof.Words.lean ====
/-
  The words of the SparseCore kernel: every offset, branch condition and side condition that the gather's body computes
  from its tile and its trip, in closed form. Tile `(c, s)` of the 2 × 16 grid handles `n` consecutive blocks of 128 rows,
  from block `base` on: 188 blocks each on SparseCore 0, 187 each on SparseCore 1, 6000 in total. Trip `t` of its loop
  gathers block `base + t` through slot `t % 2` of the two-slot buffers.
-/
module

public import proofs.«01_k».proof.Proof.Gen.KernelIdeal.Skeleton

@[expose] public section

set_option maxRecDepth 16384

noncomputable section

namespace Cert.Proof.Words

open Idealize.ShloMosaic Cert.KernelIdeal

/-- The grid coordinates of tile `s` of SparseCore `c`. -/
def coordsV (c : Fin (grid0.bound 0)) (s : Fin (grid0.bound 1)) : grid0.Coords :=
  fun | 0 => c | 1 => s | ⟨_ + 2, h⟩ => absurd h (Nat.not_lt.2 (Nat.le_add_left _ _))

/-- How many blocks tile `(c, s)` handles. -/
def nB (c : Fin 2) : ℕ := if c.val = 0 then 188 else 187
/-- The first of them. -/
def base (c : Fin 2) (s : Fin 16) : ℕ := if c.val = 0 then s.val * 188 else 3008 + s.val * 187

theorem nB_le (c : Fin 2) : nB c ≤ 188 := by revert c; decide
theorem nB_pos (c : Fin 2) : 2 ≤ nB c := by revert c; decide
theorem base_add_le (c : Fin 2) (s : Fin 16) : base c s + nB c ≤ 6000 := by revert c s; decide

/-- A trip number as the 32-bit word the loop carries. -/
abbrev w (t : ℕ) : BitVec 32 := BitVec.ofNat 32 t

abbrev cs (c : Fin 2) (s : Fin 16) : grid0.Coords := coordsV c s

theorem trips_eq : ∀ (c : Fin 2) (s : Fin 16), (k0_t1_loop (cs c s)).trips = nB c := by decide +kernel
theorem cond1 : ∀ (c : Fin 2) (s : Fin 16), k0_cond1 (cs c s) = 1#1 := by decide +kernel
theorem cond2 : ∀ (c : Fin 2) (s : Fin 16), k0_cond2 (cs c s) = 1#1 := by decide +kernel
theorem cond18 : ∀ (c : Fin 2) (s : Fin 16), k0_cond18 (cs c s) = 1#1 := by decide +kernel
theorem off2 : ∀ (c : Fin 2) (s : Fin 16), k0_off2 (cs c s) = ![base c s, 0, 0] := by decide +kernel
theorem off33 : ∀ (c : Fin 2) (s : Fin 16), k0_off33 (cs c s) (w 0) = ![128 * (base c s + (nB c - 1)), 0] := by decide +kernel
theorem chk8 : ∀ (c : Fin 2) (s : Fin 16), k0_chk8 (cs c s) (w 0) := by decide +kernel
theorem chk7 : ∀ (c : Fin 2) (s : Fin 16), k0_chk7 (cs c s) (w (nB c - 1)) := by decide +kernel

theorem cond3 : ∀ (c : Fin 2) (s : Fin 16) (t : Fin (k0_t1_loop (cs c s)).trips), k0_cond3 (cs c s) t (w t.val) = 1#1 ↔ t.val + 1 < nB c := by
  decide +kernel
theorem cond4 : ∀ (c : Fin 2) (s : Fin 16) (t : Fin (k0_t1_loop (cs c s)).trips), k0_cond4 (cs c s) t (w t.val) = 1#1 := by decide +kernel
theorem cond7 : ∀ (c : Fin 2) (s : Fin 16) (t : Fin (k0_t1_loop (cs c s)).trips), k0_cond7 (cs c s) t (w t.val) = 1#1 := by decide +kernel
theorem cond9 : ∀ (c : Fin 2) (s : Fin 16) (t : Fin (k0_t1_loop (cs c s)).trips), k0_cond9 (cs c s) t (w t.val) = 1#1 ↔ 0 < t.val := by
  decide +kernel
theorem chk1 : ∀ (c : Fin 2) (s : Fin 16) (t : Fin (k0_t1_loop (cs c s)).trips),
    k0_chk1 (cs c s) t (w (t.val + 1)) (w t.val) (w t.val) (w (t.val - 1)) (w t.val) := by decide +kernel
theorem chk2 : ∀ (c : Fin 2) (s : Fin 16) (t : Fin 188), k0_chk2 (cs c s) (w t.val) := by decide +kernel
theorem chk3 : ∀ (c : Fin 2) (s : Fin 16) (t : Fin 188), k0_chk3 (cs c s) (w t.val) := by decide +kernel
theorem off5 : ∀ (c : Fin 2) (s : Fin 16) (t : Fin 188), t.val + 1 < nB c → k0_off5 (cs c s) (w t.val) = ![base c s + (t.val + 1), 0, 0] := by
  decide +kernel
theorem off8 : ∀ (c : Fin 2) (s : Fin 16) (t : Fin 188), k0_off8 (cs c s) (w t.val) = ![base c s + t.val, 0, 0] := by decide +kernel
theorem off13 : ∀ (c : Fin 2) (s : Fin 16) (t : Fin 188), k0_off13 (cs c s) (w t.val) = ![128 * (base c s + t.val), 0] := by decide +kernel
theorem off16 : ∀ (c : Fin 2) (s : Fin 16) (t : Fin 188), 0 < t.val → k0_off16 (cs c s) (w t.val) = ![128 * (base c s + (t.val - 1)), 0] := by
  decide +kernel

/-! ## The slots -/

theorem off1 : k0_off1 = ![0, 0, 0, 0] := by decide
theorem off3 : k0_off3 = ![0] := by decide
theorem off4 : ∀ t : Fin 189, k0_off4 (w t.val) = ![t.val % 2, 0, 0, 0] := by decide +kernel
theorem off6 : ∀ t : Fin 189, k0_off6 (w t.val) = ![t.val % 2] := by decide +kernel
theorem off7 : ∀ t : Fin 189, k0_off7 (w t.val) = ![t.val % 2, 0, 0, 0] := by decide +kernel
theorem off9 : ∀ t : Fin 189, k0_off9 (w t.val) = ![t.val % 2] := by decide +kernel
theorem off10 : ∀ t : Fin 189, k0_off10 (w t.val) = ![t.val % 2, 0, 0] := by decide +kernel
theorem off11 : ∀ t : Fin 189, k0_off11 (w t.val) = ![t.val % 2, 0, 0, 0] := by decide +kernel
theorem off12 : ∀ t : Fin 189, k0_off12 (w t.val) = ![t.val % 2, 0, 0] := by decide +kernel
theorem off14 : ∀ t : Fin 189, k0_off14 (w t.val) = ![t.val % 2] := by decide +kernel
theorem off15 : ∀ t : Fin 189, k0_off15 (w t.val) = ![t.val % 2, 0, 0] := by decide +kernel
theorem off17 : ∀ t : Fin 189, k0_off17 (w t.val) = ![t.val % 2] := by decide +kernel
theorem off34 : ∀ t : Fin 189, k0_off34 (w t.val) = ![t.val % 2] := by decide +kernel
theorem off35 : ∀ t : Fin 189, k0_off35 (w t.val) = ![t.val % 2, 0, 0] := by decide +kernel

end Cert.Proof.Words

end
-- ==== Proof.Common.lean ====
/-
  The kernel as the launch theorem sees it, the resource algebra of the proof, and the buffers of the gather: the table,
  the index list, the gathered rows, a tile's two-slot index buffer and two-slot row buffer, and the views of them that the
  copies name.
-/
module

public import proofs.«01_k».proof.Defs
public import proofs.«01_k».proof.Proof.Words
public import Idealize.ShloMosaic.Lib.SparseCore.Quiescent
public import Idealize.ShloMosaic.Lib.SparseCore.Ops
public import Idealize.ShloMosaic.Lib.SparseCore.Stream
public import Idealize.ShloMosaic.Lib.SparseCore.FromWhole
public import Idealize.ShloMosaic.Lib.StableHlo.Run
public import Idealize.ShloMosaic.Lib.Pipeline.Kit
public import Idealize.ShloMosaic.Lib.Tactic
public import Idealize.ShloMosaic.Lib.ValueIdxCore
public import proofs.«01_k».proof.Proof.Gen.KernelIdeal
public import proofs.«01_k».proof.Proof.Gen.KernelIdeal.Skeleton

@[expose] public section

noncomputable section

namespace Cert.Proof.KI

open Cert.KernelIdeal Cert.KernelIdeal.Gen Cert.Proof.Words

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix1 ix2 ix3 ix4)

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the pipelined call's rounds, the transfers' counters -/

abbrev UH : Type := URounds (GSem nD τ sig) ℕ
abbrev UP : Type := UR sig nD τ
abbrev UU : Type := UH × (UP × Counters)

local notation "𝕄" => MT nD τ sig (HIx 1) (Elt F) ℕ UU ℕ

abbrev EH : Emb UH (MT nD τ sig (HIx 1) (Elt F) ℕ UU ℕ) := embL

/-! ## The buffers -/

abbrev tLoc (d : Dev nD) : Loc nD τ sig := (SparseCore.T d).loc main_v2
abbrev iLoc (d : Dev nD) : Loc nD τ sig := (SparseCore.T d).loc main_v17
abbrev oLoc (d : Dev nD) : Loc nD τ sig := (SparseCore.T d).loc main_v18

abbrev tV : Memref sig .scVector .hbm S48008x128 .f32 := Memref.whole main_v2_scv
abbrev iV : Memref sig .scVector .hbm S6000x1x128 .i32 := Memref.whole main_v17_scv
abbrev oV : Memref sig .scVector .hbm S768000x128 .f32 := Memref.whole main_v18_scv
abbrev inV : Memref sig .scVector .vmem S2x1x1x128 .i32 := Memref.whole cc0_scoped0
abbrev outV : Memref sig .scVector .vmem S2x128x128 .f32 := Memref.whole cc0_scoped2

abbrev cV (L : grid0.Coords) : Fin τ.nSC := (L 0).castLE hcore0
abbrev jV (L : grid0.Coords) : Fin τ.nSub := (L 1).castLE hsub0
/-- The thread of the tile at `L`. -/
abbrev thr (d : Dev nD) (L : grid0.Coords) : Thread nD τ := V d (cV L) (jV L)

/-! ### The views the copies name, at any offsets -/

/-- A slot of the index buffer. -/
abbrev inSlotE (o : Fin S2x1x1x128.rank → ℕ) (h : ∀ a, o a + S1x1x1x128.size a ≤ S2x1x1x128.size a) : Memref sig .scVector .vmem S1x1x128 .i32 :=
  (inV.slice (Rect.unit (s := S2x1x1x128) o S1x1x1x128.size h) (fun _ => rfl)).squeeze S1x1x128 squeezes_S1x1x1x128_S1x1x128
/-- The same slot as a list of 128 words. -/
abbrev listE (o : Fin S2x1x1x128.rank → ℕ) (h : ∀ a, o a + S1x1x1x128.size a ≤ S2x1x1x128.size a) : Memref sig .scVector .vmem S128 .i32 :=
  ((inSlotE o h).slice (Rect.unit (s := S1x1x128) ![0, 0, 0] S1x1x128.size inb_S1x1x128_S1x1x128_0_0_0) (fun _ => rfl)).squeeze S128 squeezes_S1x1x128_S128
/-- A slot of the row buffer. -/
abbrev outSlotE (o : Fin S2x128x128.rank → ℕ) (h : ∀ a, o a + S1x128x128.size a ≤ S2x128x128.size a) : Memref sig .scVector .vmem S128x128 .f32 :=
  (outV.slice (Rect.unit (s := S2x128x128) o S1x128x128.size h) (fun _ => rfl)).squeeze S128x128 squeezes_S1x128x128_S128x128
/-- A block of 128 words of the index list. -/
abbrev iBlkE (o : Fin S6000x1x128.rank → ℕ) (h : ∀ a, o a + S1x1x128.size a ≤ S6000x1x128.size a) : Memref sig .scVector .hbm S1x1x128 .i32 :=
  iV.slice (Rect.unit (s := S6000x1x128) o S1x1x128.size h) (fun _ => rfl)
/-- A block of 128 gathered rows. -/
abbrev oBlkE (o : Fin S768000x128.rank → ℕ) (h : ∀ a, o a + S128x128.size a ≤ S768000x128.size a) : Memref sig .scVector .hbm S128x128 .f32 :=
  oV.slice (Rect.unit (s := S768000x128) o S128x128.size h) (fun _ => rfl)
/-- A cell of one of the two-cell semaphore arrays. -/
abbrev semE (A : DmaSems sig S2) (o : Fin S2.rank → ℕ) (h : ∀ a, o a + S1.size a ≤ S2.size a) : DmaSems sig S_ :=
  (A.slice (Rect.unit (s := S2) o S1.size h)).squeeze S_ squeezes_S1_S_
/-- The whole table, as the gather names it. -/
abbrev tAll : Memref sig .scVector .hbm S48008x128 .f32 :=
  tV.slice (Rect.unit (s := S48008x128) ![0, 0] S48008x128.size inb_S48008x128_S48008x128_0_0) (fun _ => rfl)

/-! ### The same at a slot and at a block -/

theorem in_inb (u : Fin 2) : ∀ a, (![u.val, 0, 0, 0] : Fin 4 → ℕ) a + S1x1x1x128.size a ≤ S2x1x1x128.size a := by
  revert u; decide
theorem out_inb (u : Fin 2) : ∀ a, (![u.val, 0, 0] : Fin 3 → ℕ) a + S1x128x128.size a ≤ S2x128x128.size a := by
  revert u; decide
theorem sem_inb (u : Fin 2) : ∀ a, (![u.val] : Fin 1 → ℕ) a + S1.size a ≤ S2.size a := by revert u; decide

theorem iblk_inb (b : Fin 6000) : ∀ a, (![b.val, 0, 0] : Fin 3 → ℕ) a + S1x1x128.size a ≤ S6000x1x128.size a := by
  have := b.isLt
  intro a; fin_cases a
  · show b.val + 1 ≤ 6000; omega
  · show 0 + 1 ≤ 1; omega
  · show 0 + 128 ≤ 128; omega
theorem oblk_inb (b : Fin 6000) : ∀ a, (![128 * b.val, 0] : Fin 2 → ℕ) a + S128x128.size a ≤ S768000x128.size a := by
  have := b.isLt
  intro a; fin_cases a
  · show 128 * b.val + 128 ≤ 768000; omega
  · show 0 + 128 ≤ 128; omega

abbrev inSlot (u : Fin 2) : Memref sig .scVector .vmem S1x1x128 .i32 := inSlotE ![u.val, 0, 0, 0] (in_inb u)
abbrev outSlot (u : Fin 2) : Memref sig .scVector .vmem S128x128 .f32 := outSlotE ![u.val, 0, 0] (out_inb u)
abbrev oBlk (b : Fin 6000) : Memref sig .scVector .hbm S128x128 .f32 := oBlkE ![128 * b.val, 0] (oblk_inb b)
abbrev inSem (u : Fin 2) : SemLoc sig := .dma (semE cc0_scoped1 ![u.val] (sem_inb u)).sem
abbrev outSem (u : Fin 2) : SemLoc sig := .dma (semE cc0_scoped3 ![u.val] (sem_inb u)).sem
abbrev gSem : SemLoc sig := .dma cc0_scoped4.sem

/-! ### The elements of a block, and of a slot -/

/-- The elements of block `b` of the gathered rows. -/
def oSet (b : ℕ) : Finset S768000x128.Idx := Finset.univ.filter fun x => (x 0).val / 128 = b

theorem oBlk_set (b : Fin 6000) : (oBlk b).view.set = oSet b.val := by
  show ((View.whole (main_v18_scv : Ref sig .scVector)).slice (Rect.unit (s := S768000x128) ![128 * b.val, 0] S128x128.size (oblk_inb b))).set = _
  rw [View.set_slice_whole]
  ext x
  rw [Rect.mem_set_unit, oSet, Finset.mem_filter]
  constructor
  · intro H
    have h0 : 128 * b.val ≤ (x 0).val ∧ (x 0).val < 128 * b.val + 128 := H 0
    exact ⟨Finset.mem_univ _, by omega⟩
  · rintro ⟨-, H⟩ a
    fin_cases a
    · show 128 * b.val ≤ (x 0).val ∧ (x 0).val < 128 * b.val + 128; omega
    · show 0 ≤ (x 1).val ∧ (x 1).val < 0 + 128
      have : (x 1).val < 128 := (x 1).isLt
      omega

theorem mem_inSlot_set (u : Fin 2) (x : S2x1x1x128.Idx) : x ∈ (inSlot u).view.set ↔ (x 0).val = u.val := by
  have hs : (inSlot u).view.set = (Rect.unit (s := S2x1x1x128) ![u.val, 0, 0, 0] S1x1x1x128.size (in_inb u)).set :=
    (View.set_reshape _ _).trans (View.set_slice_whole _ _)
  rw [hs, Rect.mem_set_unit]
  constructor
  · intro H
    have h0 : u.val ≤ (x 0).val ∧ (x 0).val < u.val + 1 := H 0
    omega
  · intro H a
    fin_cases a
    · show u.val ≤ (x 0).val ∧ (x 0).val < u.val + 1; omega
    · show 0 ≤ (x 1).val ∧ (x 1).val < 0 + 1
      have : (x 1).val < 1 := (x 1).isLt
      omega
    · show 0 ≤ (x 2).val ∧ (x 2).val < 0 + 1
      have : (x 2).val < 1 := (x 2).isLt
      omega
    · show 0 ≤ (x 3).val ∧ (x 3).val < 0 + 128
      have : (x 3).val < 128 := (x 3).isLt
      omega

theorem mem_outSlot_set (u : Fin 2) (x : S2x128x128.Idx) : x ∈ (outSlot u).view.set ↔ (x 0).val = u.val := by
  have hs : (outSlot u).view.set = (Rect.unit (s := S2x128x128) ![u.val, 0, 0] S1x128x128.size (out_inb u)).set :=
    (View.set_reshape _ _).trans (View.set_slice_whole _ _)
  rw [hs, Rect.mem_set_unit]
  constructor
  · intro H
    have h0 : u.val ≤ (x 0).val ∧ (x 0).val < u.val + 1 := H 0
    omega
  · intro H a
    fin_cases a
    · show u.val ≤ (x 0).val ∧ (x 0).val < u.val + 1; omega
    · show 0 ≤ (x 1).val ∧ (x 1).val < 0 + 128
      have : (x 1).val < 128 := (x 1).isLt
      omega
    · show 0 ≤ (x 2).val ∧ (x 2).val < 0 + 128
      have : (x 2).val < 128 := (x 2).isLt
      omega

theorem inSlot_compl : (Finset.univ : Finset S2x1x1x128.Idx) \ (inSlot 0).view.set = (inSlot 1).view.set := by
  ext x
  rw [Finset.mem_sdiff, mem_inSlot_set, mem_inSlot_set]
  have : (x 0).val < 2 := (x 0).isLt
  simp only [Finset.mem_univ, true_and, Fin.val_zero, Fin.val_one]
  omega
theorem outSlot_compl : (Finset.univ : Finset S2x128x128.Idx) \ (outSlot 0).view.set = (outSlot 1).view.set := by
  ext x
  rw [Finset.mem_sdiff, mem_outSlot_set, mem_outSlot_set]
  have : (x 0).val < 2 := (x 0).isLt
  simp only [Finset.mem_univ, true_and, Fin.val_zero, Fin.val_one]
  omega

theorem listE_set (o h) : (listE o h).view.set = (inSlotE o h).view.set := by
  show (((inSlotE o h).view.slice _).reshape S128 _).set = _
  rw [View.set_reshape, View.set_slice]
  have : (Rect.unit (s := S1x1x128) ![0, 0, 0] S1x1x128.size inb_S1x1x128_S1x1x128_0_0_0).set = Finset.univ := by
    ext x; rw [Rect.mem_set_unit]
    refine ⟨fun _ => Finset.mem_univ _, fun _ a => ?_⟩
    fin_cases a
    · exact ⟨Nat.zero_le _, by show (x 0).val < 0 + 1; have : (x 0).val < 1 := (x 0).isLt; omega⟩
    · exact ⟨Nat.zero_le _, by show (x 1).val < 0 + 1; have : (x 1).val < 1 := (x 1).isLt; omega⟩
    · exact ⟨Nat.zero_le _, by show (x 2).val < 0 + 128; have : (x 2).val < 128 := (x 2).isLt; omega⟩
  rw [this]; rfl

/-! ### What a block of the index list and of the gathered rows holds -/

/-- The row of the table a word of the index list names. -/
def rowOf (v : BitVec 32) : Fin 48008 := ⟨v.toNat % 48008, Nat.mod_lt _ (by decide)⟩

/-- Word `j` of block `b` of an index list. -/
abbrev wordAt (fi : S6000x1x128.Idx → BitVec 32) (b : Fin 6000) (j : Fin 128) : BitVec 32 := fi (ix3 b (0 : Fin 1) j)

/-- The gathered rows: row `128 b + j` is the table's row named by word `j` of block `b` of the index list. -/
def gath (ft : S48008x128.Idx → Elt F .f32) (fi : S6000x1x128.Idx → BitVec 32) : S768000x128.Idx → Elt F .f32 :=
  fun x => ft (ix2 (rowOf (wordAt fi ⟨(x 0).val / 128, by have : (x 0).val < 768000 := (x 0).isLt; omega⟩
    ⟨(x 0).val % 128, Nat.mod_lt _ (by decide)⟩)) (x 1 : Fin 128))

end Cert.Proof.KI
-- ==== Proof.Region.lean ====
/-
  The pipelined call: 48 blocks of 1000 rows, each multiplied by the weight of its row type and the bias added. The body is
  run once at any grid point, on any whole staging buffers; the region is then entered from any contents of the host's
  buffers, and leaves the result's array written block by block with what the body left.
-/
module

public import proofs.«01_k».proof.Proof.Common
public import proofs.«01_k».proof.Proof.Gen.KernelIdeal.Launch
public import proofs.«01_k».proof.Proof.Gen.KernelIdeal.Points
public import Idealize.ShloMosaic.Lib.Pipeline.RegionArraysS
public import Idealize.ShloMosaic.Lib.Pipeline.FrameBody
public import Idealize.ShloMosaic.Lib.VecWindow
public import Idealize.ShloMosaic.Lib.Pipeline.ValueKit.Geometry

@[expose] public section

noncomputable section

namespace Cert.Proof.KI

open Cert.KernelIdeal Cert.KernelIdeal.Gen Cert.Proof.Words

open Idealize.ShloMosaic Idealize.ShloMosaic.TcCoe
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation)

variable {F : FTy → Type} [FloatOps F]

local notation "𝕄" => MT nD τ sig (HIx 1) (Elt F) ℕ UU ℕ

/-- The contents of a memref's buffer on core `c`, and the buffer held whole at them. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) :
    sProp (MT nD τ sig (HIx 1) (Elt F) ℕ UU ℕ) :=
  M.view.loc (c : Thread nD τ) ↦{fullShare} f

/-! ## The body -/

/-- What the body leaves in the result's staging buffer, and the proof that it does. -/
noncomputable def gemmRun (c : Dev nD) (i : grid1.Coords) (M0 : Memref sig .tc .vmem S1000x2048 .f32) (h0 : M0.IsWhole) (M1 : Memref sig .tc .vmem S1x2048x128 .f32) (h1 : M1.IsWhole)
    (M2 : Memref sig .tc .vmem S1x1x128 .f32) (h2 : M2.IsWhole) (M3 : Memref sig .tc .vmem S1000x128 .f32) (h3 : M3.IsWhole)
    (f0 : Bf (F := F) c M0) (f1 : Bf (F := F) c M1) (f2 : Bf (F := F) c M2) :
    { W : Bf (F := F) c M3 // ∀ (f3 : Bf (F := F) c M3) (E : Set ℕ) (Q : PUnit → sProp (MT nD τ sig (HIx 1) (Elt F) ℕ UU ℕ)),
        iprop(pt c M0 f0 ∗ pt c M1 f1 ∗ pt c M2 f2 ∗ pt c M3 f3 ∗ (iprop(pt c M0 f0 ∗ pt c M1 f1 ∗ pt c M2 f2 ∗ pt c M3 W) -∗ Q ⟨⟩))
          ⊢ wp frame (wpE (defs₀ (F := F)) Variants.none c none) E (cc1_body i M0 h0 M1 h1 M2 h2 M3 h3) Q } := by
  refine ⟨?_, fun f3 E Q => ?run⟩
  case run =>
    rw [cc1_body_eq_skeleton]
    iintro ⟨H0, H1, H2, H3, Hk⟩
    sl_exec!
    sl_step
    iapply Hk
    isplitl [H0]; · iexact H0
    isplitl [H1]; · iexact H1
    isplitl [H2]; · iexact H2
    iexact H3

/-- A load of everything a view reads, from its start, reads the view. -/
theorem readAt_all {κ : Kind} {sp : Space} {s : Shape} {e : EltTy} (v : View sig κ sp s e) (f : v.ty.Contents (Elt F)) {off : Fin s.rank → ℕ}
    (h0 : ∀ a, off a = 0) (inb : ∀ a, off a + s.size a ≤ s.size a) :
    v.readAt (Elt F) (Rect.unit off s.size inb).toLoadRect f = v.read (Elt F) f := by
  funext y
  rw [View.readAt_apply]
  congr 1
  funext a
  apply Fin.ext
  show off a + 1 * (y a).val = (y a).val
  rw [h0 a]; omega

/-- What is left is the product plus the bias, of what the three staging buffers read. -/
theorem gemmRun_val (c : Dev nD) (i : grid1.Coords) (M0 : Memref sig .tc .vmem S1000x2048 .f32) (h0 : M0.IsWhole) (M1 : Memref sig .tc .vmem S1x2048x128 .f32) (h1 : M1.IsWhole)
    (M2 : Memref sig .tc .vmem S1x1x128 .f32) (h2 : M2.IsWhole) (M3 : Memref sig .tc .vmem S1000x128 .f32) (h3 : M3.IsWhole)
    (f0 : Bf (F := F) c M0) (f1 : Bf (F := F) c M1) (f2 : Bf (F := F) c M2) :
    M3.view.read (Elt F) (gemmRun c i M0 h0 M1 h1 M2 h2 M3 h3 f0 f1 f2).1
      = k1_pay1 (M0.view.read (Elt F) f0) (M1.view.read (Elt F) f1) (M2.view.read (Elt F) f2) := by
  unfold gemmRun
  dsimp only
  unfold gemmRun.sl.H3_1
  rw [View.read_writes_full]
  have z2 : ∀ a : Fin 2, (![0, 0] : Fin 2 → ℕ) a = 0 := by decide
  have z3 : ∀ a : Fin 3, (![0, 0, 0] : Fin 3 → ℕ) a = 0 := by decide
  rw [← readAt_all M0.view f0 z2 inb_S1000x2048_S1000x2048_0_0, ← readAt_all M1.view f1 z3 inb_S1x2048x128_S1x2048x128_0_0_0,
    ← readAt_all M2.view f2 z3 inb_S1x1x128_S1x1x128_0_0_0]

/-- The body, from the four staging buffers owned, the first three at `x0`, `x1`, `x2`. -/
theorem gemm_owns (c : Dev nD) (i : grid1.Coords) (M0 : Memref sig .tc .vmem S1000x2048 .f32) (h0 : M0.IsWhole) (M1 : Memref sig .tc .vmem S1x2048x128 .f32) (h1 : M1.IsWhole)
    (M2 : Memref sig .tc .vmem S1x1x128 .f32) (h2 : M2.IsWhole) (M3 : Memref sig .tc .vmem S1000x128 .f32) (h3 : M3.IsWhole)
    (x0 : FVec F S1000x2048 .f32) (x1 : FVec F S1x2048x128 .f32) (x2 : FVec F S1x1x128 .f32) (x3 : FVec F S1000x128 .f32) (Q : PUnit → sProp (MT nD τ sig (HIx 1) (Elt F) ℕ UU ℕ)) :
    iprop(owns (c : Thread nD τ) M0 fullShare x0 ∗ owns (c : Thread nD τ) M1 fullShare x1 ∗ owns (c : Thread nD τ) M2 fullShare x2 ∗ owns (c : Thread nD τ) M3 fullShare x3
        ∗ (iprop(owns (c : Thread nD τ) M0 fullShare x0 ∗ owns (c : Thread nD τ) M1 fullShare x1 ∗ owns (c : Thread nD τ) M2 fullShare x2
            ∗ owns (c : Thread nD τ) M3 fullShare (k1_pay1 x0 x1 x2)) -∗ Q ⟨⟩))
      ⊢ wp frame (wpE (defs₀ (F := F)) Variants.none c none) Set.univ (cc1_body i M0 h0 M1 h1 M2 h2 M3 h3) Q := by
  unfold owns
  rw [h0.set_eq_univ, h1.set_eq_univ, h2.set_eq_univ, h3.set_eq_univ]
  iintro ⟨⟨%f0, %e0, H0⟩, ⟨%f1, %e1, H1⟩, ⟨%f2, %e2, H2⟩, ⟨%f3, -, H3⟩, Hk⟩
  iapply ((gemmRun c i M0 h0 M1 h1 M2 h2 M3 h3 f0 f1 f2).2 f3 Set.univ Q)
  isplitl [H0]; · iexact H0
  isplitl [H1]; · iexact H1
  isplitl [H2]; · iexact H2
  isplitl [H3]; · iexact H3
  iintro ⟨H0, H1, H2, H3⟩
  iapply Hk
  isplitl [H0]; · iexists f0; isplitr; · ipureintro; exact e0
                  iexact H0
  isplitl [H1]; · iexists f1; isplitr; · ipureintro; exact e1
                  iexact H1
  isplitl [H2]; · iexists f2; isplitr; · ipureintro; exact e2
                  iexact H2
  iexists _
  isplitr; swap; · iexact H3
  ipureintro
  rw [gemmRun_val, e0, e1, e2]

/-! ## The region -/

abbrev adm : (p : Fin 1) → (pcfgs (F := F) p).Adm := fun p => (cfgs p).toPCfg_adm

/-- The host's buffers: the ones the TensorCore holds across the calls. -/
def ucRefs : Finset (DevRef τ sig) := (StableHlo.tcRefs τ sig).filter fun b => ¬ b.isScoped

omit [FloatOps F] in
theorem unscopedBufs_held (c : Dev nD) (W : Valuation τ sig (Elt F)) :
    (unscopedBufs c (fun b => W b) : sProp (MT nD τ sig (HIx 1) (Elt F) ℕ UU ℕ)) = StableHlo.held (c : Thread nD τ) ucRefs W := by
  unfold unscopedBufs StableHlo.held ucRefs StableHlo.tcRefs
  rw [Finset.filter_map, bigSep_map]
  rfl

variable (W : Dev nD → Valuation τ sig (Elt F))

/-- The blocks the fetches stage at point `t`, of the arrays at `W`. -/
abbrev stgG (c : Dev nD) (t : Fin cfg1.N) : FVec F S1000x2048 .f32 := ((cfg1.win 0).blk t).view.read (Elt F) (W c (Proc.devRef .tc main_v19))
abbrev stgW (c : Dev nD) (t : Fin cfg1.N) : FVec F S1x2048x128 .f32 := ((cfg1.win 1).blk t).view.read (Elt F) (W c (Proc.devRef .tc main_v24))
abbrev stgB (c : Dev nD) (t : Fin cfg1.N) : FVec F S1x1x128 .f32 := ((cfg1.win 2).blk t).view.read (Elt F) (W c (Proc.devRef .tc main_v28))

/-- The proof data of the region entered at `W`. -/
def dat (c : Dev nD) : Dat τ (Elt F) (HIx 1) ℕ UU ℕ cfg1 c where
  A w := W c (Proc.devRef .tc (Pipeline.arrRef spec1 w))
  after w t := match w with
    | ⟨0, _⟩ => stgG W c t
    | ⟨1, _⟩ => stgW W c t
    | ⟨2, _⟩ => stgB W c t
    | ⟨3, _⟩ => k1_pay1 (stgG W c t) (stgW W c t) (stgB W c t)
  Φ _ := Pipeline.scopedRest (Ix := HIx 1) (Name := ℕ) (U := UU) (Lvl := ℕ) (Val := Elt F) spec1 c
  q _ := fullShare
  owed _ := 0

def pdats : (p : Fin 1) → (c : Dev nD) → Dat τ (Elt F) (HIx 1) ℕ UU ℕ (Pipeline.pin (pcfgs (F := F)) adm p) c
  | ⟨0, _⟩ => fun c => dat W c

theorem before_0 (c : Dev nD) (t : Fin cfg1.N) (d) : (dat W c).before 0 t d = stgG W c t :=
  (dat W c).before_in_eq_fetched 0 rfl (fun _ => rfl) (fun _ _ _ => rfl) (fun _ => rfl) t d
theorem before_1 (c : Dev nD) (t : Fin cfg1.N) (d) : (dat W c).before 1 t d = stgW W c t :=
  (dat W c).before_in_eq_fetched 1 rfl (fun _ => rfl) (fun _ _ _ => rfl) (fun _ => rfl) t d
theorem before_2 (c : Dev nD) (t : Fin cfg1.N) (d) : (dat W c).before 2 t d = stgB W c t :=
  (dat W c).before_in_eq_fetched 2 rfl (fun _ => rfl) (fun _ _ _ => rfl) (fun _ => rfl) t d

theorem body_obligation (c : Dev nD) : BodyObligation (dat W c) (defs₀ (F := F)) 𝒱₀ (none : HIx 1) Set.univ := fun t => by
  rw [bigSep_W1, bigSep_W1]
  rw [show (dat W c).Φ t.castSucc = Pipeline.scopedRest (Ix := HIx 1) (Name := ℕ) (U := UU) (Lvl := ℕ) (Val := Elt F) spec1 c from rfl,
    show (dat W c).Φ t.succ = Pipeline.scopedRest (Ix := HIx 1) (Name := ℕ) (U := UU) (Lvl := ℕ) (Val := Elt F) spec1 c from rfl,
    show (dat W c).owesAt none t.succ = (dat W c).owesAt none t.castSucc from rfl]
  iintro ⟨HΦ, Howes, ⟨%d0, H0⟩, ⟨%d1, H1⟩, ⟨%d2, H2⟩, ⟨%d3, H3⟩⟩
  rw [before_0, before_1, before_2]
  iapply (gemm_owns c (grid1.coords t) (win1_0.stage (cfg1.slots t 0)) (hstage1_0 ((cfg1.slots t 0).cast nbuf1_0)) (win1_1.stage (cfg1.slots t 1)) (hstage1_1 ((cfg1.slots t 1).cast nbuf1_1))
    (win1_2.stage (cfg1.slots t 2)) (hstage1_2 ((cfg1.slots t 2).cast nbuf1_2)) (win1_3.stage (cfg1.slots t 3)) (hstage1_3 ((cfg1.slots t 3).cast nbuf1_3))
    (stgG W c t) (stgW W c t) (stgB W c t) ((dat W c).before 3 t d3) _)
  isplitl [H0]; · iexact H0
  isplitl [H1]; · iexact H1
  isplitl [H2]; · iexact H2
  isplitl [H3]; · iexact H3
  iintro ⟨H0, H1, H2, H3⟩
  isplitl [HΦ]; · iexact HΦ
  isplitl [Howes]; · iexact Howes
  isplitl [H0]; · iexact H0
  isplitl [H1]; · iexact H1
  isplitl [H2]; · iexact H2
  iexact H3

/-- The region over the host's buffers. -/
def reg (R : Dev nD → sProp (MT nD τ sig (HIx 1) (Elt F) ℕ UU ℕ)) :
    Pipeline.RegionSeg (pcfgs (F := F)) adm (pdats W) (none : HIx 1) defs₀ 𝒱₀ (K (F := F)).L (K (F := F)).lev 0 :=
  Pipeline.RegionSeg.ofHeldIn (pcfgs (F := F)) adm (pdats W) (none : HIx 1) defs₀ 𝒱₀ (K (F := F)).L (K (F := F)).lev 0 (fun _ => 0) ucRefs
    (fun _ => BI.emp) (fun _ => BI.emp) launch1.toP rfl
    (fun c => (body_obligation W c).loose) (fun _ _ => rfl) (fun _ => rfl) (fun c w => (dat W c).share_full (fun _ => rfl) w)
    (fun c => by
      show iprop(Pipeline.scopedRest (Ix := HIx 1) (Name := ℕ) (U := UU) (Lvl := ℕ) (Val := Elt F) spec1 c ∗ BI.emp) ⊢ Pipeline.scopedRest (Ix := HIx 1) (Name := ℕ) (U := UU) (Lvl := ℕ) (Val := Elt F) spec1 c
      iintro ⟨H, -⟩; iexact H)
    (fun c => by
      show Pipeline.scopedRest (Ix := HIx 1) (Name := ℕ) (U := UU) (Lvl := ℕ) (Val := Elt F) spec1 c ⊢ iprop(Pipeline.scopedRest (Ix := HIx 1) (Name := ℕ) (U := UU) (Lvl := ℕ) (Val := Elt F) spec1 c ∗ BI.emp)
      iintro H
      isplitl [H]; · iexact H
      iempintro)
    (fun _ => 0) ⟨fun _ _ _ => Finset.mem_univ _, fun _ _ _ => le_rfl, fun _ _ _ h => absurd h (Nat.lt_irrefl 0)⟩ R W (fun _ _ => rfl)

end Cert.Proof.KI
-- ==== Proof.Hosts.lean ====
/-
  @main as three straight lines of host operations with the SparseCore call and the pipelined call between them.
-/
module

public import proofs.«01_k».proof.Proof.Region

@[expose] public section

noncomputable section

namespace Cert.Proof.KI

open Cert.KernelIdeal Cert.KernelIdeal.Gen

open Idealize.ShloMosaic Idealize.ShloMosaic.TcCoe
open Idealize.SL Idealize.SL.RA Idealize.SL.BI
open Idealize.SL.Sem

variable {F : FTy → Type} [FloatOps F]

/-- The host operations before the SparseCore call: the table and the index list. -/
def ops0 : List (HloOp τ sig (Elt F)) :=
  [StableHlo.reshape main_arg0 main_v0 (rfl : (.f32 : EltTy) = .f32) shapeCasts_S4x12000x128_S48000x128,
   StableHlo.nullary main_cst (constant S_ .f32 0x00000000#32),
   StableHlo.unary main_cst main_v1 (broadcastInDim S8x128 ![] bcast_S_S8x128 : (⟨S_, .f32⟩ : BufTy).Contents (Elt F) → (⟨S8x128, .f32⟩ : BufTy).Contents (Elt F)),
   StableHlo.binary main_v0 main_v1 main_v2 ((fun a b => concatenate S48008x128 0 [⟨S48000x128, a⟩, ⟨S8x128, b⟩] concatenates_S48000x128_S8x128_S48008x128_d0) : (⟨S48000x128, .f32⟩ : BufTy).Contents (Elt F) → (⟨S8x128, .f32⟩ : BufTy).Contents (Elt F) → (⟨S48008x128, .f32⟩ : BufTy).Contents (Elt F)),
   StableHlo.binary main_arg1 main_arg2 main_v3 ((fun a b => concatenate S12000x16 0 [⟨S10000x16, a⟩, ⟨S2000x16, b⟩] concatenates_S10000x16_S2000x16_S12000x16_d0) : (⟨S10000x16, .i32⟩ : BufTy).Contents (Elt F) → (⟨S2000x16, .i32⟩ : BufTy).Contents (Elt F) → (⟨S12000x16, .i32⟩ : BufTy).Contents (Elt F)),
   StableHlo.nullary main_v4 (iotaInDim S4 32 0),
   StableHlo.nullary main_c (constantI S_ 32 12000#32),
   StableHlo.unary main_c main_v5 (broadcastInDim S4 ![] bcast_S_S4 : (⟨S_, .i32⟩ : BufTy).Contents (Elt F) → (⟨S4, .i32⟩ : BufTy).Contents (Elt F)),
   StableHlo.binary main_v4 main_v5 main_v6 (muli : (⟨S4, .i32⟩ : BufTy).Contents (Elt F) → (⟨S4, .i32⟩ : BufTy).Contents (Elt F) → (⟨S4, .i32⟩ : BufTy).Contents (Elt F)),
   StableHlo.unary main_v6 main_v7 (broadcastInDim S4x1x1 ![0] bcast_S4_S4x1x1_0 : (⟨S4, .i32⟩ : BufTy).Contents (Elt F) → (⟨S4x1x1, .i32⟩ : BufTy).Contents (Elt F)),
   StableHlo.unary main_v3 main_v8 (broadcastInDim S1x12000x16 ![1, 2] bcast_S12000x16_S1x12000x16_1_2 : (⟨S12000x16, .i32⟩ : BufTy).Contents (Elt F) → (⟨S1x12000x16, .i32⟩ : BufTy).Contents (Elt F)),
   StableHlo.nullary main_c_0 (constantI S_ 32 12000#32),
   StableHlo.unary main_c_0 main_v9 (broadcastInDim S1x12000x16 ![] bcast_S_S1x12000x16 : (⟨S_, .i32⟩ : BufTy).Contents (Elt F) → (⟨S1x12000x16, .i32⟩ : BufTy).Contents (Elt F)),
   StableHlo.binary main_v8 main_v9 main_v10 (cmpi .slt : (⟨S1x12000x16, .i32⟩ : BufTy).Contents (Elt F) → (⟨S1x12000x16, .i32⟩ : BufTy).Contents (Elt F) → (⟨S1x12000x16, .i1⟩ : BufTy).Contents (Elt F)),
   StableHlo.unary main_v3 main_v11 (broadcastInDim S1x12000x16 ![1, 2] bcast_S12000x16_S1x12000x16_1_2 : (⟨S12000x16, .i32⟩ : BufTy).Contents (Elt F) → (⟨S1x12000x16, .i32⟩ : BufTy).Contents (Elt F)),
   StableHlo.unary main_v11 main_v12 (broadcastInDim S4x12000x16 ![0, 1, 2] bcast_S1x12000x16_S4x12000x16_0_1_2 : (⟨S1x12000x16, .i32⟩ : BufTy).Contents (Elt F) → (⟨S4x12000x16, .i32⟩ : BufTy).Contents (Elt F)),
   StableHlo.unary main_v7 main_v13 (broadcastInDim S4x12000x16 ![0, 1, 2] bcast_S4x1x1_S4x12000x16_0_1_2 : (⟨S4x1x1, .i32⟩ : BufTy).Contents (Elt F) → (⟨S4x12000x16, .i32⟩ : BufTy).Contents (Elt F)),
   StableHlo.binary main_v12 main_v13 main_v14 (addi : (⟨S4x12000x16, .i32⟩ : BufTy).Contents (Elt F) → (⟨S4x12000x16, .i32⟩ : BufTy).Contents (Elt F) → (⟨S4x12000x16, .i32⟩ : BufTy).Contents (Elt F)),
   StableHlo.nullary main_c_1 (constantI S_ 32 48000#32),
   StableHlo.TRef.unary (.of main_c_1 : StableHlo.TRef sig ⟨S_, .i32⟩) main_call0.v0 id,
   StableHlo.TRef.unary (.of main_v10 : StableHlo.TRef sig ⟨S1x12000x16, .i1⟩) main_call0.v1 (broadcastInDim S4x12000x16 ![0, 1, 2] bcast_S1x12000x16_S4x12000x16_0_1_2),
   StableHlo.TRef.unary main_call0.v0 main_call0.v2 (broadcastInDim S4x12000x16 ![] bcast_S_S4x12000x16),
   StableHlo.TRef.ternary main_call0.v1 (.of main_v14 : StableHlo.TRef sig ⟨S4x12000x16, .i32⟩) main_call0.v2 main_call0.v3 select,
   StableHlo.reshape main_v15 main_v16 (rfl : (.i32 : EltTy) = .i32) shapeCasts_S4x12000x16_S768000,
   StableHlo.reshape main_v16 main_v17 (rfl : (.i32 : EltTy) = .i32) shapeCasts_S768000_S6000x1x128]

/-- Between the two calls: the gathered rows regrouped, the weights and the biases stacked. -/
def ops1 : List (HloOp τ sig (Elt F)) :=
  [StableHlo.reshape main_v18 main_v19 (rfl : (.f32 : EltTy) = .f32) shapeCasts_S768000x128_S48000x2048,
   StableHlo.unary main_arg3 main_v20 ((transpose S2048x128 [1, 0] · transposes_S128x2048_S2048x128_1_0) : (⟨S128x2048, .f32⟩ : BufTy).Contents (Elt F) → (⟨S2048x128, .f32⟩ : BufTy).Contents (Elt F)),
   StableHlo.unary main_arg5 main_v21 ((transpose S2048x128 [1, 0] · transposes_S128x2048_S2048x128_1_0) : (⟨S128x2048, .f32⟩ : BufTy).Contents (Elt F) → (⟨S2048x128, .f32⟩ : BufTy).Contents (Elt F)),
   StableHlo.unary main_v20 main_v22 (broadcastInDim S1x2048x128 ![1, 2] bcast_S2048x128_S1x2048x128_1_2 : (⟨S2048x128, .f32⟩ : BufTy).Contents (Elt F) → (⟨S1x2048x128, .f32⟩ : BufTy).Contents (Elt F)),
   StableHlo.unary main_v21 main_v23 (broadcastInDim S1x2048x128 ![1, 2] bcast_S2048x128_S1x2048x128_1_2 : (⟨S2048x128, .f32⟩ : BufTy).Contents (Elt F) → (⟨S1x2048x128, .f32⟩ : BufTy).Contents (Elt F)),
   StableHlo.binary main_v22 main_v23 main_v24 ((fun a b => concatenate S2x2048x128 0 [⟨S1x2048x128, a⟩, ⟨S1x2048x128, b⟩] concatenates_S1x2048x128_S1x2048x128_S2x2048x128_d0) : (⟨S1x2048x128, .f32⟩ : BufTy).Contents (Elt F) → (⟨S1x2048x128, .f32⟩ : BufTy).Contents (Elt F) → (⟨S2x2048x128, .f32⟩ : BufTy).Contents (Elt F)),
   StableHlo.unary main_arg4 main_v25 (broadcastInDim S1x128 ![1] bcast_S128_S1x128_1 : (⟨S128, .f32⟩ : BufTy).Contents (Elt F) → (⟨S1x128, .f32⟩ : BufTy).Contents (Elt F)),
   StableHlo.unary main_arg6 main_v26 (broadcastInDim S1x128 ![1] bcast_S128_S1x128_1 : (⟨S128, .f32⟩ : BufTy).Contents (Elt F) → (⟨S1x128, .f32⟩ : BufTy).Contents (Elt F)),
   StableHlo.binary main_v25 main_v26 main_v27 ((fun a b => concatenate S2x128 0 [⟨S1x128, a⟩, ⟨S1x128, b⟩] concatenates_S1x128_S1x128_S2x128_d0) : (⟨S1x128, .f32⟩ : BufTy).Contents (Elt F) → (⟨S1x128, .f32⟩ : BufTy).Contents (Elt F) → (⟨S2x128, .f32⟩ : BufTy).Contents (Elt F)),
   StableHlo.unary main_v27 main_v28 (broadcastInDim S2x1x128 ![0, 2] bcast_S2x128_S2x1x128_0_2 : (⟨S2x128, .f32⟩ : BufTy).Contents (Elt F) → (⟨S2x1x128, .f32⟩ : BufTy).Contents (Elt F))]

/-- After the pipelined call: the result reshaped. -/
def ops2 : List (HloOp τ sig (Elt F)) :=
  [StableHlo.reshape main_v29 main_v30 (rfl : (.f32 : EltTy) = .f32) shapeCasts_S48000x128_S4x12000x128]

theorem main_eq (d : Dev nD) : main (F := F) d
    = StableHlo.seq ops0 >>= fun _ => (K (F := F)).run d 0 >>= fun _ => StableHlo.seq ops1 >>= fun _ =>
        (Prog.lift (.customCall (SparseCore.inner (Pipeline.entry 0)) ()) : Prog (TpuEff nD τ sig (Elt F) (SparseCore.Sig (ΛP (F := F)) 1) .tc) PUnit) >>= fun _ => StableHlo.seq ops2 := by
  delta main fn_where.body ops0 ops1 ops2
  simp only [StableHlo.seq, bind_assoc, pure_bind, bind_pure]

theorem mem_ucRefs (r : Ref sig .tc) (h : (Proc.devRef (τ := τ) .tc r).isScoped = false) : (Proc.devRef .tc r : DevRef τ sig) ∈ ucRefs :=
  Finset.mem_filter.mpr ⟨StableHlo.devRef_mem_tcRefs r, by rw [h]; exact Bool.false_ne_true⟩

section
variable {a b c e : Ref sig .tc}

theorem sub1 (ha : (Proc.devRef (τ := τ) .tc a).isScoped = false) : ({Proc.devRef .tc a} : Finset (DevRef τ sig)) ⊆ ucRefs :=
  Finset.singleton_subset_iff.mpr (mem_ucRefs a ha)
theorem sub2 (ha : (Proc.devRef (τ := τ) .tc a).isScoped = false) (hb : (Proc.devRef (τ := τ) .tc b).isScoped = false) :
    ({Proc.devRef .tc a, Proc.devRef .tc b} : Finset (DevRef τ sig)) ⊆ ucRefs :=
  Finset.insert_subset (mem_ucRefs a ha) (sub1 hb)
theorem sub3 (ha : (Proc.devRef (τ := τ) .tc a).isScoped = false) (hb : (Proc.devRef (τ := τ) .tc b).isScoped = false)
    (hc : (Proc.devRef (τ := τ) .tc c).isScoped = false) :
    ({Proc.devRef .tc a, Proc.devRef .tc b, Proc.devRef .tc c} : Finset (DevRef τ sig)) ⊆ ucRefs :=
  Finset.insert_subset (mem_ucRefs a ha) (sub2 hb hc)
theorem sub4 (ha : (Proc.devRef (τ := τ) .tc a).isScoped = false) (hb : (Proc.devRef (τ := τ) .tc b).isScoped = false)
    (hc : (Proc.devRef (τ := τ) .tc c).isScoped = false) (he : (Proc.devRef (τ := τ) .tc e).isScoped = false) :
    ({Proc.devRef .tc a, Proc.devRef .tc b, Proc.devRef .tc c, Proc.devRef .tc e} : Finset (DevRef τ sig)) ⊆ ucRefs :=
  Finset.insert_subset (mem_ucRefs a ha) (sub3 hb hc he)
end

theorem ops0_sub : ∀ op ∈ ops0 (F := F), op.bufs ⊆ ucRefs := List.forall_iff_forall_mem.mp
  ⟨sub2 rfl rfl, sub1 rfl, sub2 rfl rfl, sub3 rfl rfl rfl, sub3 rfl rfl rfl, sub1 rfl, sub1 rfl, sub2 rfl rfl, sub3 rfl rfl rfl, sub2 rfl rfl, sub2 rfl rfl, sub1 rfl, sub2 rfl rfl, sub3 rfl rfl rfl, sub2 rfl rfl, sub2 rfl rfl, sub2 rfl rfl, sub3 rfl rfl rfl, sub1 rfl, sub2 rfl rfl, sub2 rfl rfl, sub2 rfl rfl, sub4 rfl rfl rfl rfl, sub2 rfl rfl, sub2 rfl rfl⟩
theorem ops1_sub : ∀ op ∈ ops1 (F := F), op.bufs ⊆ ucRefs := List.forall_iff_forall_mem.mp
  ⟨sub2 rfl rfl, sub2 rfl rfl, sub2 rfl rfl, sub2 rfl rfl, sub2 rfl rfl, sub3 rfl rfl rfl, sub2 rfl rfl, sub2 rfl rfl, sub3 rfl rfl rfl, sub2 rfl rfl⟩
theorem ops2_sub : ∀ op ∈ ops2 (F := F), op.bufs ⊆ ucRefs := List.forall_iff_forall_mem.mp
  (show List.Forall (fun op : HloOp τ sig (Elt F) => op.bufs ⊆ ucRefs) (ops2 (F := F)) from sub2 rfl rfl)
theorem ops0_fresh : ∀ op ∈ ops0 (F := F), op.fresh = ∅ := List.forall_iff_forall_mem.mp (StableHlo.forall_fresh_of_map rfl)
theorem ops1_fresh : ∀ op ∈ ops1 (F := F), op.fresh = ∅ := List.forall_iff_forall_mem.mp (StableHlo.forall_fresh_of_map rfl)
theorem ops2_fresh : ∀ op ∈ ops2 (F := F), op.fresh = ∅ := List.forall_iff_forall_mem.mp (StableHlo.forall_fresh_of_map rfl)

end Cert.Proof.KI
-- ==== Proof.Steps.lean ====
/-
  The six steps of the gather's pipeline, each with the values it carries: a block of the index list starts into a slot and
  lands there; the rows it names are gathered from the table into a row slot and land there; the row slot starts out to its
  block of the result and lands there. Each is stated at any offsets equal to the slot's and the block's.
-/
module

public import proofs.«01_k».proof.Proof.Common

@[expose] public section

noncomputable section

namespace Cert.Proof.KI

open Cert.KernelIdeal Cert.KernelIdeal.Gen Cert.Proof.Words

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix1 ix2 ix3 ix4)

variable {F : FTy → Type}

local notation "𝕄" => MT nD τ sig (HIx 1) (Elt F) ℕ UU ℕ

/-! ### Reading the views -/

theorem inSlot_emb (u : Fin 2) (j : Fin 128) : (inSlot u).view.emb (ix3 (0 : Fin 1) (0 : Fin 1) j) = (ix4 u (0 : Fin 1) (0 : Fin 1) j : S2x1x1x128.Idx) := by
  show (((View.whole (cc0_scoped0 : Ref sig .scVector)).slice (Rect.unit (s := S2x1x1x128) ![u.val, 0, 0, 0] S1x1x1x128.size (in_inb u))).reshape S1x1x128 _).emb _ = _
  rw [View.emb_reshape, View.emb_slice, View.emb_whole]
  show (Rect.unit (s := S2x1x1x128) ![u.val, 0, 0, 0] S1x1x1x128.size (in_inb u)).emb (Shape.reshapeEquiv _ _) = _
  rw [Shape.reshapeEquiv_cons_one (n := 3) (d := ![1, 1, 128])]
  funext a; apply Fin.ext; rw [Rect.emb_apply]
  fin_cases a
  · show u.val + 1 * 0 = u.val; omega
  · rfl
  · rfl
  · show 0 + 1 * j.val = j.val; omega

theorem outSlot_emb (u : Fin 2) (j c : Fin 128) : (outSlot u).view.emb (ix2 j c) = (ix3 u j c : S2x128x128.Idx) := by
  show (((View.whole (cc0_scoped2 : Ref sig .scVector)).slice (Rect.unit (s := S2x128x128) ![u.val, 0, 0] S1x128x128.size (out_inb u))).reshape S128x128 _).emb _ = _
  rw [View.emb_reshape, View.emb_slice, View.emb_whole]
  show (Rect.unit (s := S2x128x128) ![u.val, 0, 0] S1x128x128.size (out_inb u)).emb (Shape.reshapeEquiv _ _) = _
  rw [Shape.reshapeEquiv_cons_one (n := 2) (d := ![128, 128])]
  funext a; apply Fin.ext; rw [Rect.emb_apply]
  fin_cases a
  · show u.val + 1 * 0 = u.val; omega
  · show 0 + 1 * j.val = j.val; omega
  · show 0 + 1 * c.val = c.val; omega

theorem iBlk_read (b : Fin 6000) (h) (fi : S6000x1x128.Idx → Elt F .i32) (j : Fin 128) :
    (iBlkE ![b.val, 0, 0] h).view.read (Elt F) fi (ix3 (0 : Fin 1) (0 : Fin 1) j) = wordAt fi b j := by
  rw [View.read_apply]
  refine (cast_eq _ _).trans (congrArg fi ?_)
  show (Rect.unit (s := S6000x1x128) ![b.val, 0, 0] S1x1x128.size h).emb _ = _
  funext a; apply Fin.ext; rw [Rect.emb_apply]
  fin_cases a
  · show b.val + 1 * 0 = b.val; omega
  · rfl
  · show 0 + 1 * j.val = j.val; omega

theorem oBlk_emb (b : Fin 6000) (j c : Fin 128) :
    (oBlk b).view.emb (ix2 j c) = (ix2 (⟨128 * b.val + j.val, by omega⟩ : Fin 768000) c : S768000x128.Idx) := by
  show (Rect.unit (s := S768000x128) ![128 * b.val, 0] S128x128.size (oblk_inb b)).emb _ = _
  funext a; apply Fin.ext; rw [Rect.emb_apply]
  fin_cases a
  · show 128 * b.val + 1 * j.val = 128 * b.val + j.val; omega
  · show 0 + 1 * c.val = c.val; omega

theorem tAll_read (ft : S48008x128.Idx → Elt F .f32) : tAll.view.read (Elt F) ft = ft := by
  funext x
  rw [View.read_apply]
  refine (cast_eq _ _).trans (congrArg ft ?_)
  show (Rect.unit (s := S48008x128) ![0, 0] S48008x128.size _).emb x = x
  funext a; apply Fin.ext; rw [Rect.emb_apply]
  fin_cases a
  · show 0 + 1 * (x 0).val = (x 0).val; omega
  · show 0 + 1 * (x 1).val = (x 1).val; omega

theorem tAll_set : tAll.view.set = Finset.univ := by
  show ((View.whole (main_v2_scv : Ref sig .scVector)).slice _).set = _
  rw [View.set_slice_whole]
  ext x; rw [Rect.mem_set_unit]
  refine ⟨fun _ => Finset.mem_univ _, fun _ a => ?_⟩
  fin_cases a
  · exact ⟨Nat.zero_le _, by show (x 0).val < 0 + 48008; have : (x 0).val < 48008 := (x 0).isLt; omega⟩
  · exact ⟨Nat.zero_le _, by show (x 1).val < 0 + 128; have : (x 1).val < 128 := (x 1).isLt; omega⟩

/-- Word `j` of a slot read as a list of 128 words is word `j` of the slot. -/
theorem list_read (u : Fin 2) (f : S2x1x1x128.Idx → Elt F .i32) (j : Fin 128) :
    (listE ![u.val, 0, 0, 0] (in_inb u)).view.read (Elt F) f (ix1 j)
      = (inSlot u).view.read (Elt F) f (ix3 (0 : Fin 1) (0 : Fin 1) j) := by
  rw [View.read_apply, View.read_apply]
  refine (cast_eq _ _).trans ((congrArg f ?_).trans (cast_eq _ _).symm)
  show (inSlot u).view.emb ((Rect.unit (s := S1x1x128) ![0, 0, 0] S1x1x128.size inb_S1x1x128_S1x1x128_0_0_0).emb (Shape.reshapeEquiv _ _)) = _
  refine congrArg _ ?_
  have e : Shape.reshapeEquiv (squeezes_S1x1x128_S128.numel_eq) (ix1 j : S128.Idx) = (ix3 (0 : Fin 1) (0 : Fin 1) j : S1x1x128.Idx) := by
    refine Shape.reshapeEquiv_eq_of_rowMajor _ ?_
    refine (Shape.rowMajor_val_three (d := ![1, 1, 128]) _).trans ((Shape.rowMajor_val_one (d := ![128]) _).trans ?_).symm
    show j.val = (0 * 1 + 0) * 128 + j.val
    omega
  rw [e]
  funext a; apply Fin.ext; rw [Rect.emb_apply]
  fin_cases a
  · rfl
  · rfl
  · show 0 + 1 * j.val = j.val; omega

/-! ### What is held of the buffers -/

section
variable (d : Dev nD) (L : grid0.Coords)

abbrev iPts (q : PosShare TreeShare) (fi : S6000x1x128.Idx → Elt F .i32) : sProp 𝕄 := iV.view.loc (thr d L) ↦{q} fi
abbrev tPts (q : PosShare TreeShare) (ft : S48008x128.Idx → Elt F .f32) : sProp 𝕄 := tAll.view.loc (thr d L) ↦[tAll.view.set]{q} ft
abbrev oPts (b : Fin 6000) (f : S768000x128.Idx → Elt F .f32) : sProp 𝕄 := (oBlk b).view.loc (thr d L) ↦[(oBlk b).view.set]{fullShare} f
abbrev inPts (u : Fin 2) (f : S2x1x1x128.Idx → Elt F .i32) : sProp 𝕄 := (inSlot u).view.loc (thr d L) ↦[(inSlot u).view.set]{fullShare} f
abbrev outPts (u : Fin 2) (f : S2x128x128.Idx → Elt F .f32) : sProp 𝕄 := (outSlot u).view.loc (thr d L) ↦[(outSlot u).view.set]{fullShare} f

/-- Slot `u` of the index buffer holds block `b` of the index list. -/
def inOK (u : Fin 2) (b : Fin 6000) (fi : S6000x1x128.Idx → Elt F .i32) (f : S2x1x1x128.Idx → Elt F .i32) : Prop :=
  ∀ j : Fin 128, (inSlot u).view.read (Elt F) f (ix3 (0 : Fin 1) (0 : Fin 1) j) = wordAt fi b j
/-- Slot `u` of the row buffer holds the rows block `b` of the index list names. -/
def outOK (u : Fin 2) (b : Fin 6000) (ft : S48008x128.Idx → Elt F .f32) (fi : S6000x1x128.Idx → Elt F .i32) (f : S2x128x128.Idx → Elt F .f32) : Prop :=
  ∀ j c : Fin 128, (outSlot u).view.read (Elt F) f (ix2 j c) = ft (ix2 (rowOf (wordAt fi b j)) c)

/-- Slot `u` of the index buffer holds block `b`. -/
abbrev inFull (u : Fin 2) (b : Fin 6000) (fi : S6000x1x128.Idx → Elt F .i32) : sProp 𝕄 := iprop(∃ f, ⌜inOK u b fi f⌝ ∗ inPts d L u f)
/-- Slot `u` of the row buffer holds the rows block `b` names. -/
abbrev outFull (u : Fin 2) (b : Fin 6000) (ft : S48008x128.Idx → Elt F .f32) (fi : S6000x1x128.Idx → Elt F .i32) : sProp 𝕄 :=
  iprop(∃ f, ⌜outOK u b ft fi f⌝ ∗ outPts d L u f)

/-- Block `b` of the index list on its way into slot `u`. -/
abbrev inFl (u : Fin 2) (b : Fin 6000) (q : PosShare TreeShare) (fi : S6000x1x128.Idx → Elt F .i32) : sProp 𝕄 :=
  Transfers.Flight countersEmb (thr d L) (inSem u) (default : HIx 1) (inSlot u).view.dmaCredit iprop(inFull d L u b fi ∗ iPts d L q fi)
/-- The rows block `b` names on their way into slot `u` of the row buffer. -/
abbrev gFl (u u' : Fin 2) (b : Fin 6000) (q : PosShare TreeShare) (ft : S48008x128.Idx → Elt F .f32) (fi : S6000x1x128.Idx → Elt F .i32) : sProp 𝕄 :=
  Transfers.Flight countersEmb (thr d L) gSem (default : HIx 1) (outSlot u).view.dmaCredit
    iprop(outFull d L u b ft fi ∗ tPts d L q ft ∗ ∃ f, inPts d L u' f)
/-- Slot `u` of the row buffer on its way out to block `b` of the result. -/
abbrev outFl (u : Fin 2) (b : Fin 6000) (ft : S48008x128.Idx → Elt F .f32) (fi : S6000x1x128.Idx → Elt F .i32) : sProp 𝕄 :=
  Transfers.Flight countersEmb (thr d L) (outSem u) (default : HIx 1) (oBlk b).view.dmaCredit
    iprop(oPts d L b (gath ft fi) ∗ ∃ f, outPts d L u f)

variable [FloatOps F] {α : Type} {Q : α → sProp (MT nD τ sig (HIx 1) (Elt F) ℕ UU ℕ)}

/-- Block `b` of the index list starts into slot `u`. -/
theorem enq_in (u : Fin 2) (b : Fin 6000) (q : PosShare TreeShare) (fi : S6000x1x128.Idx → Elt F .i32)
    {o4 h4 o5 h5 o6 h6} (e4 : o4 = ![u.val, 0, 0, 0]) (e5 : o5 = ![b.val, 0, 0]) (e6 : o6 = ![u.val])
    {hsrc hdst hsem} {k : PUnit → Prog (TpuEff nD τ sig (Elt F) Λ₀ (thr d L).2) α} :
    iprop(iPts d L q fi ∗ (∃ f, inPts d L u f) ∗ semVal (thr d L, inSem u) 0)
      ⊢ iprop((inFl d L u b q fi -∗ wp frame (wpE (defs₀ (F := F)) 𝒱₀ (thr d L) none) Set.univ (k ⟨⟩) Q)
          -∗ wp frame (wpE (defs₀ (F := F)) 𝒱₀ (thr d L) none) Set.univ (.op (.enqueueDma (iBlkE o5 h5) (.here (inSlotE o4 h4)) (.dma (semE cc0_scoped1 o6 h6).sem) hsrc hdst hsem) k) Q) := by
  subst e4 e5 e6
  iintro ⟨Hi, ⟨%f, Hb⟩, Hv⟩ Hk
  iapply (Transfers.wp_dmaFromWhole countersEmb 𝒱₀ (thr d L) none (default : HIx 1) (inSlot u).view.dmaCredit rfl (View.dmaCredit_pos _ (by decide)) (Finset.Subset.refl _)) $$ [Hi Hb Hv]
  · isplitl [Hi]; · iexact Hi
    isplitl [Hb]; · iexact Hb
    iexact Hv
  iintro Hf
  iapply Hk
  iapply (Transfers.Flight_mono countersEmb (thr d L) (D := _) ?_) $$ Hf
  iintro ⟨Hd, Hs⟩
  isplitl [Hd]
  · iexists _; isplitr
    swap; · iexact Hd
    ipureintro
    intro j
    rw [View.read_write_univ]
    exact iBlk_read b _ fi j
  iexact Hs

/-- Block `b` lands in slot `u`. -/
theorem wait_in (u : Fin 2) (b : Fin 6000) (q : PosShare TreeShare) (fi : S6000x1x128.Idx → Elt F .i32)
    {O : CellTallies nD τ sig (HIx 1)} {W : Waits sig (HIx 1)}
    {o7 h7 o8 h8 o9 h9} (e7 : o7 = ![u.val, 0, 0, 0]) (e9 : o9 = ![u.val])
    {hsrc hdst} {k : PUnit → Prog (TpuEff nD τ sig (Elt F) Λ₀ (thr d L).2) α} :
    iprop(inFl d L u b q fi ∗ owes (thr d L) O W ∗ Transfers.MayWaits (thr d L) (default : HIx 1) O)
      ⊢ iprop(((inFull d L u b fi ∗ iPts d L q fi) ∗ semVal (thr d L, inSem u) 0 ∗ owes (thr d L) O (insert (inSem u, default) W) -∗ wp frame (wpE (defs₀ (F := F)) 𝒱₀ (thr d L) none) Set.univ (k ⟨⟩) Q)
          -∗ wp frame (wpE (defs₀ (F := F)) 𝒱₀ (thr d L) none) Set.univ (.op (.waitDma2 (semE cc0_scoped1 o9 h9).sem (iBlkE o8 h8) (inSlotE o7 h7) hsrc hdst) k) Q) := by
  subst e7 e9
  iintro ⟨Hf, HO, Hmw⟩ Hk
  iapply (Transfers.wp_waitLocalO countersEmb 𝒱₀ (thr d L) none (default : HIx 1) (rfl : (inSlot u).view.dmaCredit = _)) $$ [Hf HO Hmw]
  · isplitl [Hf]; · iexact Hf
    isplitl [HO]; · iexact HO
    iapply (Transfers.MayWaits.elim (inSem u)) $$ Hmw
  iexact Hk

omit [FloatOps F] in
/-- The gather's 128 row transfers count together what one transfer of the slot counts. -/
theorem gather_credit : ∀ (u : Fin 2) (h : S48008x128.Gathers 0 S128x128),
    ∑ j, ((outSlot u).slice (S128x128.rowRect h.axis' j) (S128x128.stride_rowRect h.axis' j)).view.dmaCredit = (outSlot u).view.dmaCredit := by
  decide

/-- The rows block `b` names start from the table into slot `u`. -/
theorem gather_go (u u' : Fin 2) (b : Fin 6000) (q : PosShare TreeShare) (ft : S48008x128.Idx → Elt F .f32) (fi : S6000x1x128.Idx → Elt F .i32)
    (hin : ∀ j : Fin 128, (wordAt fi b j).toNat < 48008)
    {o10 h10 o11 h11} (e10 : o10 = ![u.val, 0, 0]) (e11 : o11 = ![u'.val, 0, 0, 0])
    {hn} {hp} {hsrc} {he} {hr} {hsp} {k : PUnit → Prog (TpuEff nD τ sig (Elt F) Λ₀ (thr d L).2) α} :
    iprop(tPts d L q ft ∗ (∃ f, outPts d L u f) ∗ inFull d L u' b fi ∗ semVal (thr d L, gSem) 0)
      ⊢ iprop((gFl d L u u' b q ft fi -∗ wp frame (wpE (defs₀ (F := F)) 𝒱₀ (thr d L) none) Set.univ (k ⟨⟩) Q)
          -∗ wp frame (wpE (defs₀ (F := F)) 𝒱₀ (thr d L) none) Set.univ
              (SparseCore.enqueueIndirectGather hp tAll (outSlotE o10 h10) gathers_S48008x128_S128x128 (listE o11 h11) hn cc0_scoped4.sem hsrc he hsp hr >>= k) Q) := by
  subst e10 e11
  iintro ⟨Ht, ⟨%fd, Hd⟩, ⟨%fo, %hfo, Ho⟩, Hv⟩ Hk
  have hw : ∀ j : Fin 128, (listE ![u'.val, 0, 0, 0] (in_inb u')).view.read (Elt F) fo (ix1 j) = wordAt fi b j :=
    fun j => (list_read u' fo j).trans (hfo j)
  have hin' : ∀ x, ((listE ![u'.val, 0, 0, 0] (in_inb u')).view.read (Elt F) fo x).toNat < S48008x128.size gathers_S48008x128_S128x128.axis := by
    intro x
    obtain ⟨j, rfl⟩ : ∃ j : Fin 128, x = ix1 j := ⟨x 0, ValueIdx.eq_ix1 x⟩
    rw [hw j]; exact hin j
  have hset := listE_set ![u'.val, 0, 0, 0] (in_inb u')
  iapply (SparseCore.wp_indirectGatherLocal countersEmb 𝒱₀ (thr d L) none (hg := gathers_S48008x128_S128x128) (default : HIx 1)
      (outSlot u).view.dmaCredit (gather_credit u _) (by decide) hin') $$ [Ht Hd Ho Hv]
  · isplitl [Ht]; · iexact Ht
    isplitl [Hd]; · iexact Hd
    isplitl [Ho]; · rw [hset]; iexact Ho
    iexact Hv
  iintro Hf
  iapply Hk
  iapply (Transfers.Flight_mono countersEmb (thr d L) (D := _) ?_) $$ Hf
  iintro ⟨Hd, Hs, Ho⟩
  isplitl [Hd]
  · iexists _; isplitr
    swap; · iexact Hd
    ipureintro
    intro j c
    rw [View.read_write_univ, tAll_read]
    refine congrArg ft ?_
    funext a; apply Fin.ext
    fin_cases a
    · refine (congrArg Fin.val (Shape.Gathers.idx_axis gathers_S48008x128_S128x128 _ _)).trans ?_
      show ((listE ![u'.val, 0, 0, 0] (in_inb u')).view.read (Elt F) fo _).toNat = (wordAt fi b j).toNat % 48008
      rw [Nat.mod_eq_of_lt (hin j), ← hw j]
      refine congrArg (fun x => ((listE ![u'.val, 0, 0, 0] (in_inb u')).view.read (Elt F) fo x).toNat) ?_
      rw [Equiv.symm_apply_eq]
      apply Fin.ext
      exact (Shape.rowMajor_val_one (d := ![128]) (ix1 j)).symm
    · refine (Shape.Gathers.idx_of_ne gathers_S48008x128_S128x128 _ _ (1 : Fin 2) (by decide)).trans ?_
      rfl
  isplitl [Hs]; · iexact Hs
  iexists fo; rw [hset]; iexact Ho

/-- They land there. -/
theorem gather_wait (u u' : Fin 2) (b : Fin 6000) (q : PosShare TreeShare) (ft : S48008x128.Idx → Elt F .f32) (fi : S6000x1x128.Idx → Elt F .i32)
    {O : CellTallies nD τ sig (HIx 1)} {W : Waits sig (HIx 1)} {o h} (e : o = ![u.val, 0, 0])
    {hsrc hdst} {k : PUnit → Prog (TpuEff nD τ sig (Elt F) Λ₀ (thr d L).2) α} :
    iprop(gFl d L u u' b q ft fi ∗ owes (thr d L) O W ∗ Transfers.MayWaits (thr d L) (default : HIx 1) O)
      ⊢ iprop(((outFull d L u b ft fi ∗ tPts d L q ft ∗ ∃ f, inPts d L u' f) ∗ semVal (thr d L, gSem) 0 ∗ owes (thr d L) O (insert (gSem, default) W)
            -∗ wp frame (wpE (defs₀ (F := F)) 𝒱₀ (thr d L) none) Set.univ (k ⟨⟩) Q)
          -∗ wp frame (wpE (defs₀ (F := F)) 𝒱₀ (thr d L) none) Set.univ (.op (.waitDma2 cc0_scoped4.sem tAll (outSlotE o h) hsrc hdst) k) Q) := by
  subst e
  iintro ⟨Hf, HO, Hmw⟩ Hk
  iapply (Transfers.wp_waitLocalO countersEmb 𝒱₀ (thr d L) none (default : HIx 1) (rfl : (outSlot u).view.dmaCredit = _)) $$ [Hf HO Hmw]
  · isplitl [Hf]; · iexact Hf
    isplitl [HO]; · iexact HO
    iapply (Transfers.MayWaits.elim gSem) $$ Hmw
  iexact Hk

/-- Slot `u` of the row buffer starts out to block `b`. -/
theorem enq_out (u : Fin 2) (b : Fin 6000) (ft : S48008x128.Idx → Elt F .f32) (fi : S6000x1x128.Idx → Elt F .i32)
    {o12 h12 o13 h13 o14 h14} (e12 : o12 = ![u.val, 0, 0]) (e13 : o13 = ![128 * b.val, 0]) (e14 : o14 = ![u.val])
    {hsrc hdst hsem} {k : PUnit → Prog (TpuEff nD τ sig (Elt F) Λ₀ (thr d L).2) α} :
    iprop(outFull d L u b ft fi ∗ (∃ f, oPts d L b f) ∗ semVal (thr d L, outSem u) 0)
      ⊢ iprop((outFl d L u b ft fi -∗ wp frame (wpE (defs₀ (F := F)) 𝒱₀ (thr d L) none) Set.univ (k ⟨⟩) Q)
          -∗ wp frame (wpE (defs₀ (F := F)) 𝒱₀ (thr d L) none) Set.univ
            (.op (.enqueueDma (outSlotE o12 h12) (.here (oBlkE o13 h13)) (.dma (semE cc0_scoped3 o14 h14).sem) hsrc hdst hsem) k) Q) := by
  subst e12 e13 e14
  iintro ⟨⟨%fs, %hfs, Hs⟩, ⟨%f, Hb⟩, Hv⟩ Hk
  iapply (Transfers.wp_dmaLocal countersEmb 𝒱₀ (thr d L) none (default : HIx 1) (oBlk b).view.dmaCredit rfl (View.dmaCredit_pos _ (by decide)) (Finset.Subset.refl _)) $$ [Hs Hb Hv]
  · isplitl [Hs]; · iexact Hs
    isplitl [Hb]; · iexact Hb
    iexact Hv
  iintro Hf
  iapply Hk
  iapply (Transfers.Flight_mono countersEmb (thr d L) (D := _) ?_) $$ Hf
  iintro ⟨Hd, Hs⟩
  isplitl [Hd]
  · iapply (Entails.of_eq (pointsTo_congr fun x hx => ?_)) $$ Hd
    obtain ⟨y, -, rfl⟩ := Finset.mem_map.mp hx
    obtain ⟨j, c, rfl⟩ : ∃ j c : Fin 128, y = ix2 j c := ⟨y 0, y 1, ValueIdx.eq_ix2 y⟩
    rw [View.write_emb_of_mem _ _ (Finset.mem_univ _)]
    refine (cast_eq _ _).trans ((hfs j c).trans ?_)
    rw [oBlk_emb]
    unfold gath
    refine congrArg ft (congrArg₂ ix2 (congrArg rowOf (congrArg₂ (wordAt fi) (Fin.ext ?_) (Fin.ext ?_))) rfl)
    · show b.val = (128 * b.val + j.val) / 128; omega
    · show j.val = (128 * b.val + j.val) % 128; omega
  iexists _; iexact Hs

/-- Block `b` lands. -/
theorem wait_out (u : Fin 2) (b : Fin 6000) (ft : S48008x128.Idx → Elt F .f32) (fi : S6000x1x128.Idx → Elt F .i32)
    {O : CellTallies nD τ sig (HIx 1)} {W : Waits sig (HIx 1)}
    {o15 h15 o16 h16 o17 h17} (e17 : o17 = ![u.val])
    {hsrc hdst} {k : PUnit → Prog (TpuEff nD τ sig (Elt F) Λ₀ (thr d L).2) α} :
    iprop(outFl d L u b ft fi ∗ owes (thr d L) O W ∗ Transfers.MayWaits (thr d L) (default : HIx 1) O)
      ⊢ iprop(((oPts d L b (gath ft fi) ∗ ∃ f, outPts d L u f) ∗ semVal (thr d L, outSem u) 0 ∗ owes (thr d L) O (insert (outSem u, default) W)
            -∗ wp frame (wpE (defs₀ (F := F)) 𝒱₀ (thr d L) none) Set.univ (k ⟨⟩) Q)
          -∗ wp frame (wpE (defs₀ (F := F)) 𝒱₀ (thr d L) none) Set.univ
            (.op (.waitDma2 (semE cc0_scoped3 o17 h17).sem (outSlotE o15 h15) (oBlkE o16 h16) hsrc hdst) k) Q) := by
  subst e17
  iintro ⟨Hf, HO, Hmw⟩ Hk
  iapply (Transfers.wp_waitLocalO countersEmb 𝒱₀ (thr d L) none (default : HIx 1) (rfl : (oBlkE o16 h16).view.dmaCredit = (oBlk b).view.dmaCredit)) $$ [Hf HO Hmw]
  · isplitl [Hf]; · iexact Hf
    isplitl [HO]; · iexact HO
    iapply (Transfers.MayWaits.elim (outSem u)) $$ Hmw
  iexact Hk

end

end Cert.Proof.KI
-- ==== Proof.Words2.lean ====
/-
  The words one trip of the gather's loop computes, and the words it hands to the next.
-/
module

public import proofs.«01_k».proof.Proof.Words

@[expose] public section

set_option maxHeartbeats 4000000
set_option maxRecDepth 100000

namespace Cert.Proof.Words

open Cert.KernelIdeal Cert.KernelIdeal.Gen
open Idealize.ShloMosaic

/-- The trip's index, as the loop's counter word. -/
def p5 (t : ℕ) : BitVec 32 := Scf.iv 0#32 1#32 t
def p80 (n : BitVec 32) : BitVec 32 := Scalar.muli 1#32 n
def p81 (x : BitVec 32) : BitVec 1 := Scalar.cmpi .eq x 0#32
def p83 (n x : BitVec 32) : BitVec 1 := Scalar.cmpi .eq x (Scalar.subi (p80 n) 1#32)
def p84 (b a : BitVec 32) : BitVec 32 := Scalar.addi a b
/-- The block before this one, around. -/
def p89 (n a : BitVec 32) : BitVec 32 :=
  let v86 := Scalar.select 1#1 (Scalar.subi a 1#32) a
  Scalar.select (Scalar.cmpi .eq v86 4294967295#32) (Scalar.subi n 1#32) v86
def p90 (n b a : BitVec 32) : BitVec 32 := Scalar.addi (p89 n a) b
/-- The block after this one, around. -/
def p94 (n a : BitVec 32) : BitVec 32 :=
  let v92 := Scalar.select 1#1 (Scalar.addi a 1#32) a
  Scalar.select (Scalar.cmpi .eq v92 n) 0#32 v92
def p95 (n b a : BitVec 32) : BitVec 32 := Scalar.addi (p94 n a) b
def p113 (n b a : BitVec 32) : BitVec 1 := Scalar.cmpi .ne (p84 b a) (p95 n b a)
def p112 (n b x a6 a : BitVec 32) : BitVec 32 :=
  Scalar.select (Scalar.andi (Scalar.andi (p113 n b a) (Scalar.xori (Scalar.cmpi .sge x (Scalar.addi (Scalar.subi (p80 n) 2#32) 1#32)) 1#1)) 1#1)
    (Scalar.addi a6 1#32) a6
def p144 (n b x a8 a : BitVec 32) : BitVec 32 :=
  Scalar.select (Scalar.andi (Scalar.ori (p113 n b a) (p83 n x)) 1#1) (Scalar.addi a8 1#32) a8
def p162 (n b x a7 a : BitVec 32) : BitVec 32 :=
  Scalar.select (Scalar.ori (p113 n b a) (p83 n x)) (Scalar.addi a7 1#32) a7
def p158 (n b x a9 a : BitVec 32) : BitVec 32 :=
  Scalar.select (Scalar.andi (Scalar.andi (Scalar.cmpi .ne (p84 b a) (p90 n b a)) (Scalar.xori (p81 x) 1#1)) 1#1) (Scalar.addi a9 1#32) a9

/-- The five words the loop carries, at the top of trip `t`. -/
abbrev carry (c : Fin 2) (t : ℕ) : BitVec 32 × BitVec 32 × BitVec 32 × BitVec 32 × BitVec 32 :=
  (w (min (t + 1) (nB c)), w t, w t, w (t - 1), w (if t < nB c then t else 0))

theorem iv_eq (t : ℕ) : p5 t = w t := by
  unfold p5 Scf.iv
  simp

/-- Adding the base keeps words apart. -/
theorem ne_base (a x b : BitVec 32) : Scalar.cmpi .ne (Scalar.addi a b) (Scalar.addi x b) = Scalar.cmpi .ne a x := by
  have h : (a + b == x + b) = (a == x) := by rw [Bool.eq_iff_iff]; simp
  simp [Scalar.cmpi, Scalar.addi, IntOp.cmpi, IntOp.addi, bne, h]

theorem next112 : ∀ (c : Fin 2) (t : Fin 188), t.val < nB c →
    p112 (w (nB c)) 0#32 (w t.val) (w (t.val + 1)) (w t.val) = w (min (t.val + 1 + 1) (nB c)) := by
  decide +kernel
theorem next144 : ∀ (c : Fin 2) (t : Fin 188), t.val < nB c →
    p144 (w (nB c)) 0#32 (w t.val) (w t.val) (w t.val) = w (t.val + 1) := by
  decide +kernel
theorem next162 : ∀ (c : Fin 2) (t : Fin 188), t.val < nB c →
    p162 (w (nB c)) 0#32 (w t.val) (w t.val) (w t.val) = w (t.val + 1) := by
  decide +kernel
theorem next158 : ∀ (c : Fin 2) (t : Fin 188), t.val < nB c →
    p158 (w (nB c)) 0#32 (w t.val) (w (t.val - 1)) (w t.val) = w (t.val + 1 - 1) := by
  decide +kernel
theorem next166 : ∀ (c : Fin 2) (t : Fin 188), t.val < nB c →
    p94 (w (nB c)) (w t.val) = w (if t.val + 1 < nB c then t.val + 1 else 0) := by
  decide +kernel

theorem p113_base (n b a : BitVec 32) : p113 n b a = p113 n 0#32 a := by
  unfold p113 p84 p95; rw [ne_base, ne_base]

theorem next {c : Fin 2} (b : BitVec 32) {t : ℕ} (ht : t < nB c) :
    (p112 (w (nB c)) b (p5 t) (w (t + 1)) (w t), p162 (w (nB c)) b (p5 t) (w t) (w t),
      p144 (w (nB c)) b (p5 t) (w t) (w t), p158 (w (nB c)) b (p5 t) (w (t - 1)) (w t), p94 (w (nB c)) (w t)) = carry c (t + 1) := by
  have h : t < 188 := ht.trans_le (nB_le c)
  have e1 := next112 c ⟨t, h⟩ ht
  have e2 := next162 c ⟨t, h⟩ ht
  have e3 := next144 c ⟨t, h⟩ ht
  have e4 := next158 c ⟨t, h⟩ ht
  have e5 := next166 c ⟨t, h⟩ ht
  unfold p112 at e1 ⊢
  unfold p162 at e2 ⊢
  unfold p144 at e3 ⊢
  unfold p158 p84 p90 at e4 ⊢
  rw [iv_eq, p113_base _ b]
  rw [ne_base] at e4 ⊢
  rw [e1, e2, e3, e4, e5]

/-- A tile's number. -/
def tileNo (i : grid0.Coords) : BitVec 32 :=
  Scalar.addi (Scalar.addi 0#32 (Scalar.muli (BitVec.ofNat 32 (i 1).val) 1#32)) (Scalar.muli (BitVec.ofNat 32 (i 0).val) 16#32)
/-- How many blocks the tile has. -/
def pN (i : grid0.Coords) : BitVec 32 := Scalar.select (Scalar.cmpi .slt (tileNo i) 16#32) 188#32 187#32
/-- The tile's first block. -/
def pB (i : grid0.Coords) : BitVec 32 :=
  Scalar.select (Scalar.cmpi .slt (tileNo i) 16#32) (Scalar.muli (tileNo i) (pN i)) (Scalar.addi (Scalar.muli (tileNo i) 187#32) 16#32)
theorem pN_eq : ∀ (c : Fin 2) (s : Fin 16), pN (cs c s) = w (nB c) := by decide +kernel
theorem pB_eq : ∀ (c : Fin 2) (s : Fin 16), pB (cs c s) = w (base c s) := by decide +kernel
/-- The slot word after the copy that starts the pipeline. -/
def p41 (n : BitVec 32) : BitVec 32 := Scalar.select (Scalar.andi 1#1 (Scalar.cmpi .sgt (Scalar.muli 1#32 n) 0#32)) (Scalar.addi 0#32 1#32) 0#32
theorem p41_eq : ∀ (c : Fin 2), p41 (w (nB c)) = w (min (0 + 1) (nB c)) := by decide +kernel
theorem trips2 : ∀ (c : Fin 2) (s : Fin 16), (k0_t2_loop (cs c s)).trips = 0 := by decide +kernel

end Cert.Proof.Words
-- ==== Proof.Trip.lean ====
/-
  One trip of the gather's loop, from its invariant before the trip to its invariant after.
-/
module

public import proofs.«01_k».proof.Proof.Steps
public import proofs.«01_k».proof.Proof.Words2

@[expose] public section

noncomputable section

namespace Cert.Proof.KI

open Cert.KernelIdeal Cert.KernelIdeal.Gen Cert.Proof.Words

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix1 ix2 ix3 ix4)

variable {F : FTy → Type}

local notation "𝕄" => MT nD τ sig (HIx 1) (Elt F) ℕ UU ℕ

/-- The slot trip `t` works in. -/
def sl (t : ℕ) : Fin 2 := ⟨t % 2, Nat.mod_lt _ (by decide)⟩
/-- The block trip `t` of tile `(c, s)` gathers. -/
def bk (c : Fin 2) (s : Fin 16) (t : ℕ) : Fin 6000 := ⟨(base c s + t) % 6000, Nat.mod_lt _ (by decide)⟩

theorem sl_val (t : ℕ) : (sl t).val = t % 2 := rfl
theorem par {t : ℕ} (h : 0 < t) : (t - 1) % 2 = (t + 1) % 2 := by omega
theorem bk_val {c : Fin 2} {s : Fin 16} {t : ℕ} (h : t < nB c) : (bk c s t).val = base c s + t := by
  have := base_add_le c s
  exact Nat.mod_eq_of_lt (by omega)

section
variable (d : Dev nD) (c : Fin 2) (s : Fin 16) (iq : Fin 2 → PosShare TreeShare) (tq : PosShare TreeShare)
  (ft : S48008x128.Idx → Elt F .f32) (fi : S6000x1x128.Idx → Elt F .i32)

/-- An index slot at rest, with the share of the index list its copies read. -/
abbrev inIdle (u : Fin 2) : sProp 𝕄 :=
  iprop(iPts d (cs c s) (iq u) fi ∗ (∃ f, inPts d (cs c s) u f) ∗ semVal (thr d (cs c s), inSem u) 0)
/-- A row slot at rest. -/
abbrev outIdle (u : Fin 2) : sProp 𝕄 := iprop((∃ f, outPts (F := F) d (cs c s) u f) ∗ semVal (thr d (cs c s), outSem u) 0)

/-- The index slot of trip `t`, before it: block `t` is on its way, if there is one. -/
abbrev inAt (t : ℕ) : sProp 𝕄 := if t < nB c then inFl d (cs c s) (sl t) (bk c s t) (iq (sl t)) fi else inIdle d c s iq fi (sl t)
/-- The row slot of trip `t`, after it: block `t` is on its way out. -/
abbrev outAt (t : ℕ) : sProp 𝕄 := if 0 < t then outFl d (cs c s) (sl (t + 1)) (bk c s (t - 1)) ft fi else outIdle d c s (sl (t + 1))

/-- The blocks of trips `t` to the last, at any contents. -/
abbrev todo (t : ℕ) : sProp 𝕄 := bigSep (Finset.Ico t (nB c)) fun j => iprop(∃ f, oPts (F := F) d (cs c s) (bk c s j) f)
/-- The blocks of the trips before `t`, gathered. -/
abbrev done (t : ℕ) : sProp 𝕄 := bigSep (Finset.range t) fun j => oPts d (cs c s) (bk c s j) (gath ft fi)

theorem outAt_pos {t : ℕ} (h : 0 < t) : outAt d c s ft fi t = outFl d (cs c s) (sl (t + 1)) (bk c s (t - 1)) ft fi := if_pos h
theorem outAt_neg {t : ℕ} (h : ¬ 0 < t) : outAt d c s ft fi t = outIdle d c s (sl (t + 1)) := if_neg h

variable [FloatOps F]

omit [FloatOps F] in
/-- One effect, then what follows it. -/
theorem lift_bind {κ : Proc τ} {α β : Type} (e : TpuEff nD τ sig (Elt F) Λ₀ κ α) (k : α → Prog (TpuEff nD τ sig (Elt F) Λ₀ κ) β) :
    (Prog.lift e >>= k) = .op e k := rfl

/-- A side condition that holds is passed. -/
theorem assume_at {L : grid0.Coords} {α : Type} {P : Prop} {dP : Decidable P} (h : P)
    {k : PLift P → Prog (TpuEff nD τ sig (Elt F) Λ₀ (thr d L).2) α} {Q : α → sProp (MT nD τ sig (HIx 1) (Elt F) ℕ UU ℕ)} :
    wp frame (wpE (defs₀ (F := F)) 𝒱₀ (thr d L) none) Set.univ (k ⟨h⟩) Q
      ⊢ wp frame (wpE (defs₀ (F := F)) 𝒱₀ (thr d L) none) Set.univ (.op (.assume P dP) k) Q :=
  wp_assume 𝒱₀ (thr d L) none Set.univ h

/-- A part of the trip run first, then what follows it. -/
theorem wp_step {L : grid0.Coords} {α β : Type} {p : Prog (TpuEff nD τ sig (Elt F) Λ₀ (thr d L).2) α} {Φ : α → sProp (MT nD τ sig (HIx 1) (Elt F) ℕ UU ℕ)} {P : sProp (MT nD τ sig (HIx 1) (Elt F) ℕ UU ℕ)}
    (h : P ⊢ wp frame (wpE (defs₀ (F := F)) 𝒱₀ (thr d L) none) Set.univ p Φ)
    {k : α → Prog (TpuEff nD τ sig (Elt F) Λ₀ (thr d L).2) β} {Q : β → sProp (MT nD τ sig (HIx 1) (Elt F) ℕ UU ℕ)} :
    P ⊢ (∀ a, Φ a -∗ wp frame (wpE (defs₀ (F := F)) 𝒱₀ (thr d L) none) Set.univ (k a) Q)
      -∗ wp frame (wpE (defs₀ (F := F)) 𝒱₀ (thr d L) none) Set.univ (p >>= k) Q := by
  rw [wp_bind]
  refine h.trans (BI.wand_intro ?_)
  exact wp_wand_r frame _ Set.univ

set_option maxHeartbeats 400000 in
theorem part1 (k : Fin (k0_t1_loop (cs c s)).trips) :
    inIdle d c s iq fi (sl (k.val + 1))
      ⊢ wp frame (wpE (defs₀ (F := F)) 𝒱₀ (thr d (cs c s)) none) Set.univ
          (k0_part1 (cs c s) tV (Memref.isWhole_whole _) iV (Memref.isWhole_whole _) oV (Memref.isWhole_whole _)
            inV (Memref.isWhole_whole _) cc0_scoped1 outV (Memref.isWhole_whole _) cc0_scoped3 cc0_scoped4 cc0_scoped5
            (w (nB c)) (w (base c s)) (cond1 c s) 0#32 1#32 k (w (k.val + 1)) (w k.val) (w k.val) (w (k.val - 1)) (w k.val))
          fun r => iprop(⌜∃ h3 h2 h1, r = ⟨h3, h2, h1, p5 k.val, p80 (w (nB c)), p81 (p5 k.val), p83 (w (nB c)) (p5 k.val),
              p84 (w (base c s)) (w k.val), p90 (w (nB c)) (w (base c s)) (w k.val), p95 (w (nB c)) (w (base c s)) (w k.val),
              p112 (w (nB c)) (w (base c s)) (p5 k.val) (w (k.val + 1)) (w k.val), p113 (w (nB c)) (w (base c s)) (w k.val), 2#32⟩⌝
            ∗ inAt d c s iq fi (k.val + 1)) := by
  have hk : k.val < nB c := trips_eq c s ▸ k.isLt
  have h1 := Words.chk1 c s k
  have h2 : k0_chk2 (cs c s) (w k.val) := Words.chk2 c s ⟨k.val, hk.trans_le (nB_le c)⟩
  have h3 : k0_chk3 (cs c s) (w k.val) := Words.chk3 c s ⟨k.val, hk.trans_le (nB_le c)⟩
  rw [k0_part1_eq_skeleton]
  unfold k0_part1_skel
  simp only [lift_bind, pure_bind]
  refine BIBase.Entails.trans ?_ (assume_at d (L := cs c s) h3)
  refine BIBase.Entails.trans ?_ (assume_at d (L := cs c s) h2)
  refine BIBase.Entails.trans ?_ (assume_at d (L := cs c s) h1)
  by_cases hc : k.val + 1 < nB c
  · rw [dif_pos ((Words.cond3 c s k).mpr hc)]
    unfold inAt
    rw [if_pos hc]
    iintro ⟨Hi, Hin, Hs⟩
    have e4 : k0_off4 (w (k.val + 1)) = ![(sl (k.val + 1)).val, 0, 0, 0] := Words.off4 ⟨k.val + 1, by have := nB_le c; omega⟩
    have e5 : k0_off5 (cs c s) (w k.val) = ![(bk c s (k.val + 1)).val, 0, 0] := by
      rw [bk_val hc]; exact Words.off5 c s ⟨k.val, hk.trans_le (nB_le c)⟩ hc
    have e6 : k0_off6 (w (k.val + 1)) = ![(sl (k.val + 1)).val] := Words.off6 ⟨k.val + 1, by have := nB_le c; omega⟩
    iapply (enq_in d (cs c s) (sl (k.val + 1)) (bk c s (k.val + 1)) (iq (sl (k.val + 1))) fi e4 e5 e6) $$ [Hi Hin Hs]
    · isplitl [Hi]
      · iexact Hi
      isplitl [Hin]
      · iexact Hin
      · iexact Hs
    iintro Hfl
    rw [wp_pure]
    imodintro
    isplitr
    · ipureintro
      exact ⟨h3, h2, h1, rfl⟩
    · iexact Hfl
  · rw [dif_neg (fun h => hc ((Words.cond3 c s k).mp h))]
    unfold inAt
    rw [if_neg hc]
    iintro H
    rw [wp_pure]
    imodintro
    isplitr
    · ipureintro
      exact ⟨h3, h2, h1, rfl⟩
    · iexact H

/-- What the tile still owes, whatever waits it has made. -/
abbrev owesUp (O : CellTallies nD τ sig (HIx 1)) (W : Waits sig (HIx 1)) : sProp 𝕄 :=
  iprop(∃ W' : Waits sig (HIx 1), ⌜∀ p ∈ W', p ∈ W ∨ p.2 = none⌝ ∗ owes (thr d (cs c s)) O W')

omit [FloatOps F] in
theorem owesUp_insert {W W' : Waits sig (HIx 1)} (hW : ∀ p ∈ W', p ∈ W ∨ p.2 = none) (x : SemLoc sig) :
    ∀ p ∈ insert (x, (default : HIx 1)) W', p ∈ W ∨ p.2 = none := by
  intro p hp
  rcases Finset.mem_insert.mp hp with hp | hp
  · exact .inr (hp ▸ rfl)
  · exact hW p hp

set_option maxHeartbeats 400000 in
theorem part2 (k : Fin (k0_t1_loop (cs c s)).trips) {O : CellTallies nD τ sig (HIx 1)} {W : Waits sig (HIx 1)}
    (hin : ∀ b j, (wordAt fi b j).toNat < 48008) (h3 h2 h1 a5 a80 a81 a84 a90 a113) :
    iprop(Transfers.MayWaits (thr d (cs c s)) (default : HIx 1) O
        ∗ inFl d (cs c s) (sl k.val) (bk c s k.val) (iq (sl k.val)) fi ∗ (∃ f, outPts (F := F) d (cs c s) (sl k.val) f)
        ∗ tPts d (cs c s) tq ft ∗ semVal (thr d (cs c s), gSem) 0 ∗ owesUp d c s O W)
      ⊢ wp frame (wpE (defs₀ (F := F)) 𝒱₀ (thr d (cs c s)) none) Set.univ
          (k0_part2 (cs c s) tV (Memref.isWhole_whole _) iV (Memref.isWhole_whole _) oV (Memref.isWhole_whole _)
            inV (Memref.isWhole_whole _) cc0_scoped1 outV (Memref.isWhole_whole _) cc0_scoped3 cc0_scoped4 cc0_scoped5
            (cond1 c s) k (w (k.val + 1)) (w k.val) (w k.val) (w (k.val - 1)) (w k.val) h3 h2 h1 a5 a80 a81 a84 a90 a113 2#32)
          fun _ => iprop(gFl d (cs c s) (sl k.val) (sl k.val) (bk c s k.val) tq ft fi
            ∗ iPts d (cs c s) (iq (sl k.val)) fi ∗ semVal (thr d (cs c s), inSem (sl k.val)) 0 ∗ owesUp d c s O W) := by
  have hk : k.val < nB c := trips_eq c s ▸ k.isLt
  have hk' : k.val < 188 := hk.trans_le (nB_le c)
  rw [k0_part2_eq_skeleton]
  unfold k0_part2_skel
  simp only [lift_bind, pure_bind, ite_self]
  rw [dif_pos (Words.cond4 c s k)]
  have e7 : k0_off7 (w k.val) = ![(sl k.val).val, 0, 0, 0] := Words.off7 ⟨k.val, Nat.lt_succ_of_lt hk'⟩
  have e9 : k0_off9 (w k.val) = ![(sl k.val).val] := Words.off9 ⟨k.val, Nat.lt_succ_of_lt hk'⟩
  have e10 : k0_off10 (w k.val) = ![(sl k.val).val, 0, 0] := Words.off10 ⟨k.val, Nat.lt_succ_of_lt hk'⟩
  have e11 : k0_off11 (w k.val) = ![(sl k.val).val, 0, 0, 0] := Words.off11 ⟨k.val, Nat.lt_succ_of_lt hk'⟩
  iintro ⟨#Hmw, Hfl, Hout, Ht, Hg, ⟨%W1, %hW1, HO⟩⟩
  iapply (wait_in d (cs c s) (sl k.val) (bk c s k.val) (iq (sl k.val)) fi e7 e9) $$ [Hfl HO]
  · isplitl [Hfl]
    · iexact Hfl
    isplitl [HO]
    · iexact HO
    · iexact Hmw
  iintro ⟨⟨Hfull, Hi⟩, Hs, HO⟩
  iapply (gather_go d (cs c s) (sl k.val) (sl k.val) (bk c s k.val) tq ft fi (hin _) e10 e11) $$ [Ht Hout Hfull Hg]
  · isplitl [Ht]
    · iexact Ht
    isplitl [Hout]
    · iexact Hout
    isplitl [Hfull]
    · iexact Hfull
    · iexact Hg
  iintro Hgf
  rw [wp_pure]
  imodintro
  isplitl [Hgf]
  · iexact Hgf
  isplitl [Hi]
  · iexact Hi
  isplitl [Hs]
  · iexact Hs
  iexists _
  isplitr
  rotate_left
  · iexact HO
  · ipureintro
    exact owesUp_insert hW1 _

set_option maxHeartbeats 400000 in
theorem trip (k : Fin (k0_t1_loop (cs c s)).trips) {O : CellTallies nD τ sig (HIx 1)} {W : Waits sig (HIx 1)}
    (hin : ∀ b j, (wordAt fi b j).toNat < 48008) (v11 v41 c1 c2 c3 c4 v45) :
    iprop(Transfers.MayWaits (thr d (cs c s)) (default : HIx 1) O
        ∗ inFl d (cs c s) (sl k.val) (bk c s k.val) (iq (sl k.val)) fi ∗ inIdle d c s iq fi (sl (k.val + 1))
        ∗ outIdle d c s (sl k.val) ∗ outAt d c s ft fi k.val
        ∗ (∃ f, oPts (F := F) d (cs c s) (bk c s k.val) f)
        ∗ tPts d (cs c s) tq ft ∗ semVal (thr d (cs c s), gSem) 0 ∗ owesUp d c s O W)
      ⊢ wp frame (wpE (defs₀ (F := F)) 𝒱₀ (thr d (cs c s)) none) Set.univ
          (k0_t1_body (cs c s) tV (Memref.isWhole_whole _) iV (Memref.isWhole_whole _) oV (Memref.isWhole_whole _)
            inV (Memref.isWhole_whole _) cc0_scoped1 outV (Memref.isWhole_whole _) cc0_scoped3 cc0_scoped4 cc0_scoped5
            (w (nB c)) (w (base c s)) v11 (cond1 c s) v41 0#32 c1 c2 c3 c4 v45 k (w (k.val + 1), w k.val, w k.val, w (k.val - 1), w k.val))
          fun r => iprop(⌜r = carry c (k.val + 1)⌝
            ∗ inAt d c s iq fi (k.val + 1) ∗ inIdle d c s iq fi (sl k.val)
            ∗ outIdle d c s (sl (k.val + 1)) ∗ outFl d (cs c s) (sl k.val) (bk c s k.val) ft fi
            ∗ (if 0 < k.val then oPts d (cs c s) (bk c s (k.val - 1)) (gath ft fi) else emp)
            ∗ tPts d (cs c s) tq ft ∗ semVal (thr d (cs c s), gSem) 0 ∗ owesUp d c s O W) := by
  have hk : k.val < nB c := trips_eq c s ▸ k.isLt
  have hk' : k.val < 188 := hk.trans_le (nB_le c)
  by_cases hc : 0 < k.val
  · rw [outAt_pos d c s ft fi hc, if_pos hc]
    unfold k0_t1_body
    iintro ⟨#Hmw, Hfl, Hin, ⟨Hout, Hosem⟩, Hoa, Hb, Ht, Hg, HO⟩
    iapply (wp_step d (part1 d c s iq fi k)) $$ Hin
    iintro %r ⟨%hr, Hin'⟩
    obtain ⟨h3, h2, h1, rfl⟩ := hr
    iapply (wp_step d (part2 d c s iq tq ft fi k hin h3 h2 h1 _ _ _ _ _ _)) $$ [Hfl Hout Ht Hg HO]
    · isplitr
      · iexact Hmw
      isplitl [Hfl]
      · iexact Hfl
      isplitl [Hout]
      · iexact Hout
      isplitl [Ht]
      · iexact Ht
      isplitl [Hg]
      · iexact Hg
      · iexact HO
    iintro %u ⟨Hgf, Hi, Hs, ⟨%W1, %hW1, HO⟩⟩
    simp only [SparseCore.waitIndirectGather, lift_bind, pure_bind, ite_self]
    have e10 : k0_off10 (w k.val) = ![(sl k.val).val, 0, 0] := Words.off10 ⟨k.val, Nat.lt_succ_of_lt hk'⟩
    iapply (gather_wait d (cs c s) (sl k.val) (sl k.val) (bk c s k.val) tq ft fi e10) $$ [Hgf HO]
    · isplitl [Hgf]
      · iexact Hgf
      isplitl [HO]
      · iexact HO
      · iexact Hmw
    iintro ⟨⟨Hof, Ht, Hin⟩, Hg, HO⟩
    rw [dif_pos (Words.cond7 c s k)]
    have e12 : k0_off12 (w k.val) = ![(sl k.val).val, 0, 0] := Words.off12 ⟨k.val, Nat.lt_succ_of_lt hk'⟩
    have e13 : k0_off13 (cs c s) (w k.val) = ![128 * (bk c s k.val).val, 0] := by
      rw [bk_val hk]; exact Words.off13 c s ⟨k.val, hk'⟩
    have e14 : k0_off14 (w k.val) = ![(sl k.val).val] := Words.off14 ⟨k.val, Nat.lt_succ_of_lt hk'⟩
    iapply (enq_out d (cs c s) (sl k.val) (bk c s k.val) ft fi e12 e13 e14) $$ [Hof Hb Hosem]
    · isplitl [Hof]
      · iexact Hof
      isplitl [Hb]
      · iexact Hb
      · iexact Hosem
    iintro Hofl
    have hn := Words.next (c := c) (w (base c s)) hk
    rw [dif_pos ((Words.cond9 c s k).mpr hc)]
    have e17 : k0_off17 (w (k.val - 1)) = ![(sl (k.val + 1)).val] := by
      have := Words.off17 ⟨k.val - 1, (Nat.sub_le _ _).trans_lt (Nat.lt_succ_of_lt hk')⟩
      rw [this, par hc]; rfl
    iapply (wait_out d (cs c s) (sl (k.val + 1)) (bk c s (k.val - 1)) ft fi e17) $$ [Hoa HO]
    · isplitl [Hoa]
      · iexact Hoa
      isplitl [HO]
      · iexact HO
      · iexact Hmw
    iintro ⟨⟨Ho, Hout⟩, Hosem, HO⟩
    rw [wp_pure]
    imodintro
    isplitr
    · ipureintro
      exact hn
    isplitl [Hin']
    · iexact Hin'
    isplitl [Hi Hin Hs]
    · isplitl [Hi]
      · iexact Hi
      isplitl [Hin]
      · iexact Hin
      · iexact Hs
    isplitl [Hout Hosem]
    · isplitl [Hout]
      · iexact Hout
      · iexact Hosem
    isplitl [Hofl]
    · iexact Hofl
    isplitl [Ho]
    · iexact Ho
    isplitl [Ht]
    · iexact Ht
    isplitl [Hg]
    · iexact Hg
    iexists _
    isplitr
    rotate_left
    · iexact HO
    · ipureintro
      exact owesUp_insert (owesUp_insert hW1 _) _
  · rw [outAt_neg d c s ft fi hc, if_neg hc]
    unfold k0_t1_body
    iintro ⟨#Hmw, Hfl, Hin, ⟨Hout, Hosem⟩, Hoa, Hb, Ht, Hg, HO⟩
    iapply (wp_step d (part1 d c s iq fi k)) $$ Hin
    iintro %r ⟨%hr, Hin'⟩
    obtain ⟨h3, h2, h1, rfl⟩ := hr
    iapply (wp_step d (part2 d c s iq tq ft fi k hin h3 h2 h1 _ _ _ _ _ _)) $$ [Hfl Hout Ht Hg HO]
    · isplitr
      · iexact Hmw
      isplitl [Hfl]
      · iexact Hfl
      isplitl [Hout]
      · iexact Hout
      isplitl [Ht]
      · iexact Ht
      isplitl [Hg]
      · iexact Hg
      · iexact HO
    iintro %u ⟨Hgf, Hi, Hs, ⟨%W1, %hW1, HO⟩⟩
    simp only [SparseCore.waitIndirectGather, lift_bind, pure_bind, ite_self]
    have e10 : k0_off10 (w k.val) = ![(sl k.val).val, 0, 0] := Words.off10 ⟨k.val, Nat.lt_succ_of_lt hk'⟩
    iapply (gather_wait d (cs c s) (sl k.val) (sl k.val) (bk c s k.val) tq ft fi e10) $$ [Hgf HO]
    · isplitl [Hgf]
      · iexact Hgf
      isplitl [HO]
      · iexact HO
      · iexact Hmw
    iintro ⟨⟨Hof, Ht, Hin⟩, Hg, HO⟩
    rw [dif_pos (Words.cond7 c s k)]
    have e12 : k0_off12 (w k.val) = ![(sl k.val).val, 0, 0] := Words.off12 ⟨k.val, Nat.lt_succ_of_lt hk'⟩
    have e13 : k0_off13 (cs c s) (w k.val) = ![128 * (bk c s k.val).val, 0] := by
      rw [bk_val hk]; exact Words.off13 c s ⟨k.val, hk'⟩
    have e14 : k0_off14 (w k.val) = ![(sl k.val).val] := Words.off14 ⟨k.val, Nat.lt_succ_of_lt hk'⟩
    iapply (enq_out d (cs c s) (sl k.val) (bk c s k.val) ft fi e12 e13 e14) $$ [Hof Hb Hosem]
    · isplitl [Hof]
      · iexact Hof
      isplitl [Hb]
      · iexact Hb
      · iexact Hosem
    iintro Hofl
    have hn := Words.next (c := c) (w (base c s)) hk
    rw [dif_neg (fun h => hc ((Words.cond9 c s k).mp h))]
    rw [wp_pure]
    imodintro
    isplitr
    · ipureintro
      exact hn
    isplitl [Hin']
    · iexact Hin'
    isplitl [Hi Hin Hs]
    · isplitl [Hi]
      · iexact Hi
      isplitl [Hin]
      · iexact Hin
      · iexact Hs
    isplitl [Hoa]
    · iexact Hoa
    isplitl [Hofl]
    · iexact Hofl
    isplitr
    · iempintro
    isplitl [Ht]
    · iexact Ht
    isplitl [Hg]
    · iexact Hg
    iexists _
    isplitr
    rotate_left
    · iexact HO
    · ipureintro
      exact owesUp_insert hW1 _

end

end Cert.Proof.KI
-- ==== Proof.Tile.lean ====
/-
  One tile's task: from its part of the operands to the blocks of the gathered rows it fills.
-/
module

public import proofs.«01_k».proof.Proof.Trip
public import Idealize.ShloMosaic.Lib.Ring

@[expose] public section

noncomputable section

namespace Cert.Proof.KI

open Cert.KernelIdeal Cert.KernelIdeal.Gen Cert.Proof.Words

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix1 ix2 ix3 ix4)

variable {F : FTy → Type}

local notation "𝕄" => MT nD τ sig (HIx 1) (Elt F) ℕ UU ℕ

section
variable (d : Dev nD) (c : Fin 2) (s : Fin 16) (iq : Fin 2 → PosShare TreeShare) (tq : PosShare TreeShare)
  (ft : S48008x128.Idx → Elt F .f32) (fi : S6000x1x128.Idx → Elt F .i32)

theorem todo_succ {t : ℕ} (h : t < nB c) :
    todo (F := F) d c s t = iprop((∃ f, oPts (F := F) d (cs c s) (bk c s t) f) ∗ todo (F := F) d c s (t + 1)) := by
  unfold todo
  rw [← Finset.insert_Ico_add_one_left_eq_Ico h, SparseCore.bigSep_insert' (by simp)]

theorem done_succ (t : ℕ) :
    done d c s ft fi (t + 1) = iprop(oPts d (cs c s) (bk c s t) (gath ft fi) ∗ done d c s ft fi t) := by
  unfold done
  rw [Finset.range_add_one, SparseCore.bigSep_insert' (by simp)]

theorem done_step (t : ℕ) :
    iprop((if 0 < t then oPts d (cs c s) (bk c s (t - 1)) (gath ft fi) else emp) ∗ done d c s ft fi (t - 1)) ⊢ done d c s ft fi t := by
  cases t with
  | zero =>
    rw [if_neg (by decide)]
    iintro ⟨-, $⟩
  | succ t =>
    rw [if_pos (Nat.succ_pos t), done_succ]
    exact BI.BIBase.Entails.rfl

theorem inAt_pos {t : ℕ} (h : t < nB c) : inAt d c s iq fi t = inFl d (cs c s) (sl t) (bk c s t) (iq (sl t)) fi := if_pos h
theorem inAt_neg {t : ℕ} (h : ¬ t < nB c) : inAt d c s iq fi t = inIdle d c s iq fi (sl t) := if_neg h

theorem sl_two (t : ℕ) : sl (t + 1 + 1) = sl t := Fin.ext (by show (t + 1 + 1) % 2 = t % 2; omega)

/-- Two slots in turn are the two slots. -/
theorem both (Φ : Fin 2 → sProp (MT nD τ sig (HIx 1) (Elt F) ℕ UU ℕ)) (t : ℕ) : iprop(Φ (sl t) ∗ Φ (sl (t + 1))) ⊢ iprop(Φ 0 ∗ Φ 1) := by
  rcases Nat.mod_two_eq_zero_or_one t with h | h
  · rw [show sl t = 0 from Fin.ext h, show sl (t + 1) = 1 from Fin.ext (by show (t + 1) % 2 = 1; omega)]
  · rw [show sl t = 1 from Fin.ext h, show sl (t + 1) = 0 from Fin.ext (by show (t + 1) % 2 = 0; omega)]
    iintro ⟨H1, H2⟩
    isplitl [H2]
    · iexact H2
    · iexact H1

/-- Before trip `t`. -/
def loopInv (O : CellTallies nD τ sig (HIx 1)) (W : Waits sig (HIx 1)) (t : ℕ) (acc : BitVec 32 × BitVec 32 × BitVec 32 × BitVec 32 × BitVec 32) : sProp 𝕄 :=
  iprop(⌜acc = carry c t⌝ ∗ Transfers.MayWaits (thr d (cs c s)) (default : HIx 1) O
    ∗ inAt d c s iq fi t ∗ inIdle d c s iq fi (sl (t + 1)) ∗ outIdle d c s (sl t) ∗ outAt d c s ft fi t
    ∗ todo (F := F) d c s t ∗ done d c s ft fi (t - 1)
    ∗ tPts d (cs c s) tq ft ∗ semVal (thr d (cs c s), gSem) 0 ∗ owesUp d c s O W)

variable [FloatOps F]

theorem loopInv_trip (k : Fin (k0_t1_loop (cs c s)).trips) {O : CellTallies nD τ sig (HIx 1)} {W : Waits sig (HIx 1)}
    (hin : ∀ b j, (wordAt fi b j).toNat < 48008) (v11 v41 c1 c2 c3 c4 v45 acc) :
    loopInv d c s iq tq ft fi O W k.val acc
      ⊢ wp frame (wpE (defs₀ (F := F)) 𝒱₀ (thr d (cs c s)) none) Set.univ
          (k0_t1_body (cs c s) tV (Memref.isWhole_whole _) iV (Memref.isWhole_whole _) oV (Memref.isWhole_whole _)
            inV (Memref.isWhole_whole _) cc0_scoped1 outV (Memref.isWhole_whole _) cc0_scoped3 cc0_scoped4 cc0_scoped5
            (w (nB c)) (w (base c s)) v11 (cond1 c s) v41 0#32 c1 c2 c3 c4 v45 k acc)
          (loopInv d c s iq tq ft fi O W (k.val + 1)) := by
  have hk : k.val < nB c := trips_eq c s ▸ k.isLt
  unfold loopInv
  rw [todo_succ d c s hk, inAt_pos d c s iq fi hk]
  iintro ⟨%hacc, #Hmw, Hfl, Hin, Hout, Hoa, ⟨Hb, Htodo⟩, Hdone, Ht, Hg, HO⟩
  have e : acc = (w (k.val + 1), w k.val, w k.val, w (k.val - 1), w k.val) := by
    rw [hacc]; unfold carry; rw [if_pos hk, min_eq_left hk]
  subst e
  have H := (trip d c s iq tq ft fi k (O := O) (W := W) hin v11 v41 c1 c2 c3 c4 v45).trans
    (wp_wand frame (wpE (defs₀ (F := F)) 𝒱₀ (thr d (cs c s)) none) Set.univ (Q' := loopInv d c s iq tq ft fi O W (k.val + 1)))
  unfold loopInv at H
  iapply H $$ [Hfl Hin Hout Hoa Hb Ht Hg HO]
  · isplitr
    · iexact Hmw
    isplitl [Hfl]
    · iexact Hfl
    isplitl [Hin]
    · iexact Hin
    isplitl [Hout]
    · iexact Hout
    isplitl [Hoa]
    · iexact Hoa
    isplitl [Hb]
    · iexact Hb
    isplitl [Ht]
    · iexact Ht
    isplitl [Hg]
    · iexact Hg
    · iexact HO
  rw [outAt_pos d c s ft fi (Nat.succ_pos k.val), sl_two, Nat.add_sub_cancel]
  iintro %r ⟨%hr, Hi1, Hi2, Ho1, Ho2, Hd, Ht, Hg, HO⟩
  isplitr
  · ipureintro
    exact hr
  isplitr
  · iexact Hmw
  isplitl [Hi1]
  · iexact Hi1
  isplitl [Hi2]
  · iexact Hi2
  isplitl [Ho1]
  · iexact Ho1
  isplitl [Ho2]
  · iexact Ho2
  isplitl [Htodo]
  · iexact Htodo
  isplitl [Hd Hdone]
  · iapply (done_step d c s ft fi k.val)
    isplitl [Hd]
    · iexact Hd
    · iexact Hdone
  isplitl [Ht]
  · iexact Ht
  isplitl [Hg]
  · iexact Hg
  · iexact HO

/-- The copy that starts the pipeline. -/
theorem part5 :
    inIdle d c s iq fi (sl 0)
      ⊢ wp frame (wpE (defs₀ (F := F)) 𝒱₀ (thr d (cs c s)) none) Set.univ
          (k0_part5 (cs c s) tV (Memref.isWhole_whole _) iV (Memref.isWhole_whole _) oV (Memref.isWhole_whole _)
            inV (Memref.isWhole_whole _) cc0_scoped1 outV (Memref.isWhole_whole _) cc0_scoped3 cc0_scoped4 cc0_scoped5
            (w (nB c)) (w (base c s)) (Scalar.muli 1#32 (w (nB c))) (cond1 c s))
          fun r => iprop(⌜∃ v45, r = ⟨p41 (w (nB c)), 0#32, 0#32, 0#32, 0#32, 0#32, v45⟩⌝ ∗ inFl d (cs c s) (sl 0) (bk c s 0) (iq (sl 0)) fi) := by
  rw [k0_part5_eq_skeleton]
  unfold k0_part5_skel
  simp only [lift_bind, pure_bind, ite_self]
  rw [dif_pos (Words.cond2 c s)]
  have e2 : k0_off2 (cs c s) = ![(bk c s 0).val, 0, 0] := by
    rw [bk_val (lt_of_lt_of_le (by decide) (nB_pos c)), Nat.add_zero]; exact Words.off2 c s
  iintro ⟨Hi, Hin, Hs⟩
  iapply (enq_in d (cs c s) (sl 0) (bk c s 0) (iq (sl 0)) fi Words.off1 e2 Words.off3) $$ [Hi Hin Hs]
  · isplitl [Hi]
    · iexact Hi
    isplitl [Hin]
    · iexact Hin
    · iexact Hs
  iintro Hfl
  rw [wp_pure]
  imodintro
  isplitr
  · ipureintro
    exact ⟨_, rfl⟩
  · iexact Hfl

set_option maxHeartbeats 1000000 in
/-- The loop, and the wait for the last block. -/
theorem part6 {O : CellTallies nD τ sig (HIx 1)} {W : Waits sig (HIx 1)}
    (hin : ∀ b j, (wordAt fi b j).toNat < 48008) (v45) :
    loopInv d c s iq tq ft fi O W 0 (p41 (w (nB c)), 0#32, 0#32, 0#32, 0#32)
      ⊢ wp frame (wpE (defs₀ (F := F)) 𝒱₀ (thr d (cs c s)) none) Set.univ
          (k0_part6 (cs c s) tV (Memref.isWhole_whole _) iV (Memref.isWhole_whole _) oV (Memref.isWhole_whole _)
            inV (Memref.isWhole_whole _) cc0_scoped1 outV (Memref.isWhole_whole _) cc0_scoped3 cc0_scoped4 cc0_scoped5
            (w (nB c)) (w (base c s)) (Scalar.muli 1#32 (w (nB c))) (cond1 c s) (p41 (w (nB c))) 0#32 0#32 0#32 0#32 0#32 v45)
          fun _ => iprop((inIdle d c s iq fi 0 ∗ inIdle d c s iq fi 1) ∗ (outIdle (F := F) d c s 0 ∗ outIdle (F := F) d c s 1)
            ∗ done d c s ft fi (nB c) ∗ tPts d (cs c s) tq ft ∗ semVal (thr d (cs c s), gSem) 0 ∗ owesUp d c s O W) := by
  rw [k0_part6_eq_skeleton]
  unfold k0_part6_skel
  iintro HI
  iapply (Scf.wp_for_bind frame (wpE (defs₀ (F := F)) 𝒱₀ (thr d (cs c s)) none) Set.univ _ _ _ _ _ _
    (loopInv d c s iq tq ft fi O W) (fun k acc => loopInv_trip d c s iq tq ft fi k hin _ _ _ _ _ _ _ acc)) $$ HI
  iintro %acc HI
  have ht : Scf.trips (k0_t1_loop (cs c s)).lb (k0_t1_loop (cs c s)).ub (k0_t1_loop (cs c s)).st = nB c := trips_eq c s
  unfold loopInv
  rw [ht, inAt_neg d c s iq fi (Nat.lt_irrefl _), outAt_pos d c s ft fi (lt_of_lt_of_le (by decide) (nB_pos c))]
  icases HI with ⟨%hacc, #Hmw, Hi1, Hi2, Ho1, Hofl, -, Hdone, Htab, Hg, ⟨%W1, %hW1, HO⟩⟩
  have e : acc = (w (min (nB c + 1) (nB c)), w (nB c), w (nB c), w (nB c - 1), w 0) := by
    rw [hacc]; unfold carry; rw [if_neg (Nat.lt_irrefl _)]
  subst e
  have ht2 : Scf.trips (k0_t2_loop (cs c s)).lb (k0_t2_loop (cs c s)).ub (k0_t2_loop (cs c s)).st = 0 := trips2 c s
  iapply (Scf.wp_for_bind frame (wpE (defs₀ (F := F)) 𝒱₀ (thr d (cs c s)) none) Set.univ _ _ _ _ _ _
    (fun _ acc => (iprop(⌜acc = (w (min (nB c + 1) (nB c)), w (nB c), w (nB c), w (nB c - 1), w 0)⌝) : sProp (MT nD τ sig (HIx 1) (Elt F) ℕ UU ℕ)))
    (fun k acc => (Nat.not_lt_zero k.val (lt_of_lt_of_eq k.isLt ht2)).elim)) $$ []
  · ipureintro
    rfl
  iintro %acc2 %hacc2
  subst hacc2
  simp only [lift_bind, pure_bind, ite_self, dite_eq_ite]
  iapply (assume_at d (L := cs c s) (Words.chk8 c s))
  iapply (assume_at d (L := cs c s) (Words.chk7 c s))
  rw [dif_pos (Words.cond18 c s)]
  have e34 : k0_off34 (w (nB c - 1)) = ![(sl (nB c + 1)).val] := by
    have h2 := nB_pos c
    have h1 := nB_le c
    have := Words.off34 ⟨nB c - 1, by omega⟩
    rw [this, par (lt_of_lt_of_le (by decide) h2)]; rfl
  iapply (wait_out d (cs c s) (sl (nB c + 1)) (bk c s (nB c - 1)) ft fi e34) $$ [Hofl HO]
  · isplitl [Hofl]
    · iexact Hofl
    isplitl [HO]
    · iexact HO
    · iexact Hmw
  iintro ⟨⟨Ho, Hout⟩, Hosem, HO⟩
  rw [wp_pure]
  imodintro
  isplitl [Hi1 Hi2]
  · iapply (both (fun u => inIdle d c s iq fi u) (nB c))
    isplitl [Hi1]
    · iexact Hi1
    · iexact Hi2
  isplitl [Ho1 Hout Hosem]
  · iapply (both (fun u => outIdle (F := F) d c s u) (nB c))
    isplitl [Ho1]
    · iexact Ho1
    isplitl [Hout]
    · iexact Hout
    · iexact Hosem
  isplitl [Ho Hdone]
  · have hs := done_succ d c s ft fi (nB c - 1)
    rw [Nat.sub_add_cancel (le_trans (by decide) (nB_pos c))] at hs
    iapply (Entails.of_eq hs.symm)
    isplitl [Ho]
    · iexact Ho
    · iexact Hdone
  isplitl [Htab]
  · iexact Htab
  isplitl [Hg]
  · iexact Hg
  iexists _
  isplitr
  rotate_left
  · iexact HO
  · ipureintro
    exact owesUp_insert hW1 _

end

section
variable (d : Dev nD) (c : Fin 2) (s : Fin 16) (q tq : PosShare TreeShare)
  (ft : S48008x128.Idx → Elt F .f32) (fi : S6000x1x128.Idx → Elt F .i32)

/-- The two shares of the index list a tile's two slots read by. -/
def halves (q : PosShare TreeShare) : Fin 2 → PosShare TreeShare := fun u => if u = 0 then q.left else q.right

/-- A tile's buffers and semaphores of the pipeline, all at rest. -/
abbrev rest : sProp 𝕄 :=
  iprop(((∃ f, inPts (F := F) d (cs c s) 0 f) ∗ (∃ f, inPts (F := F) d (cs c s) 1 f) ∗ (∃ f, outPts (F := F) d (cs c s) 0 f) ∗ ∃ f, outPts (F := F) d (cs c s) 1 f)
    ∗ (semVal (thr d (cs c s), inSem 0) 0 ∗ semVal (thr d (cs c s), inSem 1) 0 ∗ semVal (thr d (cs c s), outSem 0) 0
      ∗ semVal (thr d (cs c s), outSem 1) 0 ∗ semVal (thr d (cs c s), gSem) 0))

variable [FloatOps F]

set_option maxHeartbeats 1000000 in
theorem tile_core {O : CellTallies nD τ sig (HIx 1)} {W : Waits sig (HIx 1)}
    (hin : ∀ b j, (wordAt fi b j).toNat < 48008) :
    iprop(Transfers.MayWaits (thr d (cs c s)) (default : HIx 1) O ∗ iPts d (cs c s) q fi ∗ tPts d (cs c s) tq ft ∗ todo (F := F) d c s 0 ∗ rest d c s ∗ owesUp d c s O W)
      ⊢ wp frame (wpE (defs₀ (F := F)) 𝒱₀ (thr d (cs c s)) none) Set.univ
          (cc0_k (cs c s) tV (Memref.isWhole_whole _) iV (Memref.isWhole_whole _) oV (Memref.isWhole_whole _)
            inV (Memref.isWhole_whole _) cc0_scoped1 outV (Memref.isWhole_whole _) cc0_scoped3 cc0_scoped4 cc0_scoped5)
          fun _ => iprop(iPts d (cs c s) q fi ∗ tPts d (cs c s) tq ft ∗ done d c s ft fi (nB c) ∗ rest d c s ∗ owesUp d c s O W) := by
  rw [cc0_k_eq_skeleton]
  unfold cc0_k_skel
  rw [dif_pos (Words.cond1 c s)]
  have hN := pN_eq c s
  have hB := pB_eq c s
  unfold pN tileNo at hN
  unfold pB pN tileNo at hB
  dsimp only at hN hB ⊢
  rw [hB, hN]
  iintro ⟨#Hmw, Hi, Ht, Htodo, ⟨⟨Hi0, Hi1, Ho0, Ho1⟩, Hs0, Hs1, Hs2, Hs3, Hg⟩, HO⟩
  ihave Hsh := (pointsTo_share (PosShare.mem_left_op_right q)).1 $$ Hi
  icases Hsh with ⟨Hl, Hr⟩
  iapply (wp_step d (part5 d c s (halves q) fi)) $$ [Hl Hi0 Hs0]
  · isplitl [Hl]
    · iexact Hl
    isplitl [Hi0]
    · iexact Hi0
    · iexact Hs0
  iintro %r ⟨%hr, Hfl⟩
  obtain ⟨v45, rfl⟩ := hr
  have hn : 0 < nB c := lt_of_lt_of_le (by decide) (nB_pos c)
  iapply (wp_step d (part6 d c s (halves q) tq ft fi (O := O) (W := W) hin v45)) $$ [Hfl Ht Htodo Hi1 Ho0 Ho1 Hs1 Hs2 Hs3 Hg HO Hr]
  · unfold loopInv
    rw [inAt_pos d c s (halves q) fi hn, outAt_neg d c s ft fi (Nat.lt_irrefl 0)]
    isplitr
    · ipureintro
      rw [p41_eq]; unfold carry; rw [if_pos hn]
    isplitr
    · iexact Hmw
    isplitl [Hfl]
    · iexact Hfl
    isplitl [Hr Hi1 Hs1]
    · isplitl [Hr]
      · iexact Hr
      isplitl [Hi1]
      · iexact Hi1
      · iexact Hs1
    isplitl [Ho0 Hs2]
    · isplitl [Ho0]
      · iexact Ho0
      · iexact Hs2
    isplitl [Ho1 Hs3]
    · isplitl [Ho1]
      · iexact Ho1
      · iexact Hs3
    isplitl [Htodo]
    · iexact Htodo
    isplitr
    · unfold done
      rw [Finset.range_zero, bigSep_empty]
      iempintro
    isplitl [Ht]
    · iexact Ht
    isplitl [Hg]
    · iexact Hg
    · iexact HO
  iintro %u ⟨⟨⟨Hl, Hi0, Hs0⟩, ⟨Hr, Hi1, Hs1⟩⟩, ⟨⟨Ho0, Hs2⟩, ⟨Ho1, Hs3⟩⟩, Hdone, Ht, Hg, HO⟩
  rw [wp_pure]
  imodintro
  isplitl [Hl Hr]
  · iapply (pointsTo_share (PosShare.mem_left_op_right q)).2
    isplitl [Hl]
    · iexact Hl
    · iexact Hr
  isplitl [Ht]
  · iexact Ht
  isplitl [Hdone]
  · iexact Hdone
  isplitr [HO]
  · isplitl [Hi0 Hi1 Ho0 Ho1]
    · isplitl [Hi0]
      · iexact Hi0
      isplitl [Hi1]
      · iexact Hi1
      isplitl [Ho0]
      · iexact Ho0
      · iexact Ho1
    isplitl [Hs0]
    · iexact Hs0
    isplitl [Hs1]
    · iexact Hs1
    isplitl [Hs2]
    · iexact Hs2
    isplitl [Hs3]
    · iexact Hs3
    · iexact Hg
  · iexact HO

end

/-! ## The tile's own buffers and semaphores -/

section
variable (d : Dev nD) (c : Fin 2) (s : Fin 16)

abbrev cI (u : Fin 2) : GSem nD τ sig := (thr d (cs c s), inSem u)
abbrev cO (u : Fin 2) : GSem nD τ sig := (thr d (cs c s), outSem u)
abbrev cG : GSem nD τ sig := (thr d (cs c s), gSem)

/-- The five semaphores of the pipeline. -/
def five : Finset (GSem nD τ sig) := {cI d c s 0, cI d c s 1, cO d c s 0, cO d c s 1, cG d c s}

theorem ownSems0_V :
    (ownSems0 (thr d (cs c s)) : sProp 𝕄)
      = iprop((semVal (cI d c s 0) 0 ∗ semVal (cI d c s 1) 0 ∗ semVal (cO d c s 0) 0 ∗ semVal (cO d c s 1) 0 ∗ semVal (cG d c s) 0)
          ∗ bigSep (ownCells (thr d (cs c s)) \ five d c s) fun g => semVal g 0) := by
  have hsub : five d c s ⊆ ownCells (thr d (cs c s)) := by
    intro g hg
    simp only [five, Finset.mem_insert, Finset.mem_singleton] at hg
    rcases hg with rfl | rfl | rfl | rfl | rfl
    · exact mem_ownCells.mpr ⟨rfl, by show (inSem 0).isScoped .scVector = true; decide⟩
    · exact mem_ownCells.mpr ⟨rfl, by show (inSem 1).isScoped .scVector = true; decide⟩
    · exact mem_ownCells.mpr ⟨rfl, by show (outSem 0).isScoped .scVector = true; decide⟩
    · exact mem_ownCells.mpr ⟨rfl, by show (outSem 1).isScoped .scVector = true; decide⟩
    · exact mem_ownCells.mpr ⟨rfl, by show gSem.isScoped .scVector = true; decide⟩
  unfold SparseCore.Cfg.ownSems0
  rw [bigSep_sdiff_split hsub]
  have h5 : (bigSep (five d c s) fun g => (semVal g 0 : sProp 𝕄))
      = iprop(semVal (cI d c s 0) 0 ∗ semVal (cI d c s 1) 0 ∗ semVal (cO d c s 0) 0 ∗ semVal (cO d c s 1) 0 ∗ semVal (cG d c s) 0) := by
    have ne : ∀ {a b : SemLoc sig}, a ≠ b → ((thr d (cs c s), a) : GSem nD τ sig) ≠ (thr d (cs c s), b) := fun h e => h (congrArg Prod.snd e)
    unfold five
    rw [SparseCore.bigSep_insert', SparseCore.bigSep_insert', SparseCore.bigSep_insert', SparseCore.bigSep_insert', bigSep_singleton]
    · simp only [Finset.mem_singleton]; exact ne (by decide)
    · simp only [Finset.mem_insert, Finset.mem_singleton, not_or]; exact ⟨ne (by decide), ne (by decide)⟩
    · simp only [Finset.mem_insert, Finset.mem_singleton, not_or]; exact ⟨ne (by decide), ne (by decide), ne (by decide)⟩
    · simp only [Finset.mem_insert, Finset.mem_singleton, not_or]; exact ⟨ne (by decide), ne (by decide), ne (by decide), ne (by decide)⟩
  exact congrArg (fun X => iprop(X ∗ bigSep (ownCells (thr d (cs c s)) \ five d c s) fun g => semVal g 0)) h5

/-- The two buffers of the pipeline, and the rest. -/
theorem ownBufs_V :
    (ownBufs (thr d (cs c s)) : sProp 𝕄)
      = iprop((∃ f, (thr d (cs c s)).loc cc0_scoped0 ↦{fullShare} f) ∗ (∃ f, (thr d (cs c s)).loc cc0_scoped2 ↦{fullShare} f)
          ∗ bigSep (((ownRefs (τ := τ) (.scVector (cV (cs c s)) (jV (cs c s)))).erase ((Proc.scVector (cV (cs c s)) (jV (cs c s))).devRef cc0_scoped0)).erase
              ((Proc.scVector (cV (cs c s)) (jV (cs c s))).devRef cc0_scoped2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV (cs c s)) (jV (cs c s)))
    (b := (Proc.scVector (cV (cs c s)) (jV (cs c s))).devRef cc0_scoped0) rfl)).trans ?_
  rw [SparseCore.bigSep_erase' (Finset.mem_erase.mpr ⟨fun e => absurd (Proc.devRef_injective _ e) (show (cc0_scoped2 : Ref sig .scVector) ≠ cc0_scoped0 by decide),
    SparseCore.Cfg.mem_ownRefs_of_owner (p := Proc.scVector (cV (cs c s)) (jV (cs c s))) (b := (Proc.scVector (cV (cs c s)) (jV (cs c s))).devRef cc0_scoped2) rfl⟩)]

/-- A family over two is its two members. -/
theorem bigSep_two (Φ : Fin 2 → sProp 𝕄) : bigSep Finset.univ Φ = iprop(Φ 0 ∗ Φ 1) := BI.bigSep_fin_two Φ

theorem inSlots_disjoint (b b' : Fin 2) (h : b ≠ b') : Disjoint (inSlot b).view.set (inSlot b').view.set := by
  rw [Finset.disjoint_left]
  intro x hx hx'
  rw [mem_inSlot_set] at hx hx'
  exact h (Fin.ext (hx.symm.trans hx'))
theorem outSlots_disjoint (b b' : Fin 2) (h : b ≠ b') : Disjoint (outSlot b).view.set (outSlot b').view.set := by
  rw [Finset.disjoint_left]
  intro x hx hx'
  rw [mem_outSlot_set] at hx hx'
  exact h (Fin.ext (hx.symm.trans hx'))
theorem inSlots_cover : (Finset.univ : Finset (Fin 2)).biUnion (β := S2x1x1x128.Idx) (fun u => (inSlot u).view.set) = Finset.univ := by
  ext x
  simp only [Finset.mem_biUnion, Finset.mem_univ, true_and, iff_true]
  exact ⟨⟨(x 0).val, (x 0).isLt⟩, (mem_inSlot_set _ _).mpr rfl⟩
theorem outSlots_cover : (Finset.univ : Finset (Fin 2)).biUnion (β := S2x128x128.Idx) (fun u => (outSlot u).view.set) = Finset.univ := by
  ext x
  simp only [Finset.mem_biUnion, Finset.mem_univ, true_and, iff_true]
  exact ⟨⟨(x 0).val, (x 0).isLt⟩, (mem_outSlot_set _ _).mpr rfl⟩

/-- A buffer of two slots is held slot by slot. -/
theorem inV_split (f : S2x1x1x128.Idx → Elt F .i32) :
    ((thr d (cs c s)).loc cc0_scoped0 ↦{fullShare} f : sProp 𝕄) = iprop(inPts d (cs c s) 0 f ∗ inPts d (cs c s) 1 f) := by
  rw [← bigSep_two (fun u => inPts d (cs c s) u f)]
  exact Ring.pointsTo_blocks (ℓ := (thr d (cs c s)).loc cc0_scoped0) (fun u : Fin 2 => (inSlot u).view.set) inSlots_disjoint inSlots_cover f
theorem outV_split (f : S2x128x128.Idx → Elt F .f32) :
    ((thr d (cs c s)).loc cc0_scoped2 ↦{fullShare} f : sProp 𝕄) = iprop(outPts d (cs c s) 0 f ∗ outPts d (cs c s) 1 f) := by
  rw [← bigSep_two (fun u => outPts d (cs c s) u f)]
  exact Ring.pointsTo_blocks (ℓ := (thr d (cs c s)).loc cc0_scoped2) (fun u : Fin 2 => (outSlot u).view.set) outSlots_disjoint outSlots_cover f
theorem inV_join :
    iprop((∃ f, inPts (F := F) d (cs c s) 0 f) ∗ ∃ f, inPts (F := F) d (cs c s) 1 f) ⊢ (iprop(∃ f, (thr d (cs c s)).loc cc0_scoped0 ↦{fullShare} f) : sProp 𝕄) := by
  iintro ⟨⟨%f, H0⟩, H1⟩
  iapply (Ring.pointsTo_blocks_join_exists (ℓ := (thr d (cs c s)).loc cc0_scoped0) (fun u : Fin 2 => (inSlot u).view.set) inSlots_disjoint inSlots_cover f)
  rw [bigSep_two]
  isplitl [H0]
  · iexists f; iexact H0
  · iexact H1
theorem outV_join :
    iprop((∃ f, outPts (F := F) d (cs c s) 0 f) ∗ ∃ f, outPts (F := F) d (cs c s) 1 f) ⊢ (iprop(∃ f, (thr d (cs c s)).loc cc0_scoped2 ↦{fullShare} f) : sProp 𝕄) := by
  iintro ⟨⟨%f, H0⟩, H1⟩
  iapply (Ring.pointsTo_blocks_join_exists (ℓ := (thr d (cs c s)).loc cc0_scoped2) (fun u : Fin 2 => (outSlot u).view.set) outSlots_disjoint outSlots_cover f)
  rw [bigSep_two]
  isplitl [H0]
  · iexists f; iexact H0
  · iexact H1

end

/-! ## The tile -/

section
variable [FloatOps F]
variable (d : Dev nD) (c : Fin 2) (s : Fin 16) (q tq : PosShare TreeShare)
variable (ft : S48008x128.Idx → Elt F .f32) (fi : S6000x1x128.Idx → Elt F .i32)

set_option maxHeartbeats 1000000 in
/-- A tile of the gather: from its shares of the index list and the table and its blocks of the result, at any contents, to
    the blocks holding the rows the list names. -/
theorem tile_body (hF : (K (F := F)).Facts) (O : CellTallies nD τ sig (HIx 1)) (W : Waits sig (HIx 1)) (hO : ∀ g, O g none = 0)
    (hin : ∀ b j, (wordAt fi b j).toNat < 48008) :
    iprop(levAts (K (F := F)).L (K (F := F)).lev ∗ emp
        ∗ ((iLoc d ↦{q} fi) ∗ (tLoc d ↦{tq} ft) ∗ todo (F := F) d c s 0)
        ∗ scopedBufs (thr d (cs c s)) ∗ scopedSems0 (thr d (cs c s)) ∗ owes (thr d (cs c s)) O W)
      ⊢ wp frame (wpE (defs₀ (F := F)) 𝒱₀ (thr d (cs c s)) none) Set.univ
          (cc0_k (cs c s) tV (Memref.isWhole_whole _) iV (Memref.isWhole_whole _) oV (Memref.isWhole_whole _)
            inV (Memref.isWhole_whole _) cc0_scoped1 outV (Memref.isWhole_whole _) cc0_scoped3 cc0_scoped4 cc0_scoped5)
          fun _ => iprop(((iLoc d ↦{q} fi) ∗ (tLoc d ↦{tq} ft) ∗ done d c s ft fi (nB c))
            ∗ scopedBufs (thr d (cs c s)) ∗ scopedSems0 (thr d (cs c s))
            ∗ ∃ W', ⌜∀ p ∈ W', p ∈ W ∨ p.2 = none⌝ ∗ owes (thr d (cs c s)) O W') := by
  rw [(K (F := F)).scopedBufs_V hF d (cV (cs c s)) (jV (cs c s)), SparseCore.Cfg.scopedSems0_V (Val := Elt F) d (cV (cs c s)) (jV (cs c s)),
    ownSems0_V, ownBufs_V]
  iintro ⟨#Hlv, -, ⟨Hi, Ht, Htodo⟩, ⟨⟨%fs, Hs⟩, ⟨%fr, Hr⟩, Hbufs⟩, ⟨⟨Hc0, Hc1, Hc2, Hc3, Hc4⟩, Hsems⟩, HO⟩
  ihave Hmw := (show levAts (K (F := F)).L (K (F := F)).lev ⊢ Transfers.MayWaits (thr d (cs c s)) (default : HIx 1) O from
    (K (F := F)).mayWaits_none (thr := thr d (cs c s)) hO) $$ Hlv
  ihave Hs' := (BIBase.Entails.of_eq (inV_split (F := F) d c s fs)) $$ Hs
  ihave Hr' := (BIBase.Entails.of_eq (outV_split (F := F) d c s fr)) $$ Hr
  icases Hs' with ⟨Hi0, Hi1⟩
  icases Hr' with ⟨Ho0, Ho1⟩
  ihave Ht' := (BIBase.Entails.of_eq (show (tLoc d ↦{tq} ft : sProp 𝕄) = tPts d (cs c s) tq ft by unfold tPts; rw [tAll_set])) $$ Ht
  iapply (wp_wand_r frame _ Set.univ)
  isplitl [Hmw Hi Ht' Htodo Hi0 Hi1 Ho0 Ho1 Hc0 Hc1 Hc2 Hc3 Hc4 HO]
  · iapply (tile_core d c s q tq ft fi (O := O) (W := W) hin)
    isplitl [Hmw]
    · iexact Hmw
    isplitl [Hi]
    · iexact Hi
    isplitl [Ht']
    · iexact Ht'
    isplitl [Htodo]
    · iexact Htodo
    isplitr [HO]
    · unfold rest
      isplitl [Hi0 Hi1 Ho0 Ho1]
      · isplitl [Hi0]
        · iexists fs; iexact Hi0
        isplitl [Hi1]
        · iexists fs; iexact Hi1
        isplitl [Ho0]
        · iexists fr; iexact Ho0
        · iexists fr; iexact Ho1
      isplitl [Hc0]
      · iexact Hc0
      isplitl [Hc1]
      · iexact Hc1
      isplitl [Hc2]
      · iexact Hc2
      isplitl [Hc3]
      · iexact Hc3
      · iexact Hc4
    · unfold owesUp
      iexists W
      isplitr
      · ipureintro; exact fun p hp => Or.inl hp
      · iexact HO
  iintro %u ⟨Hi, Ht, Hdone, ⟨⟨Hi0, Hi1, Ho0, Ho1⟩, Hc0, Hc1, Hc2, Hc3, Hc4⟩, HO⟩
  ihave Ht' := (BIBase.Entails.of_eq (show (tLoc d ↦{tq} ft : sProp 𝕄) = tPts d (cs c s) tq ft by unfold tPts; rw [tAll_set]).symm) $$ Ht
  ihave Hs := (inV_join (F := F) d c s) $$ [Hi0 Hi1]
  · isplitl [Hi0]
    · iexact Hi0
    · iexact Hi1
  ihave Hr := (outV_join (F := F) d c s) $$ [Ho0 Ho1]
  · isplitl [Ho0]
    · iexact Ho0
    · iexact Ho1
  isplitl [Hi Ht' Hdone]
  · isplitl [Hi]
    · iexact Hi
    isplitl [Ht']
    · iexact Ht'
    · iexact Hdone
  isplitl [Hs Hr Hbufs]
  · isplitl [Hs]
    · iexact Hs
    isplitl [Hr]
    · iexact Hr
    · iexact Hbufs
  isplitr [HO]
  · isplitr [Hsems]
    · isplitl [Hc0]
      · iexact Hc0
      isplitl [Hc1]
      · iexact Hc1
      isplitl [Hc2]
      · iexact Hc2
      isplitl [Hc3]
      · iexact Hc3
      · iexact Hc4
    · iexact Hsems
  · unfold owesUp
    iexact HO

end

end Cert.Proof.KI
-- ==== Proof.Launch.lean ====
/-
  What the SparseCore call carries: each tile takes a share of the index list, a share of the table and its blocks of the
  result, and brings them back with the blocks holding the gathered rows. The arrays split into the tiles' parts and join
  again; the launch's obligations for the tiles.
-/
module

public import proofs.«01_k».proof.Proof.Tile

@[expose] public section

noncomputable section

namespace Cert.Proof.KI

open Cert.KernelIdeal Cert.KernelIdeal.Gen Cert.Proof.Words

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix1 ix2 ix3 ix4)

variable {F : FTy → Type}

local notation "𝕄" => MT nD τ sig (HIx 1) (Elt F) ℕ UU ℕ

/-! ## The result's blocks -/

/-- The elements of tile `(c, s)`'s blocks. -/
def tSet (p : Fin 2 × Fin 16) : Finset S768000x128.Idx := (Finset.range (nB p.1)).biUnion fun t => oSet (base p.1 p.2 + t)

theorem mem_tSet (p : Fin 2 × Fin 16) (x : S768000x128.Idx) :
    x ∈ tSet p ↔ base p.1 p.2 ≤ (x 0).val / 128 ∧ (x 0).val / 128 < base p.1 p.2 + nB p.1 := by
  simp only [tSet, oSet, Finset.mem_biUnion, Finset.mem_range, Finset.mem_filter, Finset.mem_univ, true_and]
  constructor
  · rintro ⟨t, ht, e⟩
    omega
  · rintro ⟨h1, h2⟩
    exact ⟨(x 0).val / 128 - base p.1 p.2, by omega, by omega⟩

theorem tiles_disjoint (p p' : Fin 2 × Fin 16) (h : p ≠ p') : Disjoint (tSet p) (tSet p') := by
  rw [Finset.disjoint_left]
  intro x hx hx'
  rw [mem_tSet] at hx hx'
  obtain ⟨c, s⟩ := p
  obtain ⟨c', s'⟩ := p'
  apply h
  have hc := c.isLt
  have hc' := c'.isLt
  have hs := s.isLt
  have hs' := s'.isLt
  unfold base nB at hx hx'
  dsimp only at hx hx'
  have hcc : c.val = c'.val := by
    by_contra hne
    split_ifs at hx hx' <;> omega
  have hss : s.val = s'.val := by
    split_ifs at hx hx' <;> omega
  exact Prod.ext (Fin.ext hcc) (Fin.ext hss)

theorem tiles_cover : (Finset.univ : Finset (Fin 2 × Fin 16)).biUnion tSet = Finset.univ := by
  ext x
  simp only [Finset.mem_biUnion, Finset.mem_univ, true_and, iff_true]
  have hx : (x 0).val < 768000 := (x 0).isLt
  by_cases h : (x 0).val / 128 < 3008
  · refine ⟨(0, ⟨(x 0).val / 128 / 188, by omega⟩), (mem_tSet _ _).mpr ?_⟩
    show (x 0).val / 128 / 188 * 188 ≤ _ ∧ _ < (x 0).val / 128 / 188 * 188 + 188
    omega
  · refine ⟨(1, ⟨((x 0).val / 128 - 3008) / 187, by omega⟩), (mem_tSet _ _).mpr ?_⟩
    show 3008 + ((x 0).val / 128 - 3008) / 187 * 187 ≤ _ ∧ _ < 3008 + ((x 0).val / 128 - 3008) / 187 * 187 + 187
    omega

/-- A tile's part of the result is its blocks. -/
theorem tile_blocks (d : Dev nD) (c : Fin 2) (s : Fin 16) (f : S768000x128.Idx → Elt F .f32) :
    (oLoc d ↦[tSet (c, s)]{fullShare} f : sProp 𝕄) = bigSep (Finset.range (nB c)) fun t => oPts d (cs c s) (bk c s t) f := by
  unfold tSet
  rw [pointsTo_biUnion (ℓ := oLoc d) (Finset.range (nB c)) (fun t => oSet (base c s + t))]
  · refine bigSep_congr fun t ht => ?_
    have hb := bk_val (s := s) (Finset.mem_range.mp ht)
    unfold oPts
    rw [oBlk_set, hb]
  · intro t _ t' _ h
    rw [Finset.disjoint_left]
    intro x hx hx'
    simp only [oSet, Finset.mem_filter, Finset.mem_univ, true_and] at hx hx'
    omega

/-- The result is the tiles' blocks. -/
theorem o_tiles (d : Dev nD) (f : S768000x128.Idx → Elt F .f32) :
    (oLoc d ↦{fullShare} f : sProp 𝕄)
      = bigSep Finset.univ fun c : Fin 2 => bigSep Finset.univ fun s : Fin 16 =>
          bigSep (Finset.range (nB c)) fun t => oPts d (cs c s) (bk c s t) f := by
  rw [Ring.pointsTo_blocks (ℓ := oLoc d) tSet tiles_disjoint tiles_cover f, bigSep_univ_prod]
  exact bigSep_congr fun c _ => bigSep_congr fun s _ => tile_blocks d c s f

/-! ## The shares of the table and of the index list -/

/-- Tile `(c, s)`'s share. -/
def qs (c : Fin 2) (s : Fin 16) : PosShare TreeShare := Transfers.dealOf (Transfers.dealOf fullShare Finset.univ c) Finset.univ s

theorem shares {ℓ : Loc nD τ sig} (f : Buf (Elt F) ℓ) :
    (ℓ ↦{fullShare} f : sProp 𝕄) = bigSep Finset.univ fun c : Fin 2 => bigSep Finset.univ fun s : Fin 16 => ℓ ↦{qs c s} f := by
  rw [Transfers.pointsTo_deal (Finset.univ : Finset (Fin 2)) Finset.univ_nonempty fullShare]
  refine bigSep_congr fun c _ => ?_
  rw [Transfers.pointsTo_deal (Finset.univ : Finset (Fin 16)) Finset.univ_nonempty]
  rfl

/-! ## What the handshakes carry -/

variable (ft : Dev nD → S48008x128.Idx → Elt F .f32) (fi : Dev nD → S6000x1x128.Idx → Elt F .i32)

/-- What a tile takes, -/
abbrev goT (d : Dev nD) (c : Fin 2) (s : Fin 16) : sProp 𝕄 :=
  iprop((iLoc d ↦{qs c s} fi d) ∗ (tLoc d ↦{qs c s} ft d) ∗ todo (F := F) d c s 0)
/-- and brings back. -/
abbrev tdT (d : Dev nD) (c : Fin 2) (s : Fin 16) : sProp 𝕄 :=
  iprop((iLoc d ↦{qs c s} fi d) ∗ (tLoc d ↦{qs c s} ft d) ∗ done d c s (ft d) (fi d) (nB c))

theorem nCore_zero : (K (F := F)).nCore 0 = 2 := rfl
theorem nSub_zero : (K (F := F)).nSub 0 = 16 := rfl

def P : (K (F := F)).Pay (nD := nD) (Val := Elt F) (Name := ℕ) (U := UU) where
  st := fun q d c => match q with | 0 => bigSep Finset.univ fun s : Fin 16 => goT ft fi d (Fin.cast nCore_zero c) s
  dn := fun q d c => match q with | 0 => bigSep Finset.univ fun s : Fin 16 => tdT ft fi d (Fin.cast nCore_zero c) s
  go := fun q d c i => match q with | 0 => goT ft fi d (Fin.cast nCore_zero c) (Fin.cast nSub_zero i)
  td := fun q d c i => match q with | 0 => tdT ft fi d (Fin.cast nCore_zero c) (Fin.cast nSub_zero i)
  x := fun _ _ => iprop(emp)

instance P_storable : (P (F := F) ft fi).IsStorable where
  st q d c := match q with
    | 0 => (inferInstance : BI.Storable (upEmb : UEmb _ 𝕄) (bigSep Finset.univ fun s : Fin 16 => goT ft fi d (Fin.cast nCore_zero c) s))
  dn q d c := match q with
    | 0 => (inferInstance : BI.Storable (upEmb : UEmb _ 𝕄) (bigSep Finset.univ fun s : Fin 16 => tdT ft fi d (Fin.cast nCore_zero c) s))
  go q d c i := match q with
    | 0 => (inferInstance : BI.Storable (upEmb : UEmb _ 𝕄) (goT ft fi d (Fin.cast nCore_zero c) (Fin.cast nSub_zero i)))
  td q d c i := match q with
    | 0 => (inferInstance : BI.Storable (upEmb : UEmb _ 𝕄) (tdT ft fi d (Fin.cast nCore_zero c) (Fin.cast nSub_zero i)))

theorem vecSplit : (K (F := F)).VecSplit' (P ft fi) 0 := by
  intro d c
  show (bigSep Finset.univ fun s : Fin 16 => goT ft fi d (Fin.cast nCore_zero c) s) ⊢ |={Set.univ}=> iprop(
      (bigSep Finset.univ fun i : Fin 16 => goT ft fi d (Fin.cast nCore_zero c) i)
      ∗ ((bigSep Finset.univ fun i : Fin 16 => tdT ft fi d (Fin.cast nCore_zero c) i)
          -∗ bigSep Finset.univ fun s : Fin 16 => tdT ft fi d (Fin.cast nCore_zero c) s))
  iintro H
  imodintro
  isplitl [H]
  · iexact H
  iintro H
  iexact H

/-! ## The three arrays and what the tiles take -/

theorem st_of (d : Dev nD) (f : S768000x128.Idx → Elt F .f32) :
    iprop((iLoc d ↦{fullShare} fi d) ∗ (tLoc d ↦{fullShare} ft d) ∗ oLoc d ↦{fullShare} f)
      ⊢ (bigSep Finset.univ fun c : Fin ((K (F := F)).nCore 0) => (P ft fi).st 0 d c : sProp 𝕄) := by
  show _ ⊢ bigSep Finset.univ fun c : Fin 2 => bigSep Finset.univ fun s : Fin 16 => goT ft fi d c s
  rw [shares (ℓ := iLoc d) (fi d), shares (ℓ := tLoc d) (ft d), o_tiles]
  simp only [bigSep_sep']
  refine sep_mono_right (sep_mono_right (bigSep_mono fun c _ => bigSep_mono fun s _ => ?_))
  unfold todo
  rw [Finset.range_eq_Ico]
  have h : ∀ t, (oPts d (cs c s) (bk c s t) f : sProp 𝕄) ⊢ iprop(∃ f, oPts d (cs c s) (bk c s t) f) := fun t => by
    iintro H
    iexists f
    iexact H
  exact bigSep_mono fun t _ => h t

theorem of_dn (d : Dev nD) :
    (bigSep Finset.univ fun c : Fin ((K (F := F)).nCore 0) => (P ft fi).dn 0 d c : sProp 𝕄)
      ⊢ iprop((iLoc d ↦{fullShare} fi d) ∗ (tLoc d ↦{fullShare} ft d) ∗ oLoc d ↦{fullShare} gath (ft d) (fi d)) := by
  show (bigSep Finset.univ fun c : Fin 2 => bigSep Finset.univ fun s : Fin 16 => tdT ft fi d c s) ⊢ _
  rw [shares (ℓ := iLoc d) (fi d), shares (ℓ := tLoc d) (ft d), o_tiles]
  simp only [bigSep_sep']
  exact BIBase.Entails.rfl

/-! ## The tiles' obligation -/

variable [FloatOps F]

theorem defs₀_vector (c : Fin τ.nSC) (s : Fin τ.nSub) :
    defs₀ (F := F) (.scVector c s) 0 ()
      = SparseCore.onTile hcore0 hsub0 (fun c s => cc0_k (cs c s)
          tV (Memref.isWhole_whole _) iV (Memref.isWhole_whole _) oV (Memref.isWhole_whole _)
          inV (Memref.isWhole_whole _) cc0_scoped1 outV (Memref.isWhole_whole _) cc0_scoped3 cc0_scoped4 cc0_scoped5) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]
  · iexact HA
  isplitl [HB]
  · iexact HB
  isplitl [HC]
  · iexact HC
  iexists W'
  isplitr
  · ipureintro
    exact fun p hp => (hW' p hp).imp_right Or.inl
  · iexact HO

attribute [local irreducible] Cert.KernelIdeal.cc0_k in
set_option maxRecDepth 16384 in
theorem tileObl (hF : (K (F := F)).Facts) (hin : ∀ d b j, (wordAt (fi d) b j).toNat < 48008) :
    (K (F := F)).TileObl (D (F := F)) 𝒱 (P ft fi) v₀ 0 := by
  intro d c i O W hO _ _
  simp only [show (P ft fi).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BIBase.Entails.trans ?_ (Pipeline.wp_liftProg (D (F := F)) (Pipeline.defs_kernel pcfgs defs₀) 𝒱₀ _ Set.univ none _ _)
  rw [defs₀_vector]
  simp only [SparseCore.onTile, hci, and_self, ↓reduceDIte]
  have hb := @tile_body F _ d (Fin.cast nCore_zero c) (Fin.cast nSub_zero i) (qs (Fin.cast nCore_zero c) (Fin.cast nSub_zero i))
    (qs (Fin.cast nCore_zero c) (Fin.cast nSub_zero i)) (ft d) (fi d) hF O W hO (hin d)
  exact BIBase.Entails.trans hb (wp_mono frame _ _ fun _ => obl_post)

end Cert.Proof.KI
-- ==== Proof.Main.lean ====
/-
  @main on the TensorCore: the host operations, the SparseCore call, the host operations between, the pipelined call, and
  the last reshape, from the launch memory to the buffers' final contents.
-/
module

public import proofs.«01_k».proof.Proof.Hosts
public import proofs.«01_k».proof.Proof.Launch
public import Idealize.ShloMosaic.Lib.SparseCore.Threads

@[expose] public section

noncomputable section

namespace Cert.Proof.KI

open Cert.KernelIdeal Cert.KernelIdeal.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- The pipelined call's rounds in the algebra. -/
abbrev EP : Emb UP (MT nD τ sig (HIx 1) (Elt F) ℕ UU ℕ) := (Emb.inl).trans embR

theorem hinj : Function.Injective (Pipeline.cellOf (nD := nD) (τ := τ) (Pipeline.pin (pcfgs (F := F)) adm)) := launch1.toP.cellOf_inj adm

/-! ## The pipelined call -/

theorem arrs_sub : Pipeline.arrRefs (τ := τ) (pcfgs (F := F) 0).spec ⊆ ucRefs := by
  intro b hb
  obtain ⟨r, hr, rfl⟩ := Finset.mem_map.mp hb
  obtain ⟨w, -, rfl⟩ := Finset.mem_image.mp hr
  exact mem_ucRefs _ (match (w : Fin 4) with
    | ⟨0, _⟩ => rfl
    | ⟨1, _⟩ => rfl
    | ⟨2, _⟩ => rfl
    | ⟨3, _⟩ => rfl)

/-- The pipelined call's own ghost state. -/
abbrev pipeG (d : Dev nD) : sProp 𝕄 :=
  iprop(Pipeline.cellsGhost (Pipeline.pin (pcfgs (F := F)) adm) EP 0 d ∗ Pipeline.toksInit (Pipeline.pin (pcfgs (F := F)) adm) EP 0 d)

abbrev afterCall (W : Dev nD → Valuation τ sig (Elt F)) (d : Dev nD) : Valuation τ sig (Elt F) :=
  Pipeline.afterRegion (pdats W 0 d) (W d)

theorem reg_pre (W : Dev nD → Valuation τ sig (Elt F)) (d : Dev nD) :
    iprop(StableHlo.held (d.tc : Thread nD τ) ucRefs (W d) ∗ ((∃ Wd, owes (d.tc : Thread nD τ) 0 Wd) ∗ BI.emp ∗ iprop(emp)))
      ⊢ ((reg W fun _ => iprop(emp)).pre d : sProp 𝕄) := by
  unfold reg
  exact Pipeline.RegionSeg.ofHeldIn_pre (pcs := pcfgs (F := F)) (a := adm) (pdats := pdats W) (ι := (none : HIx 1)) (defs₀ := defs₀) (𝒱₀ := 𝒱₀)
    (L := (K (F := F)).L) (lv := (K (F := F)).lev) (p := 0) (D := fun _ => 0) (S := ucRefs) (X := fun _ => BI.emp) (Y := fun _ => BI.emp)
    (R := fun _ => iprop(emp)) (W := W) arrs_sub d

theorem reg_post (W : Dev nD → Valuation τ sig (Elt F)) (d : Dev nD) :
    ((reg W fun _ => iprop(emp)).post d : sProp 𝕄)
      ⊢ iprop(StableHlo.held (d.tc : Thread nD τ) ucRefs (afterCall W d) ∗ ((∃ Wd, owes (d.tc : Thread nD τ) 0 Wd) ∗ BI.emp ∗ iprop(emp))) := by
  unfold reg
  exact Pipeline.RegionSeg.ofHeldIn_post (pcs := pcfgs (F := F)) (a := adm) (pdats := pdats W) (ι := (none : HIx 1)) (defs₀ := defs₀) (𝒱₀ := 𝒱₀)
    (L := (K (F := F)).L) (lv := (K (F := F)).lev) (p := 0) (D := fun _ => 0) (S := ucRefs) (X := fun _ => BI.emp) (Y := fun _ => BI.emp)
    (R := fun _ => iprop(emp)) (W := W) arrs_sub d

theorem region_step [∀ e, Nonempty (Elt F e)] (W : Dev nD → Valuation τ sig (Elt F)) (d : Dev nD) (Φ : PUnit → sProp 𝕄) :
    iprop(boundary (d.tc : Thread nD τ) ∗ StableHlo.held (d.tc : Thread nD τ) ucRefs (W d) ∗ (∃ Wd, owes (d.tc : Thread nD τ) 0 Wd)
        ∗ levAts (K (F := F)).L (K (F := F)).lev ∗ pipeG d
        ∗ ((boundary (d.tc : Thread nD τ) ∗ StableHlo.held (d.tc : Thread nD τ) ucRefs (afterCall W d) ∗ ∃ Wd, owes (d.tc : Thread nD τ) 0 Wd) -∗ Φ ⟨⟩))
      ⊢ wp frame (wpE ((K (F := F)).defs (D (F := F))) 𝒱 (SparseCore.T d) none) Set.univ
          (Prog.lift (.customCall (SparseCore.inner (Pipeline.entry 0)) ()) : Prog (TpuEff nD τ sig (Elt F) (SparseCore.Sig (ΛP (F := F)) 1) .tc) PUnit) Φ := by
  rw [show (Prog.lift (.customCall (SparseCore.inner (Pipeline.entry 0)) ()) : Prog (TpuEff nD τ sig (Elt F) (SparseCore.Sig (ΛP (F := F)) 1) .tc) PUnit)
    = SparseCore.liftProg (.op (.customCall (Pipeline.entry 0) ()) fun _ => .ret ⟨⟩) from rfl]
  refine BIBase.Entails.trans ?_ ((K (F := F)).wp_liftProg (D (F := F)) 𝒱 (SparseCore.T d) Set.univ none _ _)
  have hw := Pipeline.RegionSeg.wp (pcfgs (F := F)) adm (pdats W) (none : HIx 1) hinj EP defs₀ 𝒱₀ (K (F := F)).L (K (F := F)).lev
    (reg W fun _ => iprop(emp)) d none (fun _ h => nomatch h) (fun _ => .ret ⟨⟩) Φ
  refine BIBase.Entails.trans ?_ hw
  iintro ⟨Hb, Hh, HO, Hlev, ⟨Hcg, Htok⟩, Hk⟩
  isplitl [Hk]
  · iintro ⟨Hb, Hpost⟩
    ihave Hp := (reg_post W d) $$ Hpost
    icases Hp with ⟨Hh, HO, -⟩
    rw [wp_ret]
    imodintro
    iapply Hk
    isplitl [Hb]; · iexact Hb
    isplitl [Hh]; · iexact Hh
    iexact HO
  isplitl [Hb]; · iexact Hb
  isplitl [Hh HO]
  · iapply (reg_pre W d)
    isplitl [Hh]; · iexact Hh
    isplitl [HO]; · iexact HO
    isplitr; · iempintro
    iempintro
  isplitl [Hlev]; · iexact Hlev
  isplitl [Hcg]; · iexact Hcg
  iexact Htok

/-! ## What the TensorCore owes after the SparseCore call -/

theorem lev_le (g : GSem nD τ sig) (i : HIx 1) : (K (F := F)).lev g i ≤ 8 := by
  have hp : (K (F := F)).place g ≤ 6 := by
    unfold SparseCore.Cfg.place
    split
    · split_ifs <;> omega
    · omega
    · split_ifs <;> omega
    · omega
    · omega
  match i with
  | none => exact Nat.zero_le _
  | some q =>
    show 8 * q.val + (K (F := F)).place g + 1 ≤ 8
    have := q.isLt
    omega

theorem tcSt_owes (d : Dev nD) : ((K (F := F)).tcSt EH d 1 : sProp 𝕄)
    ⊢ iprop((∃ Wd, owes (d.tc : Thread nD τ) 0 Wd) ∗ ((∃ Wd, owes (d.tc : Thread nD τ) 0 Wd) -∗ (K (F := F)).tcSt EH d 1)) := by
  unfold SparseCore.Cfg.tcSt
  rw [(K (F := F)).Otc_end d (Nat.le_refl 1)]
  iintro ⟨⟨%W, -, HO⟩, HR⟩
  isplitl [HO]
  · iexists W; iexact HO
  iintro ⟨%W', HO⟩
  isplitl [HO]
  · iexists W'
    isplitr
    · ipureintro; exact fun p _ => lev_le _ _
    iexact HO
  iexact HR

/-! ## The contents along @main -/

variable (m : (ℓ : Loc nD τ sig) → Buf (Elt F) ℓ)

abbrev V0 (d : Dev nD) : Valuation τ sig (Elt F) := fun b => m (d, b)
def V1 (d : Dev nD) : Valuation τ sig (Elt F) := StableHlo.after ops0 (V0 m d)
/-- The table, -/
def ft (d : Dev nD) : S48008x128.Idx → Elt F .f32 := V1 m d (Proc.devRef .tc main_v2)
/-- the index list, -/
def fi (d : Dev nD) : S6000x1x128.Idx → Elt F .i32 := V1 m d (Proc.devRef .tc main_v17)
/-- and the buffers with the gathered rows. -/
def V2 (d : Dev nD) : Valuation τ sig (Elt F) :=
  Function.update (V1 m d) (Proc.devRef .tc main_v18) (gath (ft m d) (fi m d) : S768000x128.Idx → Elt F .f32)
def V3 (d : Dev nD) : Valuation τ sig (Elt F) := StableHlo.after ops1 (V2 m d)
def V4 (d : Dev nD) : Valuation τ sig (Elt F) := afterCall (V3 m) d
/-- The buffers at the end. -/
def V5 (d : Dev nD) : Valuation τ sig (Elt F) := StableHlo.after ops2 (V4 m d)

/-- The gather's three arrays. -/
abbrev scRefs : Finset (DevRef τ sig) := {Proc.devRef .tc main_v17, Proc.devRef .tc main_v2, Proc.devRef .tc main_v18}

theorem held_sc (d : Dev nD) (W : Valuation τ sig (Elt F)) :
    (StableHlo.held (d.tc : Thread nD τ) scRefs W : sProp 𝕄)
      = iprop((iLoc d ↦{fullShare} W (Proc.devRef .tc main_v17)) ∗ (tLoc d ↦{fullShare} W (Proc.devRef .tc main_v2))
          ∗ oLoc d ↦{fullShare} W (Proc.devRef .tc main_v18)) := by
  unfold StableHlo.held scRefs
  rw [SparseCore.bigSep_insert' (by decide), SparseCore.bigSep_insert' (by decide), bigSep_singleton]

theorem scRefs_sub : (scRefs : Finset (DevRef τ sig)) ⊆ ucRefs := sub3 rfl rfl rfl

/-- The gathered rows put back beside the other buffers. -/
theorem held_back (d : Dev nD) :
    iprop(((iLoc d ↦{fullShare} fi m d) ∗ (tLoc d ↦{fullShare} ft m d) ∗ oLoc d ↦{fullShare} gath (ft m d) (fi m d))
        ∗ StableHlo.held (d.tc : Thread nD τ) (ucRefs \ scRefs) (V1 m d))
      ⊢ (StableHlo.held (d.tc : Thread nD τ) ucRefs (V2 m d) : sProp 𝕄) := by
  rw [StableHlo.held_sub_split (d.tc : Thread nD τ) scRefs_sub (V2 m d), held_sc,
    StableHlo.held_congr (d.tc : Thread nD τ) (S := ucRefs \ scRefs) (V := V2 m d) (V' := V1 m d)
      (fun b hb => Function.update_of_ne (fun e => (Finset.mem_sdiff.mp hb).2 (by rw [e]; decide)) _ _)]
  have e1 : V2 m d (Proc.devRef .tc main_v17) = fi m d := Function.update_of_ne (by decide) _ _
  have e2 : V2 m d (Proc.devRef .tc main_v2) = ft m d := Function.update_of_ne (by decide) _ _
  have e3 : V2 m d (Proc.devRef .tc main_v18) = gath (ft m d) (fi m d) := Function.update_self _ _ _
  rw [e1, e2, e3]

variable (ρ : Dev nD → PrngReg)

abbrev FIN (d : Dev nD) : sProp 𝕄 := StableHlo.held (d.tc : Thread nD τ) ucRefs (V5 m d)

attribute [local irreducible] Cert.KernelIdeal.main in
set_option maxRecDepth 16384 in
theorem hmain [∀ e, Nonempty (Elt F e)] (κ : GSem nD τ sig → ℕ) (d : Dev nD) :
    iprop((K (F := F)).ctx EH (P (ft m) (fi m)) κ ∗ (K (F := F)).tcSt EH d 0 ∗ (K (F := F)).tcRes m ρ d ∗ pipeG d)
      ⊢ wp frame (wpE ((K (F := F)).defs (D (F := F))) 𝒱 (SparseCore.T d) none) Set.univ (main d)
          fun _ => iprop((K (F := F)).tcSt EH d 1 ∗ FIN m d ∗ (K (F := F)).tcEnd d) := by
  rw [main_eq]
  unfold SparseCore.Cfg.tcRes SparseCore.Cfg.tcEnd
  iintro ⟨#Hctx, Hst, ⟨Hb, Hu, Hts, -⟩, Hpg⟩
  ihave Hh := (BIBase.Entails.of_eq (unscopedBufs_held d (V0 m d))) $$ Hu
  iapply (StableHlo.wp_seq 𝒱 none Set.univ d ucRefs _ ops0 ops0_sub ops0_fresh (V0 m d)) $$ [Hb Hh]
  · isplitl [Hb]; · iexact Hb
    iexact Hh
  iintro ⟨Hb, Hh⟩
  rw [show StableHlo.after ops0 (V0 m d) = V1 m d from rfl]
  ihave Hs := (BIBase.Entails.of_eq (StableHlo.held_sub_split (d.tc : Thread nD τ) scRefs_sub (V1 m d))) $$ Hh
  icases Hs with ⟨Hsc, Hrest⟩
  ihave Hsc' := (BIBase.Entails.of_eq (held_sc d (V1 m d))) $$ Hsc
  rw [show V1 m d (Proc.devRef .tc main_v17) = fi m d from rfl, show V1 m d (Proc.devRef .tc main_v2) = ft m d from rfl]
  ihave Hst0 := (st_of (ft m) (fi m) d (V1 m d (Proc.devRef .tc main_v18))) $$ Hsc'
  rw [wp_bind]
  iapply ((K (F := F)).wp_run (D (F := F)) 𝒱 (EH := EH) (P := P (ft m) (fi m)) κ d 0) $$ [Hst Hst0 Hb Hrest Hts Hpg]
  isplitr; · iexact Hctx
  isplitl [Hst]; · iexact Hst
  isplitl [Hst0]; · iexact Hst0
  iintro ⟨Hst, Hdn⟩
  ihave Hdn' := (of_dn (ft m) (fi m) d) $$ Hdn
  ihave Hh := (held_back m d) $$ [Hdn' Hrest]
  · isplitl [Hdn']; · iexact Hdn'
    iexact Hrest
  iapply (StableHlo.wp_seq 𝒱 none Set.univ d ucRefs _ ops1 ops1_sub ops1_fresh (V2 m d)) $$ [Hb Hh]
  · isplitl [Hb]; · iexact Hb
    iexact Hh
  iintro ⟨Hb, Hh⟩
  rw [wp_bind]
  ihave Hst := (BIBase.Entails.of_eq (show ((K (F := F)).tcSt EH d ((0 : Fin 1).val + 1) : sProp 𝕄) = (K (F := F)).tcSt EH d 1 from rfl)) $$ Hst
  ihave Ho := (tcSt_owes d) $$ Hst
  icases Ho with ⟨HO, Hback⟩
  ihave Hlev := (SparseCore.Cfg.ctx_levAts κ) $$ Hctx
  iapply (region_step (V3 m) d)
  isplitl [Hb]; · iexact Hb
  isplitl [Hh]; · iexact Hh
  isplitl [HO]; · iexact HO
  isplitl [Hlev]; · iexact Hlev
  isplitl [Hpg]; · iexact Hpg
  iintro ⟨Hb, Hh, HO⟩
  rw [← bind_pure (StableHlo.seq ops2)]
  iapply (StableHlo.wp_seq 𝒱 none Set.univ d ucRefs _ ops2 ops2_sub ops2_fresh (V4 m d)) $$ [Hb Hh]
  · isplitl [Hb]; · iexact Hb
    iexact Hh
  iintro ⟨Hb, Hh⟩
  rw [wp_pure]
  imodintro
  isplitl [Hback HO]
  · iapply Hback; iexact HO
  isplitl [Hh]; · iexact Hh
  isplitl [Hb]; · iexact Hb
  iexact Hts

/-! ## The launch element of the ghost state -/

omit [FloatOps F] in
theorem bigSep_emp' {I : Type} (s : Finset I) : (bigSep s fun _ => iprop(emp)) = (iprop(emp) : sProp 𝕄) := bigSep_emp_const s

def u₀ : UU := (initOf (K (F := F)).hsCells (K (F := F)).hsToks,
  (initOf (Pipeline.cells (nD := nD) (τ := τ) (Pipeline.pin (pcfgs (F := F)) adm) hinj) (Pipeline.launchToks (Pipeline.pin (pcfgs (F := F)) adm) hinj), 1))

theorem hu₀ : (ownU (u₀ (F := F)) : sProp 𝕄)
    ⊢ |={Set.univ}=> iprop(BI.own (EH (initOf (K (F := F)).hsCells (K (F := F)).hsToks)) ∗ (bigSep Finset.univ fun d : Dev nD => pipeG d)
        ∗ bigSep Finset.univ fun thr : Thread nD τ => bigSep Finset.univ fun q : Fin 1 => (P (ft m) (fi m)).x q thr) := by
  unfold u₀
  iintro Hu
  ihave H := (ownU_pair _ _) $$ Hu
  icases H with ⟨HH, HR⟩
  ihave H2 := (own_pair_emb embR _ _) $$ HR
  icases H2 with ⟨HP, -⟩
  imod (Pipeline.fund_ghost (Pipeline.pin (pcfgs (F := F)) adm) EP hinj) $$ HP with ⟨Hc, Ht⟩
  imodintro
  isplitl [HH]; · iexact HH
  isplitl [Hc Ht]
  · iapply (show iprop((bigSep Finset.univ fun c : Dev nD => bigSep Finset.univ fun p => Pipeline.cellsGhost (Pipeline.pin (pcfgs (F := F)) adm) EP p c)
        ∗ (bigSep Finset.univ fun c : Dev nD => bigSep Finset.univ fun p => (Pipeline.toksInit (Pipeline.pin (pcfgs (F := F)) adm) EP p c : sProp 𝕄)))
          ⊢ (bigSep Finset.univ fun d : Dev nD => pipeG d : sProp 𝕄) from by
      rw [← bigSep_sep']
      exact BIBase.Entails.of_eq (bigSep_congr fun d _ => by
        rw [bigSep_univ_of_subsingleton (0 : Fin 1), bigSep_univ_of_subsingleton (0 : Fin 1)]))
    isplitl [Hc]; · iexact Hc
    iexact Ht
  rw [show (bigSep Finset.univ fun thr : Thread nD τ => bigSep Finset.univ fun q : Fin 1 => (P (F := F) (ft m) (fi m)).x q thr) = bigSep Finset.univ fun _ => iprop(emp) from
    bigSep_congr fun _ _ => bigSep_univ_of_subsingleton (0 : Fin 1), bigSep_emp']
  iempintro

/-! ## The final memory -/

def fq (d : Dev nD) (s' : Phys nD τ sig (Elt F)) : Prop :=
  ∀ r : Ref sig .tc, (Proc.devRef (τ := τ) .tc r).isScoped = false → s'.mem.mem (d, Proc.devRef .tc r) = V5 m d (Proc.devRef .tc r)

set_option maxRecDepth 16384 in
theorem hfin (d : Dev nD) (s' : Phys nD τ sig (Elt F)) : iprop(FIN m d ∗ SI s') ⊢ (⌜fq m d s'⌝ : sProp 𝕄) := by
  have h : ∀ r : Ref sig .tc, (Proc.devRef (τ := τ) .tc r).isScoped = false →
      iprop(FIN m d ∗ SI s') ⊢ (⌜s'.mem.mem (d, Proc.devRef .tc r) = V5 m d (Proc.devRef .tc r)⌝ : sProp 𝕄) := fun r hr => by
    unfold FIN StableHlo.held
    iintro ⟨Hh, HSI⟩
    ihave Hr := (show (bigSep ucRefs fun b => ((((d.tc : Thread nD τ).1, b) : Loc nD τ sig) ↦{fullShare} V5 m d b : sProp 𝕄)) ⊢ _ from
      bigSep_elim (Φ := fun b => ((((d.tc : Thread nD τ).1, b) : Loc nD τ sig) ↦{fullShare} V5 m d b : sProp 𝕄)) (mem_ucRefs r hr)) $$ Hh
    ihave H := (SI_pointsTo_agree (st := s') (ℓ := ((d, Proc.devRef .tc r) : Loc nD τ sig)) (I := Finset.univ) (q := fullShare) (f := V5 m d (Proc.devRef .tc r))) $$ [HSI Hr]
    · isplitl [HSI] <;> iassumption
    icases H with %h1
    ipureintro
    exact funext fun i => h1 i (Finset.mem_univ i)
  by_cases hq : fq m d s'
  · exact BIBase.Entails.trans (h main_v30 rfl) (Laws.pure_mono fun _ => hq)
  · unfold fq at hq
    push Not at hq
    obtain ⟨r, hr, hne⟩ := hq
    exact BIBase.Entails.trans (h r hr) (Laws.pure_mono fun e => absurd e hne)

def QC : PUnit × MemSt nD τ sig (Elt F) → Prop := fun r =>
  (∀ (d : Dev nD) (b : Ref sig .tc), (Proc.devRef (τ := τ) .tc b).isScoped = false → r.2.mem (d, Proc.devRef .tc b) = V5 m d (Proc.devRef .tc b))
    ∧ r.2.sem = fun _ => 0

attribute [local irreducible] Cert.KernelIdeal.main in
/-- Every run ends, with the buffers at `V5` and every semaphore at zero. -/
theorem run_main [∀ e, Nonempty (Elt F e)] (hin : ∀ d b j, (wordAt (fi m d) b j).toNat < 48008) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P (ft m) (fi m)) (A := ∅) facts v₀
    (fun q hq => match q with | 0 => nomatch hq)
    (fun q _ => match q with | 0 => tileObl (ft m) (fi m) facts hin)
    (fun q _ => match q with | 0 => SparseCore.Cfg.VecSplit.of_plain (vecSplit (ft m) (fi m)))
    m ρ main pipeG (FIN m) (u₀ (F := F)) (sep_elim_left.trans (hu₀ m)) (hmain m ρ) (fq m) (hfin m) (QC m) (fun _ h hz => ⟨h, hz⟩)

end Cert.Proof.KI
-- ==== Proof.HostValue.lean ====
/-
  The table and the index list that the host operations before the SparseCore call leave, read at an index: row `x` of the
  table is row `x` of the node values, all zeros past them; a word of the index list is the neighbor's row in its batch's
  part of the table, or the first row of zeros for a missing neighbor.
-/
module

public import proofs.«01_k».proof.Proof.Main
public import Idealize.ShloMosaic.Lib.Pipeline.Value
public import Idealize.ShloMosaic.Lib.IdealHost
public import Idealize.ShloMosaic.Lib.Affine

@[expose] public section

noncomputable section

namespace Cert.Proof.KI

open Cert.KernelIdeal Cert.KernelIdeal.Gen

open Idealize.ShloMosaic Idealize.ShloMosaic.TcCoe
open Idealize.ShloMosaic.ValueIdx

variable {F : FTy → Type} [FloatOps F]
variable (m : (ℓ : Loc nD τ sig) → Buf (Elt F) ℓ)

/-- The argument arrays. -/
abbrev A0 (d : Dev nD) : S4x12000x128.Idx → Elt F .f32 := m (d, Proc.devRef .tc main_arg0)
abbrev A1 (d : Dev nD) : S10000x16.Idx → BitVec 32 := m (d, Proc.devRef .tc main_arg1)
abbrev A2 (d : Dev nD) : S2000x16.Idx → BitVec 32 := m (d, Proc.devRef .tc main_arg2)
abbrev A3 (d : Dev nD) : S128x2048.Idx → Elt F .f32 := m (d, Proc.devRef .tc main_arg3)
abbrev A4 (d : Dev nD) : S128.Idx → Elt F .f32 := m (d, Proc.devRef .tc main_arg4)
abbrev A5 (d : Dev nD) : S128x2048.Idx → Elt F .f32 := m (d, Proc.devRef .tc main_arg5)
abbrev A6 (d : Dev nD) : S128.Idx → Elt F .f32 := m (d, Proc.devRef .tc main_arg6)

/-- Neighbor `k` of node `r`. -/
def nbr (a : S10000x16.Idx → BitVec 32) (b : S2000x16.Idx → BitVec 32) (r : Fin 12000) (k : Fin 16) : BitVec 32 :=
  if h : r.val < 10000 then a (ix2 ⟨r.val, h⟩ k) else b (ix2 ⟨r.val - 10000, by omega⟩ k)

/-- The word the index list holds for neighbor word `v` in batch `b`. -/
def wordOf (v : BitVec 32) (b : Fin 4) : BitVec 32 :=
  Scalar.select (IntOp.cmpi .slt v 12000#32) (v + BitVec.ofNat 32 b.val * 12000#32) 48000#32

/-- The index list as the host operations compute it from the two index arrays. -/
def listOf (a : S10000x16.Idx → BitVec 32) (b : S2000x16.Idx → BitVec 32) : S6000x1x128.Idx → BitVec 32 :=
  shapeCast S6000x1x128 (shapeCast S768000 (select
      (broadcastInDim S4x12000x16 ![0, 1, 2] bcast_S1x12000x16_S4x12000x16_0_1_2
        (cmpi .slt (broadcastInDim S1x12000x16 ![1, 2] bcast_S12000x16_S1x12000x16_1_2
          (concatenate S12000x16 0 [⟨S10000x16, a⟩, ⟨S2000x16, b⟩] concatenates_S10000x16_S2000x16_S12000x16_d0))
          (broadcastInDim S1x12000x16 ![] bcast_S_S1x12000x16 (constantI S_ 32 12000#32))))
      (addi (broadcastInDim S4x12000x16 ![0, 1, 2] bcast_S1x12000x16_S4x12000x16_0_1_2
          (broadcastInDim S1x12000x16 ![1, 2] bcast_S12000x16_S1x12000x16_1_2
            (concatenate S12000x16 0 [⟨S10000x16, a⟩, ⟨S2000x16, b⟩] concatenates_S10000x16_S2000x16_S12000x16_d0)))
        (broadcastInDim S4x12000x16 ![0, 1, 2] bcast_S4x1x1_S4x12000x16_0_1_2
          (broadcastInDim S4x1x1 ![0] bcast_S4_S4x1x1_0 (muli (iotaInDim S4 32 0) (broadcastInDim S4 ![] bcast_S_S4 (constantI S_ 32 12000#32))))))
      (broadcastInDim S4x12000x16 ![] bcast_S_S4x12000x16 (constantI S_ 32 48000#32)))
    shapeCasts_S4x12000x16_S768000) shapeCasts_S768000_S6000x1x128

/-- The table as the host operations compute it from the node values. -/
def tableOf (x : S4x12000x128.Idx → Elt F .f32) : S48008x128.Idx → Elt F .f32 :=
  concatenate S48008x128 0 [⟨S48000x128, shapeCast S48000x128 x shapeCasts_S4x12000x128_S48000x128⟩,
    ⟨S8x128, broadcastInDim S8x128 ![] bcast_S_S8x128 (constant S_ .f32 0x00000000#32)⟩] concatenates_S48000x128_S8x128_S48008x128_d0

theorem fi_eq (d : Dev nD) : fi m d = listOf (A1 m d) (A2 m d) := by
  unfold fi V1 ops0
  after_results
  rfl

theorem ft_eq (d : Dev nD) : ft m d = tableOf (A0 m d) := by
  unfold ft V1 ops0
  after_results
  rfl

theorem cat_apply (a : S10000x16.Idx → BitVec 32) (b : S2000x16.Idx → BitVec 32) (r : Fin 12000) (k : Fin 16) :
    concatenate S12000x16 0 [⟨S10000x16, a⟩, ⟨S2000x16, b⟩] concatenates_S10000x16_S2000x16_S12000x16_d0 (ix2 r k) = nbr a b r k := by
  unfold nbr
  split
  · next h =>
    exact concatenate_pair_apply_left (t := S12000x16) (s₁ := S10000x16) (s₂ := S2000x16) (0 : Fin 2) a b _ (ix2 r k) rfl
      (ix2 ⟨r.val, h⟩ k) fun c => match c with | ⟨0, _⟩ => rfl | ⟨1, _⟩ => rfl
  · next h =>
    refine concatenate_pair_apply_right (t := S12000x16) (s₁ := S10000x16) (s₂ := S2000x16) (0 : Fin 2) a b _ (ix2 r k) rfl rfl
      (ix2 ⟨r.val - 10000, by omega⟩ k) (fun c hc => match c with | ⟨0, _⟩ => absurd rfl hc | ⟨1, _⟩ => rfl) ?_
    show r.val - 10000 + 10000 = r.val
    omega

section
variable (z : S12000x16.Idx → BitVec 32) (c : Fin 4) (r : Fin 12000) (k : Fin 16)

theorem up1 : broadcastInDim S1x12000x16 ![1, 2] bcast_S12000x16_S1x12000x16_1_2 z (ix3 (0 : Fin 1) r k) = z (ix2 r k) :=
  broadcastInDim_apply (s := S12000x16) (t := S1x12000x16) _ _ _ (ix3 (0 : Fin 1) r k) (ix2 r k)
    (fun c => match c with | ⟨0, _⟩ => rfl | ⟨1, _⟩ => rfl)

theorem up2 {α : Type} (y : S1x12000x16.Idx → α) :
    broadcastInDim S4x12000x16 ![0, 1, 2] bcast_S1x12000x16_S4x12000x16_0_1_2 y (ix3 c r k) = y (ix3 (0 : Fin 1) r k) :=
  broadcastInDim_apply (s := S1x12000x16) (t := S4x12000x16) _ _ y (ix3 c r k) (ix3 (0 : Fin 1) r k)
    (fun c => match c with | ⟨0, _⟩ => rfl | ⟨1, _⟩ => rfl | ⟨2, _⟩ => rfl)

theorem up3 (y : S4.Idx → BitVec 32) : broadcastInDim S4x12000x16 ![0, 1, 2] bcast_S4x1x1_S4x12000x16_0_1_2
      (broadcastInDim S4x1x1 ![0] bcast_S4_S4x1x1_0 y) (ix3 c r k) = y (ix1 c) := by
  rw [broadcastInDim_apply (s := S4x1x1) (t := S4x12000x16) _ _ _ (ix3 c r k) (ix3 c (0 : Fin 1) (0 : Fin 1))
      (fun c => match c with | ⟨0, _⟩ => rfl | ⟨1, _⟩ => rfl | ⟨2, _⟩ => rfl),
    broadcastInDim_apply (s := S4) (t := S4x1x1) _ _ _ (ix3 c (0 : Fin 1) (0 : Fin 1)) (ix1 c) (fun c => match c with | ⟨0, _⟩ => rfl)]

/-- The words before the two reshapes. -/
theorem words_apply : select
      (broadcastInDim S4x12000x16 ![0, 1, 2] bcast_S1x12000x16_S4x12000x16_0_1_2
        (cmpi .slt (broadcastInDim S1x12000x16 ![1, 2] bcast_S12000x16_S1x12000x16_1_2 z)
          (broadcastInDim S1x12000x16 ![] bcast_S_S1x12000x16 (constantI S_ 32 12000#32))))
      (addi (broadcastInDim S4x12000x16 ![0, 1, 2] bcast_S1x12000x16_S4x12000x16_0_1_2
          (broadcastInDim S1x12000x16 ![1, 2] bcast_S12000x16_S1x12000x16_1_2 z))
        (broadcastInDim S4x12000x16 ![0, 1, 2] bcast_S4x1x1_S4x12000x16_0_1_2
          (broadcastInDim S4x1x1 ![0] bcast_S4_S4x1x1_0 (muli (iotaInDim S4 32 0) (broadcastInDim S4 ![] bcast_S_S4 (constantI S_ 32 12000#32))))))
      (broadcastInDim S4x12000x16 ![] bcast_S_S4x12000x16 (constantI S_ 32 48000#32)) (ix3 c r k) = wordOf (z (ix2 r k)) c := by
  have e1 : cmpi .slt (broadcastInDim S1x12000x16 ![1, 2] bcast_S12000x16_S1x12000x16_1_2 z)
      (broadcastInDim S1x12000x16 ![] bcast_S_S1x12000x16 (constantI S_ 32 12000#32)) (ix3 (0 : Fin 1) r k)
      = IntOp.cmpi .slt (z (ix2 r k)) 12000#32 :=
    congrArg₂ (IntOp.cmpi .slt) (up1 z r k) (broadcastInDim_scalar_apply _ _ _)
  have e2 : addi (broadcastInDim S4x12000x16 ![0, 1, 2] bcast_S1x12000x16_S4x12000x16_0_1_2
          (broadcastInDim S1x12000x16 ![1, 2] bcast_S12000x16_S1x12000x16_1_2 z))
        (broadcastInDim S4x12000x16 ![0, 1, 2] bcast_S4x1x1_S4x12000x16_0_1_2
          (broadcastInDim S4x1x1 ![0] bcast_S4_S4x1x1_0 (muli (iotaInDim S4 32 0) (broadcastInDim S4 ![] bcast_S_S4 (constantI S_ 32 12000#32))))) (ix3 c r k)
      = IntOp.addi (z (ix2 r k)) (BitVec.ofNat 32 c.val * 12000#32) :=
    congrArg₂ IntOp.addi ((up2 c r k _).trans (up1 z r k)) ((up3 c r k _).trans (congrArg (fun w => IntOp.muli (BitVec.ofNat 32 c.val) w) (broadcastInDim_scalar_apply _ _ _)))
  rw [select_apply, up2, broadcastInDim_scalar_apply, e1, e2]
  rfl

end

theorem listOf_apply (a : S10000x16.Idx → BitVec 32) (b : S2000x16.Idx → BitVec 32) (blk : Fin 6000) (j : Fin 128)
    (c : Fin 4) (r : Fin 12000) (k : Fin 16) (h : blk.val * 128 + j.val = (c.val * 12000 + r.val) * 16 + k.val) :
    listOf a b (ix3 blk (0 : Fin 1) j) = wordOf (nbr a b r k) c := by
  have hn : blk.val * 128 + j.val < 768000 := by omega
  unfold listOf
  refine (shapeCast_apply (s := S768000) (t := S6000x1x128) _ _ (ix3 blk (0 : Fin 1) j) (ix1 (⟨blk.val * 128 + j.val, hn⟩ : Fin 768000)) (by
      rw [Shape.rowMajor_val_one, Shape.rowMajor_val_three]
      show blk.val * 128 + j.val = (blk.val * 1 + 0) * 128 + j.val
      omega)).trans ?_
  refine (shapeCast_apply (s := S4x12000x16) (t := S768000) _ _ _ (ix3 c r k) (by
      rw [Shape.rowMajor_val_one, Shape.rowMajor_val_three]
      show (c.val * 12000 + r.val) * 16 + k.val = blk.val * 128 + j.val
      omega)).trans ?_
  rw [words_apply, cat_apply]

theorem tableOf_lo (x : S4x12000x128.Idx → Elt F .f32) (c : Fin 4) (r : Fin 12000) (k : Fin 128) (p : Fin 48008) (h : p.val = c.val * 12000 + r.val) :
    tableOf x (ix2 p k) = x (ix3 c r k) := by
  unfold tableOf
  have hp : p.val < 48000 := by omega
  rw [concatenate_pair_apply_left (t := S48008x128) (s₁ := S48000x128) (s₂ := S8x128) (0 : Fin 2) _ _ _ (ix2 p k) rfl
      (ix2 (⟨p.val, hp⟩ : Fin 48000) k) (fun c => match c with | ⟨0, _⟩ => rfl | ⟨1, _⟩ => rfl),
    shapeCast_apply (s := S4x12000x128) (t := S48000x128) _ _ _ (ix3 c r k) (by
      rw [Shape.rowMajor_val_two, Shape.rowMajor_val_three]
      show (c.val * 12000 + r.val) * 128 + k.val = p.val * 128 + k.val
      rw [h])]

theorem tableOf_hi (x : S4x12000x128.Idx → Elt F .f32) (k : Fin 128) (p : Fin 48008) (h : 48000 ≤ p.val) :
    tableOf x (ix2 p k) = constant (F := F) S_ .f32 0x00000000#32 ix0 := by
  unfold tableOf
  rw [concatenate_pair_apply_right (t := S48008x128) (s₁ := S48000x128) (s₂ := S8x128) (0 : Fin 2) _ _ _ (ix2 p k) rfl rfl
      (ix2 (⟨p.val - 48000, by omega⟩ : Fin 8) k) (fun c hc => match c with | ⟨0, _⟩ => absurd rfl hc | ⟨1, _⟩ => rfl) (by
        show p.val - 48000 + 48000 = p.val
        omega), broadcastInDim_scalar_apply]

/-- A neighbor word as drawn: a node, or beyond the nodes and below 20000. -/
def InRange (a : S10000x16.Idx → BitVec 32) (b : S2000x16.Idx → BitVec 32) : Prop :=
  (∀ i, (a i).toNat < 20000) ∧ ∀ i, (b i).toNat < 20000

theorem nbr_lt {a : S10000x16.Idx → BitVec 32} {b : S2000x16.Idx → BitVec 32} (h : InRange a b) (r : Fin 12000) (k : Fin 16) :
    (nbr a b r k).toNat < 20000 := by
  unfold nbr
  split
  · exact h.1 _
  · exact h.2 _

theorem wordOf_lo (v : BitVec 32) (c : Fin 4) (h : v.toNat < 12000) : (wordOf v c).toNat = c.val * 12000 + v.toNat := by
  unfold wordOf
  rw [(IntOp.cmpi_slt (x := v) (y := 12000#32)).mpr (by rw [BitVec.toInt_eq_toNat_cond]; simp; omega), select_one, BitVec.toNat_add, BitVec.toNat_mul,
    BitVec.toNat_ofNat, BitVec.toNat_ofNat]
  omega

theorem wordOf_hi (v : BitVec 32) (c : Fin 4) (h : 12000 ≤ v.toNat) (h' : v.toNat < 20000) : (wordOf v c).toNat = 48000 := by
  unfold wordOf
  rw [eq_zero_of_ne_one (b := IntOp.cmpi .slt v 12000#32) (fun e => by
    have := (IntOp.cmpi_slt (x := v) (y := 12000#32)).mp e
    rw [BitVec.toInt_eq_toNat_cond] at this
    simp at this
    omega), select_zero]
  rfl

/-- Every word of the index list names a row of the table. -/
theorem hin_of (hr : ∀ d, InRange (A1 m d) (A2 m d)) (d : Dev nD) (b : Fin 6000) (j : Fin 128) : (wordAt (fi m d) b j).toNat < 48008 := by
  have hb := b.isLt
  have hj := j.isLt
  rw [wordAt, fi_eq, listOf_apply (A1 m d) (A2 m d) b j ⟨(b.val * 128 + j.val) / 192000, by omega⟩ ⟨(b.val * 128 + j.val) % 192000 / 16, by omega⟩
    ⟨(b.val * 128 + j.val) % 16, by omega⟩ (by show _ = ((b.val * 128 + j.val) / 192000 * 12000 + (b.val * 128 + j.val) % 192000 / 16) * 16 + (b.val * 128 + j.val) % 16; omega)]
  have hv := nbr_lt (hr d) ⟨(b.val * 128 + j.val) % 192000 / 16, by omega⟩ ⟨(b.val * 128 + j.val) % 16, by omega⟩
  by_cases h : (nbr (A1 m d) (A2 m d) ⟨(b.val * 128 + j.val) % 192000 / 16, by omega⟩ ⟨(b.val * 128 + j.val) % 16, by omega⟩).toNat < 12000
  · rw [wordOf_lo _ _ h]
    show (b.val * 128 + j.val) / 192000 * 12000 + _ < 48008
    omega
  · rw [wordOf_hi _ _ (by omega) hv]
    omega

end Cert.Proof.KI

end
-- ==== Proof.Pre.lean ====
/-
  The precondition read back: every word of the two index arrays is below 20000.
-/
module

public import proofs.«01_k».proof.Proof.HostValue
public import proofs.«01_k».proof.Proof.Gen.Pre_in_range
public import Idealize.ShloMosaic.Lib.ReduceAll

@[expose] public section

noncomputable section

namespace Cert.Proof.KI

open Idealize.ShloMosaic Idealize.ShloMosaic.TcCoe
open Idealize.ShloMosaic.ValueIdx

theorem word_of_range (v : BitVec 32) (e : IntOp.andi (IntOp.cmpi .sge v 0#32) (IntOp.cmpi .slt v 20000#32) = 1#1) : v.toNat < 20000 := by
  obtain ⟨h1, h2⟩ := IntOp.andi_eq_one.1 e
  have h1 := IntOp.cmpi_sge.mp h1
  have h2 := IntOp.cmpi_slt.mp h2
  simp only [BitVec.toInt_eq_toNat_cond, BitVec.toNat_ofNat, Nat.reducePow, Nat.reduceMod] at h1 h2
  omega

instance : Subsingleton (Cert.Pre_in_range.S_).Idx := ⟨fun a b => funext fun x => x.elim0⟩

theorem range_of_pre {F : FTy → Type} [FloatOps F] (a0 : FVec F Cert.Pre_in_range.S4x12000x128 .f32) (a1 : IVec Cert.Pre_in_range.S10000x16 32) (a2 : IVec Cert.Pre_in_range.S2000x16 32)
    (a3 : FVec F Cert.Pre_in_range.S128x2048 .f32) (a4 : FVec F Cert.Pre_in_range.S128 .f32) (a5 : FVec F Cert.Pre_in_range.S128x2048 .f32) (a6 : FVec F Cert.Pre_in_range.S128 .f32)
    (h : Cert.Pre_in_range.fn (F := F) a0 a1 a2 a3 a4 a5 a6 = fun _ => 1#1) : InRange a1 a2 := by
  obtain ⟨e1, e2⟩ := IntOp.andi_eq_one.1 (congrFun h ix0)
  refine ⟨fun i => word_of_range _ ?_, fun i => word_of_range _ ?_⟩
  · exact Host.reduce_andi_all _ _ _ _ ix0 e1 i
  · exact Host.reduce_andi_all _ _ _ _ ix0 e2 i

end Cert.Proof.KI

end
-- ==== Proof.Frames.lean ====
/-
  The frames: the argument arrays are the ones no operation and neither call writes.
-/
module

public import proofs.«01_k».proof.Proof.Pre
public import proofs.«01_k».proof.Proof.Gen.Kernel
public import proofs.«01_k».proof.Proof.Gen.ReferenceIdeal
public import proofs.«01_k».proof.Proof.Gen.ReferenceIdeal.Run

@[expose] public section

noncomputable section

namespace Cert.Proof.KI

open Cert.KernelIdeal Cert.KernelIdeal.Gen

open Idealize.ShloMosaic Idealize.ShloMosaic.TcCoe
open Idealize.SL.Sem

variable {F : FTy → Type} [FloatOps F]
variable (m : (ℓ : Loc nD τ sig) → Buf (Elt F) ℓ)

/-- What the host operations write. -/
def wr0 : List (Ref sig .tc) := [main_v0, main_cst, main_v1, main_v2, main_v3, main_v4, main_c, main_v5, main_v6, main_v7, main_v8, main_c_0, main_v9, main_v10,
  main_v11, main_v12, main_v13, main_v14, main_c_1, main_call0.v0.ref, main_call0.v1.ref, main_call0.v2.ref, main_v15, main_v16, main_v17]
def wr1 : List (Ref sig .tc) := [main_v19, main_v20, main_v21, main_v22, main_v23, main_v24, main_v25, main_v26, main_v27, main_v28]

theorem kept0 (d : Dev nD) (r : Ref sig .tc) (h : r ∉ wr0) : V1 m d (Proc.devRef .tc r) = m (d, Proc.devRef .tc r) :=
  StableHlo.after_of_writes_sub (W := wr0) ops0 (V0 m d) (StableHlo.forall_writes_sub_of_map rfl) h
theorem kept1 (d : Dev nD) (r : Ref sig .tc) (h : r ∉ wr1) : V3 m d (Proc.devRef .tc r) = V2 m d (Proc.devRef .tc r) :=
  StableHlo.after_of_writes_sub (W := wr1) ops1 (V2 m d) (StableHlo.forall_writes_sub_of_map rfl) h
theorem kept2 (d : Dev nD) (r : Ref sig .tc) (h : r ∉ [main_v30]) : V5 m d (Proc.devRef .tc r) = V4 m d (Proc.devRef .tc r) :=
  StableHlo.after_of_writes_sub (W := [main_v30]) ops2 (V4 m d) (StableHlo.forall_writes_sub_of_map rfl) h

/-- A buffer that is none of those written. -/
theorem keptV3 (d : Dev nD) (r : Ref sig .tc) (h0 : r ∉ wr0) (hs : r ≠ main_v18) (h1 : r ∉ wr1) : V3 m d (Proc.devRef .tc r) = m (d, Proc.devRef .tc r) := by
  rw [kept1 m d r h1, V2, Function.update_of_ne (fun e => hs (Proc.devRef_injective _ e)), kept0 m d r h0]

theorem kept (d : Dev nD) (r : Ref sig .tc) (h0 : r ∉ wr0) (hs : r ≠ main_v18) (h1 : r ∉ wr1) (hr : ∀ w, Pipeline.arrRef spec1 w ≠ r) (h2 : r ∉ [main_v30]) :
    V5 m d (Proc.devRef .tc r) = m (d, Proc.devRef .tc r) := by
  rw [kept2 m d r h2, ← keptV3 m d r h0 hs h1]
  exact Pipeline.afterRegion_keeps (pdats (V3 m) 0 d) (V3 m d) winFacts1.arr_inj (fun _ => rfl) r (fun w e => absurd e (hr w))

/-- The arguments end as they were. -/
theorem args_kept (d : Dev nD) : V5 m d (Proc.devRef .tc main_arg0) = m (d, Proc.devRef .tc main_arg0)
    ∧ V5 m d (Proc.devRef .tc main_arg1) = m (d, Proc.devRef .tc main_arg1)
    ∧ V5 m d (Proc.devRef .tc main_arg2) = m (d, Proc.devRef .tc main_arg2)
    ∧ V5 m d (Proc.devRef .tc main_arg3) = m (d, Proc.devRef .tc main_arg3)
    ∧ V5 m d (Proc.devRef .tc main_arg4) = m (d, Proc.devRef .tc main_arg4)
    ∧ V5 m d (Proc.devRef .tc main_arg5) = m (d, Proc.devRef .tc main_arg5)
    ∧ V5 m d (Proc.devRef .tc main_arg6) = m (d, Proc.devRef .tc main_arg6) := by
  refine ⟨?_, ?_, ?_, ?_, ?_, ?_, ?_⟩ <;> exact kept m d _ (by decide) (by decide) (by decide) (by decide) (by decide)

theorem range_of (m : (ℓ : Loc nD τ sig) → Buf (Elt Ideal) ℓ) (h : Cert.Pre_KernelIdeal m) (d : Dev nD) : InRange (A1 m d) (A2 m d) :=
  range_of_pre _ _ _ _ _ _ _ (h d)

/-- Every run ends with the arguments kept and every semaphore at zero. -/
theorem run_frame [∀ e, Nonempty (Elt F e)] (ρ : Dev nD → PrngReg) (hr : ∀ d, InRange (A1 m d) (A2 m d)) :
    θ_run (Cert.KernelIdeal.defs (F := F)) (Cert.KernelIdeal.threads (F := F)) ⟨m, fun _ => 0, ρ⟩ (fun r => (∀ d : Dev nD,
      r.2.mem (d, Proc.devRef .tc main_arg0) = m (d, Proc.devRef .tc main_arg0)
      ∧ r.2.mem (d, Proc.devRef .tc main_arg1) = m (d, Proc.devRef .tc main_arg1)
      ∧ r.2.mem (d, Proc.devRef .tc main_arg2) = m (d, Proc.devRef .tc main_arg2)
      ∧ r.2.mem (d, Proc.devRef .tc main_arg3) = m (d, Proc.devRef .tc main_arg3)
      ∧ r.2.mem (d, Proc.devRef .tc main_arg4) = m (d, Proc.devRef .tc main_arg4)
      ∧ r.2.mem (d, Proc.devRef .tc main_arg5) = m (d, Proc.devRef .tc main_arg5)
      ∧ r.2.mem (d, Proc.devRef .tc main_arg6) = m (d, Proc.devRef .tc main_arg6)) ∧ r.2.sem = fun _ => 0) :=
  (θ_run Cert.KernelIdeal.defs _ _).mono (fun r h => ⟨fun d => by
    obtain ⟨k0, k1, k2, k3, k4, k5, k6⟩ := args_kept m d
    exact ⟨(h.1 d main_arg0 rfl).trans k0, (h.1 d main_arg1 rfl).trans k1, (h.1 d main_arg2 rfl).trans k2, (h.1 d main_arg3 rfl).trans k3,
      (h.1 d main_arg4 rfl).trans k4, (h.1 d main_arg5 rfl).trans k5, (h.1 d main_arg6 rfl).trans k6⟩, h.2⟩) (run_main m ρ (hin_of m hr))

theorem frame_ki : Cert.quiescent_KernelIdeal := fun m ρ hpre => run_frame (F := Ideal) m ρ (range_of m hpre)

theorem frame_r : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-! ## The kernel's program is the ideal one's text -/

theorem defs₀_eq : Cert.Kernel.defs₀ (F := F) = Cert.KernelIdeal.defs₀ (F := F) := by
  funext p ℓ a
  cases p with
  | tc =>
    match ℓ, a with
    | 0, a => rfl
    | 1, a => rfl
  | scScalar c =>
    match ℓ, a with
    | 0, a => rfl
    | 1, a => rfl
  | scVector c s =>
    match ℓ, a with
    | 0, a => rfl
    | 1, a => rfl

theorem defs_eq : Cert.Kernel.defs (F := F) = Cert.KernelIdeal.defs (F := F) :=
  congrArg (fun D => (K (F := F)).defs (Pipeline.defs pcfgs D)) (defs₀_eq (F := F))

/-- So its run is the same run, over the words of the format. -/
theorem frame_k : Cert.quiescent_Kernel := fun m ρ hpre => by
  have h := run_frame (F := Bits) m ρ (fun d => range_of_pre _ _ _ _ _ _ _ (hpre d))
  rw [← defs_eq] at h
  exact h

end Cert.Proof.KI

end
-- ==== Proof.Gemm.lean ====
/-
  What the pipelined call computes, over the extended reals: every row of the gathered array times the weight of its row
  type, plus that type's bias.
-/
module

public import proofs.«01_k».proof.Proof.Region
public import Idealize.ShloMosaic.Lib.Pipeline.Value
public import Idealize.ShloMosaic.Lib.Pipeline.ValueKit.Geometry
public import Idealize.ShloMosaic.Lib.MatmulPlain
public import Idealize.ShloMosaic.Lib.IdealHost
public import Idealize.ShloMosaic.Lib.ValueIdx

@[expose] public section

noncomputable section

namespace Cert.Proof.KI

open Cert.KernelIdeal Cert.KernelIdeal.Gen

open Idealize.ShloMosaic Idealize.ShloMosaic.TcCoe
open Idealize.ShloMosaic.ValueIdx

/-- A block's product and bias, at an index. -/
theorem pay_apply (g : FVec Ideal S1000x2048 .f32) (w : FVec Ideal S1x2048x128 .f32) (b : FVec Ideal S1x1x128 .f32) (y : Fin 1000) (o : Fin 128) :
    k1_pay1 (F := Ideal) g w b (ix2 y o) = (∑ k : Fin 2048, g (ix2 y k) * w (ix3 (0 : Fin 1) k o)) + b (ix3 (0 : Fin 1) (0 : Fin 1) o) := by
  unfold k1_pay1
  rw [addf_apply]
  congr 1
  · show FloatOps.matmul (DotDims.plain 1000 2048 128) none _ _ _ (ix2 y o) = _
    rw [Ideal.matmul_plain_apply, constant_apply, Ideal.ofBits_zero_f32, zero_add]
    refine Finset.sum_congr rfl fun k _ => ?_
    rw [shapeCast_self, shapeCast_apply (s := S1x2048x128) (t := S2048x128) w _ (ix2 k o) (ix3 (0 : Fin 1) k o) (by
      rw [Shape.rowMajor_val_two, Shape.rowMajor_val_three]
      show (0 * 2048 + k.val) * 128 + o.val = k.val * 128 + o.val
      omega)]
  · rw [broadcastTo_apply (s := S1x128) (t := S1000x128) _ _ (ix2 y o) (ix2 (0 : Fin 1) o) (fun a => match a with | ⟨0, _⟩ => rfl | ⟨1, _⟩ => rfl),
      shapeCast_apply (s := S1x1x128) (t := S1x128) b _ (ix2 (0 : Fin 1) o) (ix3 (0 : Fin 1) (0 : Fin 1) o) (by
        rw [Shape.rowMajor_val_two, Shape.rowMajor_val_three]
        rfl)]

/-- A row's type: the first 10000 rows of each batch are of the first. -/
def tyOf (r : ℕ) : Fin 2 := if r % 12000 < 10000 then 0 else 1

/-- The call's result of its three arrays. -/
def gemmOut (g : S48000x2048.Idx → EReal) (w : S2x2048x128.Idx → EReal) (b : S2x1x128.Idx → EReal) : S48000x128.Idx → EReal := fun x =>
  (∑ k : Fin 2048, g (ix2 (x 0 : Fin 48000) k) * w (ix3 (tyOf (x 0).val) k (x 1 : Fin 128))) + b (ix3 (tyOf (x 0).val) (0 : Fin 1) (x 1 : Fin 128))

theorem idx0 : ∀ t : Fin cfg1.N, win1_0.index t = ![t.val, 0] := (by decide +kernel : ∀ t : Fin grid1.N, win1_0.index t = ![t.val, 0])
theorem idx3 : ∀ t : Fin cfg1.N, win1_3.index t = ![t.val, 0] := (by decide +kernel : ∀ t : Fin grid1.N, win1_3.index t = ![t.val, 0])
theorem idx1 : ∀ t : Fin cfg1.N, win1_1.index t = ![if t.val % 12 < 10 then 0 else 1, 0, 0] :=
  (by decide +kernel : ∀ t : Fin grid1.N, win1_1.index t = ![if t.val % 12 < 10 then 0 else 1, 0, 0])
theorem idx2 : ∀ t : Fin cfg1.N, win1_2.index t = ![if t.val % 12 < 10 then 0 else 1, 0, 0] :=
  (by decide +kernel : ∀ t : Fin grid1.N, win1_2.index t = ![if t.val % 12 < 10 then 0 else 1, 0, 0])

variable (W : Dev nD → Valuation τ sig (Elt Ideal))

theorem stgG_apply (c : Dev nD) (t : Fin cfg1.N) (y : Fin 1000) (k : Fin 2048) (x : Fin 48000) (h : x.val = t.val * 1000 + y.val) :
    stgG W c t (ix2 y k) = W c (Proc.devRef .tc main_v19) (ix2 x k) := by
  show W c (Proc.devRef .tc main_v19) (((cfg1.win 0).blk t).view.emb (ix2 y k)) = _
  refine congrArg (W c (Proc.devRef .tc main_v19)) ?_
  blk_ext [idx0]
  exact h.symm

theorem stgW_apply (c : Dev nD) (t : Fin cfg1.N) (k : Fin 2048) (o : Fin 128) (e : Fin 2) (h : e.val = if t.val % 12 < 10 then 0 else 1) :
    stgW W c t (ix3 (0 : Fin 1) k o) = W c (Proc.devRef .tc main_v24) (ix3 e k o) := by
  show W c (Proc.devRef .tc main_v24) (((cfg1.win 1).blk t).view.emb (ix3 (0 : Fin 1) k o)) = _
  refine congrArg (W c (Proc.devRef .tc main_v24)) ?_
  blk_ext [idx1]
  exact h.symm

theorem stgB_apply (c : Dev nD) (t : Fin cfg1.N) (o : Fin 128) (e : Fin 2) (h : e.val = if t.val % 12 < 10 then 0 else 1) :
    stgB W c t (ix3 (0 : Fin 1) (0 : Fin 1) o) = W c (Proc.devRef .tc main_v28) (ix3 e (0 : Fin 1) o) := by
  show W c (Proc.devRef .tc main_v28) (((cfg1.win 2).blk t).view.emb (ix3 (0 : Fin 1) (0 : Fin 1) o)) = _
  refine congrArg (W c (Proc.devRef .tc main_v28)) ?_
  blk_ext [idx2]
  exact h.symm

theorem emb3 (t : Fin cfg1.N) (y : Fin 1000) (o : Fin 128) (x : Fin 48000) (h : x.val = t.val * 1000 + y.val) :
    ((win1_3.blk t).view.emb (ix2 y o) : S48000x128.Idx) = ix2 x o := by
  blk_ext [idx3]
  exact h.symm

theorem tyOf_val (t y : ℕ) (h : y < 1000) : (tyOf (t * 1000 + y)).val = if t % 12 < 10 then 0 else 1 := by
  unfold tyOf
  by_cases h' : t % 12 < 10
  · rw [if_pos h', if_pos (by omega)]; rfl
  · rw [if_neg h', if_neg (by omega)]; rfl

theorem gemm_arr (c : Dev nD) : (dat W c).arrAt 3 cfg1.N
    = gemmOut (W c (Proc.devRef .tc main_v19)) (W c (Proc.devRef .tc main_v24)) (W c (Proc.devRef .tc main_v28)) := by
  refine (dat W c).arrAt_eq_of_covers 3 _ (by decide +kernel) fun t hf y => ?_
  show k1_pay1 (F := Ideal) (stgG W c t) (stgW W c t) (stgB W c t) y = gemmOut _ _ _ ((win1_3.blk t).view.emb y)
  have ht : t.val < 48 := t.isLt
  obtain ⟨a, o, rfl⟩ : ∃ (a : Fin 1000) (o : Fin 128), y = ix2 a o := ⟨y 0, y 1, eq_ix2 y⟩
  have ha := a.isLt
  have hx : t.val * 1000 + a.val < 48000 := by omega
  rw [pay_apply, emb3 t a o ⟨t.val * 1000 + a.val, hx⟩ rfl]
  unfold gemmOut
  have hty := tyOf_val t.val a.val ha
  refine congrArg₂ (· + ·) (Finset.sum_congr rfl fun k _ => ?_) ?_
  · rw [stgG_apply W c t a k ⟨t.val * 1000 + a.val, hx⟩ rfl, stgW_apply W c t k o _ hty]
  · rw [stgB_apply W c t o _ hty]

end Cert.Proof.KI

end
-- ==== Proof.KernelValue.lean ====
/-
  What the kernel computes, index by index: for node `r` of batch `c`, the sum over its neighbors' values against the
  weights of the node's kind, plus the bias of that kind. A neighbor beyond the nodes counts as a row of zeros.
-/
module

public import proofs.«01_k».proof.Proof.Frames
public import proofs.«01_k».proof.Proof.Gemm

@[expose] public section

noncomputable section

namespace Cert.Proof.KI

open Cert.KernelIdeal Cert.KernelIdeal.Gen

open Idealize.ShloMosaic Idealize.ShloMosaic.TcCoe
open Idealize.ShloMosaic.ValueIdx
open Idealize.SL.Sem

/-- Feature `f` of the node named by word `v`, in batch `c`: zero beyond the nodes. -/
def rowVal (x : S4x12000x128.Idx → EReal) (v : BitVec 32) (c : Fin 4) (f : Fin 128) : EReal :=
  if h : v.toNat < 12000 then x (ix3 c ⟨v.toNat, h⟩ f) else constant (F := Ideal) S_ .f32 0x00000000#32 ix0

abbrev kOf (K : Fin 2048) : Fin 16 := ⟨K.val / 128, by omega⟩
abbrev fOf (K : Fin 2048) : Fin 128 := ⟨K.val % 128, by omega⟩

/-- The value of the whole computation at node `r` of batch `c`, output `o`. -/
def specAt (a0 : S4x12000x128.Idx → EReal) (a1 : S10000x16.Idx → BitVec 32) (a2 : S2000x16.Idx → BitVec 32)
    (a3 : S128x2048.Idx → EReal) (a4 : S128.Idx → EReal) (a5 : S128x2048.Idx → EReal) (a6 : S128.Idx → EReal)
    (c : Fin 4) (r : Fin 12000) (o : Fin 128) : EReal :=
  (∑ K : Fin 2048, rowVal a0 (nbr a1 a2 r (kOf K)) c (fOf K) * (if r.val < 10000 then a3 else a5) (ix2 o K)) + (if r.val < 10000 then a4 else a6) (ix1 o)

def spec (a0 : S4x12000x128.Idx → EReal) (a1 : S10000x16.Idx → BitVec 32) (a2 : S2000x16.Idx → BitVec 32)
    (a3 : S128x2048.Idx → EReal) (a4 : S128.Idx → EReal) (a5 : S128x2048.Idx → EReal) (a6 : S128.Idx → EReal) : S4x12000x128.Idx → EReal :=
  fun x => specAt a0 a1 a2 a3 a4 a5 a6 (x 0) (x 1) (x 2)

/-- A gathered row. -/
theorem gath_apply (x : S4x12000x128.Idx → EReal) {a : S10000x16.Idx → BitVec 32} {b : S2000x16.Idx → BitVec 32} (hr : InRange a b)
    (c : Fin 4) (r : Fin 12000) (k : Fin 16) (f : Fin 128) (p : Fin 768000) (h : p.val = (c.val * 12000 + r.val) * 16 + k.val) :
    gath (F := Ideal) (tableOf x) (listOf a b) (ix2 p f) = rowVal x (nbr a b r k) c f := by
  have hp := p.isLt
  have hl : listOf a b (ix3 ⟨p.val / 128, by omega⟩ (0 : Fin 1) ⟨p.val % 128, by omega⟩) = wordOf (nbr a b r k) c :=
    listOf_apply a b _ _ c r k (by show p.val / 128 * 128 + p.val % 128 = _; omega)
  have hg : gath (F := Ideal) (tableOf x) (listOf a b) (ix2 p f) = tableOf (F := Ideal) x (ix2 (rowOf (wordOf (nbr a b r k) c)) f) :=
    congrArg (fun w => tableOf (F := Ideal) x (ix2 (rowOf w) f)) hl
  rw [hg]
  have hv := nbr_lt hr r k
  have hc := c.isLt
  unfold rowVal
  split
  · next h' =>
    refine tableOf_lo (F := Ideal) x c ⟨_, h'⟩ f _ ?_
    show (wordOf (nbr a b r k) c).toNat % 48008 = _
    rw [wordOf_lo _ _ h', Nat.mod_eq_of_lt (by omega)]
  · next h' =>
    refine tableOf_hi (F := Ideal) x f _ ?_
    show 48000 ≤ (wordOf (nbr a b r k) c).toNat % 48008
    rw [wordOf_hi _ _ (by omega) hv]

variable (m : (ℓ : Loc nD τ sig) → Buf (Elt Ideal) ℓ)

/-! ## The pipelined call's operands -/

theorem v19_eq (d : Dev nD) : V3 m d (Proc.devRef .tc main_v19)
    = shapeCast S48000x2048 (gath (F := Ideal) (tableOf (A0 m d)) (listOf (A1 m d) (A2 m d))) shapeCasts_S768000x128_S48000x2048 := by
  rw [← ft_eq m d, ← fi_eq m d]
  unfold V3 ops1
  after_results
  rfl

theorem argV2 (d : Dev nD) (r : Ref sig .tc) (h0 : r ∉ wr0) (hs : r ≠ main_v18) : V2 m d (Proc.devRef .tc r) = m (d, Proc.devRef .tc r) := by
  rw [V2, Function.update_of_ne (fun e => hs (Proc.devRef_injective _ e)), kept0 m d r h0]

/-- The stacked weights. -/
def wts (a3 a5 : S128x2048.Idx → EReal) : S2x2048x128.Idx → EReal :=
  concatenate S2x2048x128 0 [⟨S1x2048x128, broadcastInDim S1x2048x128 ![1, 2] bcast_S2048x128_S1x2048x128_1_2 (transpose S2048x128 [1, 0] a3 transposes_S128x2048_S2048x128_1_0)⟩,
    ⟨S1x2048x128, broadcastInDim S1x2048x128 ![1, 2] bcast_S2048x128_S1x2048x128_1_2 (transpose S2048x128 [1, 0] a5 transposes_S128x2048_S2048x128_1_0)⟩]
    concatenates_S1x2048x128_S1x2048x128_S2x2048x128_d0
/-- The stacked biases. -/
def bss (a4 a6 : S128.Idx → EReal) : S2x1x128.Idx → EReal :=
  broadcastInDim S2x1x128 ![0, 2] bcast_S2x128_S2x1x128_0_2
    (concatenate S2x128 0 [⟨S1x128, broadcastInDim S1x128 ![1] bcast_S128_S1x128_1 a4⟩, ⟨S1x128, broadcastInDim S1x128 ![1] bcast_S128_S1x128_1 a6⟩]
      concatenates_S1x128_S1x128_S2x128_d0)

theorem v24_eq (d : Dev nD) : V3 m d (Proc.devRef .tc main_v24) = wts (A3 m d) (A5 m d) := by
  show V3 m d (Proc.devRef .tc main_v24) = wts (m (d, Proc.devRef .tc main_arg3)) (m (d, Proc.devRef .tc main_arg5))
  rw [← argV2 m d main_arg3 (by decide) (by decide), ← argV2 m d main_arg5 (by decide) (by decide)]
  unfold V3 ops1
  after_results
  rfl

theorem v28_eq (d : Dev nD) : V3 m d (Proc.devRef .tc main_v28) = bss (A4 m d) (A6 m d) := by
  show V3 m d (Proc.devRef .tc main_v28) = bss (m (d, Proc.devRef .tc main_arg4)) (m (d, Proc.devRef .tc main_arg6))
  rw [← argV2 m d main_arg4 (by decide) (by decide), ← argV2 m d main_arg6 (by decide) (by decide)]
  unfold V3 ops1
  after_results
  rfl

theorem tr_apply (a : S128x2048.Idx → EReal) (k : Fin 2048) (o : Fin 128) :
    transpose S2048x128 [1, 0] a transposes_S128x2048_S2048x128_1_0 (ix2 k o) = a (ix2 o k) := by
  unfold transpose
  refine congrArg a (funext fun c => ?_)
  match c with
  | ⟨0, _⟩ => rfl
  | ⟨1, _⟩ => rfl

theorem wup_apply (a : S128x2048.Idx → EReal) (k : Fin 2048) (o : Fin 128) :
    broadcastInDim S1x2048x128 ![1, 2] bcast_S2048x128_S1x2048x128_1_2 (transpose S2048x128 [1, 0] a transposes_S128x2048_S2048x128_1_0) (ix3 (0 : Fin 1) k o)
      = a (ix2 o k) :=
  (broadcastInDim_apply (s := S2048x128) (t := S1x2048x128) _ _ _ (ix3 (0 : Fin 1) k o) (ix2 k o)
    (fun c => match c with | ⟨0, _⟩ => rfl | ⟨1, _⟩ => rfl)).trans (tr_apply a k o)

theorem wts_apply (a3 a5 : S128x2048.Idx → EReal) (e : Fin 2) (k : Fin 2048) (o : Fin 128) :
    wts a3 a5 (ix3 e k o) = if e = 0 then a3 (ix2 o k) else a5 (ix2 o k) := by
  unfold wts
  match e with
  | 0 =>
    rw [if_pos rfl, ← wup_apply a3 k o]
    exact concatenate_pair_apply_left (t := S2x2048x128) (s₁ := S1x2048x128) (s₂ := S1x2048x128) (0 : Fin 3) _ _ _ (ix3 (0 : Fin 2) k o) rfl
      (ix3 (0 : Fin 1) k o) fun c => match c with | ⟨0, _⟩ => rfl | ⟨1, _⟩ => rfl | ⟨2, _⟩ => rfl
  | 1 =>
    rw [if_neg (by decide), ← wup_apply a5 k o]
    exact concatenate_pair_apply_right (t := S2x2048x128) (s₁ := S1x2048x128) (s₂ := S1x2048x128) (0 : Fin 3) _ _ _ (ix3 (1 : Fin 2) k o) rfl rfl
      (ix3 (0 : Fin 1) k o) (fun c hc => match c with | ⟨0, _⟩ => absurd rfl hc | ⟨1, _⟩ => rfl | ⟨2, _⟩ => rfl) rfl

theorem bup_apply (a : S128.Idx → EReal) (o : Fin 128) : broadcastInDim S1x128 ![1] bcast_S128_S1x128_1 a (ix2 (0 : Fin 1) o) = a (ix1 o) :=
  broadcastInDim_apply (s := S128) (t := S1x128) _ _ a (ix2 (0 : Fin 1) o) (ix1 o) (fun c => match c with | ⟨0, _⟩ => rfl)

theorem bss_apply (a4 a6 : S128.Idx → EReal) (e : Fin 2) (o : Fin 128) :
    bss a4 a6 (ix3 e (0 : Fin 1) o) = if e = 0 then a4 (ix1 o) else a6 (ix1 o) := by
  unfold bss
  refine (broadcastInDim_apply (s := S2x128) (t := S2x1x128) _ _ _ (ix3 e (0 : Fin 1) o) (ix2 e o)
    (fun c => match c with | ⟨0, _⟩ => rfl | ⟨1, _⟩ => rfl)).trans ?_
  match e with
  | 0 =>
    rw [if_pos rfl, ← bup_apply a4 o]
    exact concatenate_pair_apply_left (t := S2x128) (s₁ := S1x128) (s₂ := S1x128) (0 : Fin 2) _ _ _ (ix2 (0 : Fin 2) o) rfl
      (ix2 (0 : Fin 1) o) fun c => match c with | ⟨0, _⟩ => rfl | ⟨1, _⟩ => rfl
  | 1 =>
    rw [if_neg (by decide), ← bup_apply a6 o]
    exact concatenate_pair_apply_right (t := S2x128) (s₁ := S1x128) (s₂ := S1x128) (0 : Fin 2) _ _ _ (ix2 (1 : Fin 2) o) rfl rfl
      (ix2 (0 : Fin 1) o) (fun c hc => match c with | ⟨0, _⟩ => absurd rfl hc | ⟨1, _⟩ => rfl) rfl

/-! ## The result -/

theorem v29_eq (d : Dev nD) : V4 m d (Proc.devRef .tc main_v29)
    = gemmOut (V3 m d (Proc.devRef .tc main_v19)) (V3 m d (Proc.devRef .tc main_v24)) (V3 m d (Proc.devRef .tc main_v28)) :=
  (Pipeline.afterRegion_arr (pdats (V3 m) 0 d) (V3 m d) winFacts1.arr_inj 3).trans (gemm_arr (V3 m) d)

theorem v30_eq (d : Dev nD) : V5 m d (Proc.devRef .tc main_v30)
    = shapeCast S4x12000x128 (V4 m d (Proc.devRef .tc main_v29)) shapeCasts_S48000x128_S4x12000x128 := by
  unfold V5 ops2
  after_results
  rfl

theorem tyOf_lo {n r : ℕ} (h : n % 12000 = r) : (tyOf n = 0) = (r < 10000) := by
  subst h
  unfold tyOf
  split
  · next h => simp [h]
  · next h => simp [h]

theorem out_apply (d : Dev nD) (hr : InRange (A1 m d) (A2 m d)) (c : Fin 4) (r : Fin 12000) (o : Fin 128) :
    V5 m d (Proc.devRef .tc main_v30) (ix3 c r o) = specAt (A0 m d) (A1 m d) (A2 m d) (A3 m d) (A4 m d) (A5 m d) (A6 m d) c r o := by
  have hc := c.isLt
  have hrr := r.isLt
  have hx : c.val * 12000 + r.val < 48000 := by omega
  rw [v30_eq]
  refine (shapeCast_apply (s := S48000x128) (t := S4x12000x128) _ _ (ix3 c r o) (ix2 (⟨c.val * 12000 + r.val, hx⟩ : Fin 48000) o) (by
      rw [Shape.rowMajor_val_two, Shape.rowMajor_val_three]
      rfl)).trans ?_
  rw [v29_eq, v19_eq, v24_eq, v28_eq]
  have hty := tyOf_lo (n := c.val * 12000 + r.val) (r := r.val) (by omega)
  show (∑ k : Fin 2048, shapeCast S48000x2048 (gath (F := Ideal) (tableOf (A0 m d)) (listOf (A1 m d) (A2 m d))) shapeCasts_S768000x128_S48000x2048
      (ix2 (⟨c.val * 12000 + r.val, hx⟩ : Fin 48000) k) * wts (A3 m d) (A5 m d) (ix3 (tyOf (c.val * 12000 + r.val)) k o))
    + bss (A4 m d) (A6 m d) (ix3 (tyOf (c.val * 12000 + r.val)) (0 : Fin 1) o) = _
  unfold specAt
  refine congrArg₂ (· + ·) (Finset.sum_congr rfl fun K _ => congrArg₂ (· * ·) ?_ ?_) ?_
  · have hK := K.isLt
    refine (shapeCast_apply (s := S768000x128) (t := S48000x2048) _ _ _
      (ix2 (⟨(c.val * 12000 + r.val) * 16 + K.val / 128, by omega⟩ : Fin 768000) (fOf K)) (by
        rw [Shape.rowMajor_val_two, Shape.rowMajor_val_two]
        show ((c.val * 12000 + r.val) * 16 + K.val / 128) * 128 + K.val % 128 = (c.val * 12000 + r.val) * 2048 + K.val
        omega)).trans ?_
    exact gath_apply (A0 m d) hr c r (kOf K) (fOf K) _ rfl
  · rw [wts_apply]
    simp only [hty]
    split <;> rfl
  · rw [bss_apply]
    simp only [hty]
    split <;> rfl

theorem out_eq (d : Dev nD) (hr : InRange (A1 m d) (A2 m d)) :
    V5 m d (Proc.devRef .tc main_v30) = spec (A0 m d) (A1 m d) (A2 m d) (A3 m d) (A4 m d) (A5 m d) (A6 m d) := by
  funext x
  obtain ⟨c, r, o, rfl⟩ : ∃ (c : Fin 4) (r : Fin 12000) (o : Fin 128), x = ix3 c r o := ⟨x 0, x 1, x 2, eq_ix3 x⟩
  exact out_apply m d hr c r o

end Cert.Proof.KI

end
-- ==== Proof.RefValue.lean ====
/-
  What the reference computes, index by index. A take of rows reads, in range, the row named by its word; each kind of node
  is a product with its weights plus its bias, and the two kinds lie one after the other.
-/
module

public import proofs.«01_k».proof.Defs
public import proofs.«01_k».proof.Proof.Gen.ReferenceIdeal
public import proofs.«01_k».proof.Proof.Gen.ReferenceIdeal.Run
public import Idealize.ShloMosaic.Lib.Pipeline.Value
public import Idealize.ShloMosaic.Lib.IdealHost
public import Idealize.ShloMosaic.Lib.Affine
public import Idealize.ShloMosaic.Lib.ReduceAll
public import Idealize.ShloMosaic.Lib.StackMember
public import Idealize.ShloMosaic.Lib.ValueIdx
public import Idealize.ShloMosaic.Lib.MatmulPlain

@[expose] public section

noncomputable section

namespace Cert.Proof.RI

open Cert.ReferenceIdeal Cert.ReferenceIdeal.Gen

open Idealize.ShloMosaic Idealize.ShloMosaic.TcCoe
open Idealize.ShloMosaic.ValueIdx

/-! ## Taking rows -/

section Take
variable {n : ℕ}

/-- The dimension numbers of a take along the middle axis. -/
abbrev midDims (n : ℕ) (wf : GatherDims.WF S4x20000x128 ⟨2, ![n, 1]⟩ ⟨3, ![4, n, 128]⟩ [0, 2] [1] [] [1] [] 1 ![4, 1, 128]) :
    GatherDims S4x20000x128 ⟨2, ![n, 1]⟩ ⟨3, ![4, n, 128]⟩ where
  offsetDims := [0, 2]
  collapsedSliceDims := [1]
  operandBatchingDims := []
  startIndicesBatchingDims := []
  startIndexMap := [1]
  indexVectorDim := 1
  sliceSizes := ![4, 1, 128]
  wf := wf

theorem gather_mid {α : Type} (wf) (x : S4x20000x128.Idx → α) (idx : IVec ⟨2, ![n, 1]⟩ 32) (c : Fin 4) (j : Fin n) (f : Fin 128) :
    Host.gather (midDims n wf) x idx (ix3 c j f) = x (ix3 c ⟨min (idx (ix2 j (0 : Fin 1))).toInt.toNat (20000 - 1), by omega⟩ f) := by
  unfold Host.gather
  refine congrArg x (funext fun a => Fin.ext ?_)
  match a with
  | ⟨0, _⟩ =>
    have hm : (0 : Fin 3) ∉ ([1] : List (Fin 3)) := by decide
    show (midDims n wf).start (ix3 c j f) idx 0 + (midDims n wf).batchCoord (ix3 c j f) 0 + (midDims n wf).offCoord (ix3 c j f) 0 = c.val
    rw [GatherDims.batchCoord_eq_zero _ _ _ List.not_mem_nil]
    unfold GatherDims.start
    rw [dif_neg hm]
    unfold GatherDims.offCoord
    rw [dif_pos ((GatherDims.mem_sKept _ _).mpr ⟨hm, List.not_mem_nil⟩)]
    simp only [Nat.zero_add]
    rfl
  | ⟨1, _⟩ =>
    have hm : (1 : Fin 3) ∈ (midDims n wf).startIndexMap := List.mem_singleton.mpr rfl
    show (midDims n wf).start (ix3 c j f) idx 1 + (midDims n wf).batchCoord (ix3 c j f) 1 + (midDims n wf).offCoord (ix3 c j f) 1 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos hm]
    have hsi : (midDims n wf).siIdx (ix3 c j f) ⟨List.idxOf (1 : Fin 3) (midDims n wf).startIndexMap, List.idxOf_lt_length_iff.2 hm⟩ = ix2 j (0 : Fin 1) := by
      funext b
      refine Fin.ext ?_
      match b with
      | ⟨0, _⟩ => rfl
      | ⟨1, _⟩ => rfl
    rw [hsi]
    rfl
  | ⟨2, _⟩ =>
    have hm : (2 : Fin 3) ∉ ([1] : List (Fin 3)) := by decide
    show (midDims n wf).start (ix3 c j f) idx 2 + (midDims n wf).batchCoord (ix3 c j f) 2 + (midDims n wf).offCoord (ix3 c j f) 2 = f.val
    rw [GatherDims.batchCoord_eq_zero _ _ _ List.not_mem_nil]
    unfold GatherDims.start
    rw [dif_neg hm]
    unfold GatherDims.offCoord
    rw [dif_pos ((GatherDims.mem_sKept _ _).mpr ⟨hm, List.not_mem_nil⟩)]
    simp only [Nat.zero_add]
    rfl

variable (hb0 : S_.BroadcastsInDim ⟨1, ![n]⟩ ![]) (hb1 : (⟨1, ![n]⟩ : Shape).BroadcastsInDim ⟨2, ![n, 1]⟩ ![0])
variable (hb2 : S_.BroadcastsInDim ⟨2, ![n, 1]⟩ ![]) (hb3 : S1x1.BroadcastsInDim ⟨2, ![n, 1]⟩ ![0, 1])
variable (hred : (⟨2, ![n, 1]⟩ : Shape).ReducesTo [1] ⟨1, ![n]⟩) (hb4 : (⟨1, ![n]⟩ : Shape).BroadcastsInDim ⟨3, ![4, n, 128]⟩ ![1])
variable (hb5 : S_.BroadcastsInDim ⟨3, ![4, n, 128]⟩ ![])
variable (wf : GatherDims.WF S4x20000x128 ⟨2, ![n, 1]⟩ ⟨3, ![4, n, 128]⟩ [0, 2] [1] [] [1] [] 1 ![4, 1, 128])

/-- The words, a negative one counted from the end. -/
def adj (v : IVec ⟨1, ![n]⟩ 32) : IVec ⟨1, ![n]⟩ 32 :=
  select (cmpi .slt v (broadcastInDim ⟨1, ![n]⟩ ![] hb0 (constantI S_ 32 0#32))) (addi v (broadcastInDim ⟨1, ![n]⟩ ![] hb0 (constantI S_ 32 20000#32))) v

/-- The take, rows out of range filled. -/
def takeT (x : S4x20000x128.Idx → EReal) (v : IVec ⟨1, ![n]⟩ 32) : (⟨3, ![4, n, 128]⟩ : Shape).Idx → EReal :=
  select (broadcastInDim ⟨3, ![4, n, 128]⟩ ![1] hb4 (Host.reduce IntOp.andi
      (andi (cmpi .sge (broadcastInDim ⟨2, ![n, 1]⟩ ![0] hb1 (adj hb0 v)) (broadcastInDim ⟨2, ![n, 1]⟩ ![] hb2 (constantI S_ 32 0#32)))
        (cmpi .sle (broadcastInDim ⟨2, ![n, 1]⟩ ![0] hb1 (adj hb0 v))
          (broadcastInDim ⟨2, ![n, 1]⟩ ![0, 1] hb3 (broadcastInDim S1x1 ![1] bcast_S1_S1x1_1 (constantI S1 32 19999#32)))))
      (constantI S_ 1 1#1) hred h_S_))
    (Host.gather (midDims n wf) x (broadcastInDim ⟨2, ![n, 1]⟩ ![0] hb1 (adj hb0 v)))
    (broadcastInDim ⟨3, ![4, n, 128]⟩ ![] hb5 (constant (F := Ideal) S_ .f32 0x7FC00000#32))

theorem toInt_small (w : BitVec 32) (h : w.toNat < 20000) : w.toInt = (w.toNat : ℤ) := by
  rw [BitVec.toInt_eq_toNat_cond, if_pos (by omega)]

theorem adj_apply (v : IVec ⟨1, ![n]⟩ 32) (hv : ∀ i, (v i).toNat < 20000) (i) : adj hb0 v i = v i := by
  unfold adj
  have e : cmpi .slt v (broadcastInDim ⟨1, ![n]⟩ ![] hb0 (constantI S_ 32 0#32)) i = IntOp.cmpi .slt (v i) 0#32 :=
    congrArg (IntOp.cmpi .slt (v i)) (broadcastInDim_scalar_apply _ _ _)
  rw [select_apply, e, eq_zero_of_ne_one (b := IntOp.cmpi .slt (v i) 0#32) (fun h => by
    have h1 := (IntOp.cmpi_slt (x := v i) (y := 0#32)).mp h
    rw [toInt_small _ (hv i)] at h1
    simp at h1
    omega), select_zero]

theorem adj2_apply (v : IVec ⟨1, ![n]⟩ 32) (hv : ∀ i, (v i).toNat < 20000) (j : Fin n) (z : Fin 1) :
    broadcastInDim ⟨2, ![n, 1]⟩ ![0] hb1 (adj hb0 v) (ix2 j z) = v (ix1 j) := by
  refine (broadcastInDim_apply (s := ⟨1, ![n]⟩) (t := ⟨2, ![n, 1]⟩) _ _ _ (ix2 j z) (ix1 j) (fun c => ?_)).trans (adj_apply hb0 v hv _)
  match c with
  | ⟨0, _⟩ =>
    show j.val = if n = 1 then 0 else j.val
    have := j.isLt
    split <;> omega

theorem take_apply (x : S4x20000x128.Idx → EReal) (v : IVec ⟨1, ![n]⟩ 32) (hv : ∀ i, (v i).toNat < 20000) (c : Fin 4) (j : Fin n) (f : Fin 128) :
    takeT hb0 hb1 hb2 hb3 hred hb4 hb5 wf x v (ix3 c j f) = x (ix3 c ⟨(v (ix1 j)).toNat, hv _⟩ f) := by
  unfold takeT
  have hmask : broadcastInDim ⟨3, ![4, n, 128]⟩ ![1] hb4 (Host.reduce IntOp.andi
      (andi (cmpi .sge (broadcastInDim ⟨2, ![n, 1]⟩ ![0] hb1 (adj hb0 v)) (broadcastInDim ⟨2, ![n, 1]⟩ ![] hb2 (constantI S_ 32 0#32)))
        (cmpi .sle (broadcastInDim ⟨2, ![n, 1]⟩ ![0] hb1 (adj hb0 v))
          (broadcastInDim ⟨2, ![n, 1]⟩ ![0, 1] hb3 (broadcastInDim S1x1 ![1] bcast_S1_S1x1_1 (constantI S1 32 19999#32)))))
      (constantI S_ 1 1#1) hred h_S_) (ix3 c j f) = 1#1 := by
    unfold broadcastInDim
    refine Host.reduce_andi_one _ _ _ _ _ rfl fun i => ?_
    obtain ⟨j', z, rfl⟩ : ∃ (j' : Fin n) (z : Fin 1), i = ix2 j' z := ⟨i 0, i 1, eq_ix2 i⟩
    have hw := hv (ix1 j')
    refine IntOp.andi_eq_one.mpr ⟨?_, ?_⟩
    · refine (congrArg₂ (IntOp.cmpi .sge) (adj2_apply hb0 hb1 v hv j' z) (broadcastInDim_scalar_apply hb2 _ _)).trans (IntOp.cmpi_sge.mpr ?_)
      rw [toInt_small _ hw]
      show (0 : ℤ) ≤ _
      omega
    · refine (congrArg₂ (IntOp.cmpi .sle) (adj2_apply hb0 hb1 v hv j' z) (rfl : _ = 19999#32)).trans (IntOp.cmpi_sle.mpr ?_)
      rw [toInt_small _ hw]
      show _ ≤ (19999 : ℤ)
      omega
  rw [select_apply, hmask, select_one, gather_mid]
  have hw := hv (ix1 j)
  refine congrArg (fun p => x (ix3 c p f)) (Fin.ext ?_)
  show min (broadcastInDim ⟨2, ![n, 1]⟩ ![0] hb1 (adj hb0 v) (ix2 j (0 : Fin 1))).toInt.toNat (20000 - 1) = (v (ix1 j)).toNat
  rw [adj2_apply hb0 hb1 v hv, toInt_small _ hw]
  omega

end Take

/-! ## A kind's product -/

section Part
variable {N n : ℕ}

theorem dot_apply {G k l : ℕ} (w : DotDims.WF ⟨3, ![G, N, k]⟩ ⟨2, ![k, l]⟩ ⟨3, ![G, N, l]⟩ [2] [0] [0, 1] [1] [] [])
    (A : FVec Ideal ⟨3, ![G, N, k]⟩ .f32) (B : FVec Ideal ⟨2, ![k, l]⟩ .f32) (c : Fin G) (r : Fin N) (o : Fin l) :
    Host.dotGeneral (⟨[2], [0], [0, 1], [1], [], [], w⟩ : DotDims _ _ _) none A B (ix3 c r o) = ∑ K : Fin k, A (ix3 c r K) * B (ix2 K o) := by
  show FloatOps.dotGeneral _ none _ A B (ix3 c r o) = _
  rw [Ideal.dotGeneral_apply, ← Equiv.sum_comp (contrEquiv1 (⟨[2], [0], [0, 1], [1], [], [], w⟩ : DotDims _ _ _) k rfl rfl).symm]
  refine Finset.sum_congr rfl fun K _ => ?_
  have hv := contrEquiv1_symm_val (⟨[2], [0], [0, 1], [1], [], [], w⟩ : DotDims ⟨3, ![G, N, k]⟩ ⟨2, ![k, l]⟩ ⟨3, ![G, N, l]⟩) k rfl rfl K
  have hl : (⟨[2], [0], [0, 1], [1], [], [], w⟩ : DotDims ⟨3, ![G, N, k]⟩ ⟨2, ![k, l]⟩ ⟨3, ![G, N, l]⟩).lhsIdx (ix3 c r o)
      ((contrEquiv1 _ k rfl rfl).symm K) = ix3 c r K := by
    funext ax; apply Fin.ext
    match ax with
    | ⟨0, _⟩ => simp [DotDims.lhsIdx]; rfl
    | ⟨1, _⟩ => simp [DotDims.lhsIdx]; rfl
    | ⟨2, _⟩ => simp [DotDims.lhsIdx]; exact hv
  have hr : (⟨[2], [0], [0, 1], [1], [], [], w⟩ : DotDims ⟨3, ![G, N, k]⟩ ⟨2, ![k, l]⟩ ⟨3, ![G, N, l]⟩).rhsIdx (ix3 c r o)
      ((contrEquiv1 _ k rfl rfl).symm K) = ix2 K o := by
    funext ax; apply Fin.ext
    match ax with
    | ⟨0, _⟩ => simp [DotDims.rhsIdx]; exact hv
    | ⟨1, _⟩ => simp [DotDims.rhsIdx]; rfl
  rw [hl, hr]

variable (hb0 : S_.BroadcastsInDim ⟨1, ![n]⟩ ![]) (hb1 : (⟨1, ![n]⟩ : Shape).BroadcastsInDim ⟨2, ![n, 1]⟩ ![0])
variable (hb2 : S_.BroadcastsInDim ⟨2, ![n, 1]⟩ ![]) (hb3 : S1x1.BroadcastsInDim ⟨2, ![n, 1]⟩ ![0, 1])
variable (hred : (⟨2, ![n, 1]⟩ : Shape).ReducesTo [1] ⟨1, ![n]⟩) (hb4 : (⟨1, ![n]⟩ : Shape).BroadcastsInDim ⟨3, ![4, n, 128]⟩ ![1])
variable (hb5 : S_.BroadcastsInDim ⟨3, ![4, n, 128]⟩ ![])
variable (wf : GatherDims.WF S4x20000x128 ⟨2, ![n, 1]⟩ ⟨3, ![4, n, 128]⟩ [0, 2] [1] [] [1] [] 1 ![4, 1, 128])
variable (hs : (⟨2, ![N, 16]⟩ : Shape).ShapeCasts ⟨1, ![n]⟩) (hs' : (⟨3, ![4, n, 128]⟩ : Shape).ShapeCasts ⟨3, ![4, N, 2048]⟩)
variable (w : DotDims.WF ⟨3, ![4, N, 2048]⟩ S2048x128 ⟨3, ![4, N, 128]⟩ [2] [0] [0, 1] [1] [] [])
variable (hb6 : S1x1x128.BroadcastsInDim ⟨3, ![4, N, 128]⟩ ![0, 1, 2])

/-- The nodes of one kind. -/
def part (x : S4x20000x128.Idx → EReal) (a : IVec ⟨2, ![N, 16]⟩ 32) (wt : S128x2048.Idx → EReal) (b : S128.Idx → EReal) : (⟨3, ![4, N, 128]⟩ : Shape).Idx → EReal :=
  addf (F := Ideal) (φ := .f32) (Host.dotGeneral (F := Ideal) (φ₁ := .f32) (φ₂ := .f32) (⟨[2], [0], [0, 1], [1], [], [], w⟩ : DotDims ⟨3, ![4, N, 2048]⟩ S2048x128 ⟨3, ![4, N, 128]⟩) none
      (shapeCast ⟨3, ![4, N, 2048]⟩ (takeT hb0 hb1 hb2 hb3 hred hb4 hb5 wf x (shapeCast ⟨1, ![n]⟩ a hs)) hs')
      (transpose S2048x128 [1, 0] wt transposes_S128x2048_S2048x128_1_0))
    (broadcastInDim ⟨3, ![4, N, 128]⟩ ![0, 1, 2] hb6 (broadcastInDim S1x1x128 ![2] bcast_S128_S1x1x128_2 b))

theorem tr_apply (a : S128x2048.Idx → EReal) (k : Fin 2048) (o : Fin 128) :
    transpose S2048x128 [1, 0] a transposes_S128x2048_S2048x128_1_0 (ix2 k o) = a (ix2 o k) := by
  unfold transpose
  refine congrArg a (funext fun c => ?_)
  match c with
  | ⟨0, _⟩ => rfl
  | ⟨1, _⟩ => rfl

theorem part_apply (hn : n = N * 16) (x : S4x20000x128.Idx → EReal) (a : IVec ⟨2, ![N, 16]⟩ 32) (ha : ∀ i, (a i).toNat < 20000)
    (wt : S128x2048.Idx → EReal) (b : S128.Idx → EReal) (c : Fin 4) (r : Fin N) (o : Fin 128) :
    part hb0 hb1 hb2 hb3 hred hb4 hb5 wf hs hs' w hb6 x a wt b (ix3 c r o)
      = (∑ K : Fin 2048, x (ix3 c ⟨(a (ix2 r (⟨K.val / 128, by omega⟩ : Fin 16))).toNat, ha _⟩ ⟨K.val % 128, by omega⟩) * wt (ix2 o K)) + b (ix1 o) := by
  have hr := r.isLt
  unfold part
  rw [addf_apply]
  refine congrArg₂ (· + ·) ((dot_apply w _ _ c r o).trans (Finset.sum_congr rfl fun K _ => congrArg₂ (· * ·) ?_ (tr_apply wt K o))) ?_
  · have hK := K.isLt
    have hc := c.isLt
    have hj : r.val * 16 + K.val / 128 < n := by omega
    have hv : ∀ i, (shapeCast ⟨1, ![n]⟩ a hs i).toNat < 20000 := fun i => ha _
    have e : shapeCast ⟨1, ![n]⟩ a hs (ix1 (⟨r.val * 16 + K.val / 128, hj⟩ : Fin n)) = a (ix2 r (⟨K.val / 128, by omega⟩ : Fin 16)) :=
      shapeCast_apply (s := ⟨2, ![N, 16]⟩) (t := ⟨1, ![n]⟩) a hs _ _ (by
        rw [Shape.rowMajor_val_one, Shape.rowMajor_val_two]
        rfl)
    refine (shapeCast_apply (s := ⟨3, ![4, n, 128]⟩) (t := ⟨3, ![4, N, 2048]⟩) _ hs' (ix3 c r K)
      (ix3 c (⟨r.val * 16 + K.val / 128, hj⟩ : Fin n) (⟨K.val % 128, by omega⟩ : Fin 128)) (by
        rw [Shape.rowMajor_val_three, Shape.rowMajor_val_three]
        show (c.val * n + (r.val * 16 + K.val / 128)) * 128 + K.val % 128 = (c.val * N + r.val) * 2048 + K.val
        subst hn
        have : c.val * (N * 16) = c.val * N * 16 := (Nat.mul_assoc _ _ _).symm
        omega)).trans ?_
    refine (take_apply hb0 hb1 hb2 hb3 hred hb4 hb5 wf x _ hv c _ _).trans ?_
    exact congrArg (fun p => x (ix3 c p (⟨K.val % 128, by omega⟩ : Fin 128))) (Fin.ext (congrArg BitVec.toNat e))
  · refine (broadcastInDim_apply (s := S1x1x128) (t := ⟨3, ![4, N, 128]⟩) _ hb6 _ (ix3 c r o) (ix3 (0 : Fin 1) (0 : Fin 1) o)
      (fun c => match c with | ⟨0, _⟩ => rfl | ⟨1, _⟩ => rfl | ⟨2, _⟩ => rfl)).trans ?_
    exact broadcastInDim_apply (s := S128) (t := S1x1x128) _ _ b (ix3 (0 : Fin 1) (0 : Fin 1) o) (ix1 o) (fun c => match c with | ⟨0, _⟩ => rfl)

end Part

/-! ## The rows taken from -/

/-- The two kinds' rows, then rows of zeros. -/
def catX (x : S4x12000x128.Idx → EReal) : S4x20000x128.Idx → EReal :=
  concatenate S4x20000x128 1 [⟨S4x10000x128, extractStridedSlice S4x10000x128 ![0, 0, 0] x slices_S4x12000x128_S4x10000x128_0_0_0⟩,
    ⟨S4x2000x128, extractStridedSlice S4x2000x128 ![0, 10000, 0] x slices_S4x12000x128_S4x2000x128_0_10000_0⟩,
    ⟨S4x8000x128, broadcastInDim S4x8000x128 ![] bcast_S_S4x8000x128 (constant (F := Ideal) S_ .f32 0x00000000#32)⟩]
    concatenates_S4x10000x128_S4x2000x128_S4x8000x128_S4x20000x128_d1

theorem catX_apply (x : S4x12000x128.Idx → EReal) (c : Fin 4) (p : Fin 20000) (f : Fin 128) :
    catX x (ix3 c p f) = if h : p.val < 12000 then x (ix3 c ⟨p.val, h⟩ f) else constant (F := Ideal) S_ .f32 0x00000000#32 ix0 := by
  unfold catX
  have hp := p.isLt
  by_cases h0 : p.val < 10000
  · rw [dif_pos (by omega)]
    refine (concatenate_apply_piece (t := S4x20000x128) (1 : Fin 3) _ _ (ix3 c p f) 0 (by simp) S4x10000x128
      (extractStridedSlice S4x10000x128 ![0, 0, 0] x slices_S4x12000x128_S4x10000x128_0_0_0) rfl rfl 0 rfl (ix3 c (⟨p.val, h0⟩ : Fin 10000) f)
      (fun b hb => match b with | ⟨0, _⟩ => rfl | ⟨1, _⟩ => absurd rfl hb | ⟨2, _⟩ => rfl) (Nat.zero_add _)).trans ?_
    refine extractStridedSlice_apply (s := S4x12000x128) (t := S4x10000x128) _ x _ _ _ fun a => ?_
    match a with
    | ⟨0, _⟩ => exact (Nat.zero_add _).symm
    | ⟨1, _⟩ => exact (Nat.zero_add _).symm
    | ⟨2, _⟩ => exact (Nat.zero_add _).symm
  by_cases h1 : p.val < 12000
  · rw [dif_pos h1]
    refine (concatenate_apply_piece (t := S4x20000x128) (1 : Fin 3) _ _ (ix3 c p f) 1 (by simp) S4x2000x128
      (extractStridedSlice S4x2000x128 ![0, 10000, 0] x slices_S4x12000x128_S4x2000x128_0_10000_0) rfl rfl 10000 rfl (ix3 c (⟨p.val - 10000, by omega⟩ : Fin 2000) f)
      (fun b hb => match b with | ⟨0, _⟩ => rfl | ⟨1, _⟩ => absurd rfl hb | ⟨2, _⟩ => rfl) (by
        show 10000 + (p.val - 10000) = p.val
        omega)).trans ?_
    refine extractStridedSlice_apply (s := S4x12000x128) (t := S4x2000x128) _ x _ _ _ fun a => ?_
    match a with
    | ⟨0, _⟩ => exact (Nat.zero_add _).symm
    | ⟨1, _⟩ => show p.val = 10000 + (p.val - 10000); omega
    | ⟨2, _⟩ => exact (Nat.zero_add _).symm
  · rw [dif_neg h1]
    refine (concatenate_apply_piece (t := S4x20000x128) (1 : Fin 3) _ _ (ix3 c p f) 2 (by simp) S4x8000x128
      (broadcastInDim S4x8000x128 ![] bcast_S_S4x8000x128 (constant (F := Ideal) S_ .f32 0x00000000#32)) rfl rfl 12000 rfl (ix3 c (⟨p.val - 12000, by omega⟩ : Fin 8000) f)
      (fun b hb => match b with | ⟨0, _⟩ => rfl | ⟨1, _⟩ => absurd rfl hb | ⟨2, _⟩ => rfl) (by
        show 12000 + (p.val - 12000) = p.val
        omega)).trans ?_
    exact broadcastInDim_scalar_apply _ _ _

/-! ## The whole -/

/-- The result as the two kinds one after the other. -/
def outR (a0 : S4x12000x128.Idx → EReal) (a1 : S10000x16.Idx → BitVec 32) (a2 : S2000x16.Idx → BitVec 32)
    (a3 : S128x2048.Idx → EReal) (a4 : S128.Idx → EReal) (a5 : S128x2048.Idx → EReal) (a6 : S128.Idx → EReal) : S4x12000x128.Idx → EReal :=
  concatenate S4x12000x128 1
    [⟨S4x10000x128, part (N := 10000) (n := 160000) bcast_S_S160000 bcast_S160000_S160000x1_0 bcast_S_S160000x1 bcast_S1x1_S160000x1_0_1
        reducesTo_S160000x1_S160000_d1 bcast_S160000_S4x160000x128_1 bcast_S_S4x160000x128 gather_S4x20000x128_S160000x1_S4x160000x128_02_1_n_n_1_1_41128_wf
        shapeCasts_S10000x16_S160000 shapeCasts_S4x160000x128_S4x10000x2048 dot_S4x10000x2048_S2048x128_S4x10000x128_2_0_01_1_n_n_wf
        bcast_S1x1x128_S4x10000x128_0_1_2 (catX a0) a1 a3 a4⟩,
     ⟨S4x2000x128, part (N := 2000) (n := 32000) bcast_S_S32000 bcast_S32000_S32000x1_0 bcast_S_S32000x1 bcast_S1x1_S32000x1_0_1
        reducesTo_S32000x1_S32000_d1 bcast_S32000_S4x32000x128_1 bcast_S_S4x32000x128 gather_S4x20000x128_S32000x1_S4x32000x128_02_1_n_n_1_1_41128_wf
        shapeCasts_S2000x16_S32000 shapeCasts_S4x32000x128_S4x2000x2048 dot_S4x2000x2048_S2048x128_S4x2000x128_2_0_01_1_n_n_wf
        bcast_S1x1x128_S4x2000x128_0_1_2 (catX a0) a2 a5 a6⟩]
    concatenates_S4x10000x128_S4x2000x128_S4x12000x128_d1

theorem res_eq (m : (ℓ : Loc nD τ sig) → Buf (Elt Ideal) ℓ) (c : Dev nD) :
    Cert.ReferenceIdeal.Value.res_main_v20 (F := Ideal) m c
      = outR (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5)) (m ((c.tc : Thread nD τ).loc main_arg6)) := by
  unfold Cert.ReferenceIdeal.Value.res_main_v20 outR part takeT adj catX
  rfl

/-- Feature `f` of the node named by word `v`, in batch `c`: zero beyond the nodes. -/
def rowR (x : S4x12000x128.Idx → EReal) (v : BitVec 32) (c : Fin 4) (f : Fin 128) : EReal :=
  if h : v.toNat < 12000 then x (ix3 c ⟨v.toNat, h⟩ f) else constant (F := Ideal) S_ .f32 0x00000000#32 ix0

theorem outR_lo (a0 : S4x12000x128.Idx → EReal) (a1 : S10000x16.Idx → BitVec 32) (a2 : S2000x16.Idx → BitVec 32)
    (a3 : S128x2048.Idx → EReal) (a4 : S128.Idx → EReal) (a5 : S128x2048.Idx → EReal) (a6 : S128.Idx → EReal)
    (h1 : ∀ i, (a1 i).toNat < 20000) (c : Fin 4) (r : Fin 12000) (o : Fin 128) (h : r.val < 10000) :
    outR a0 a1 a2 a3 a4 a5 a6 (ix3 c r o) = (∑ K : Fin 2048, rowR a0 (a1 (ix2 ⟨r.val, h⟩ (⟨K.val / 128, by omega⟩ : Fin 16))) c ⟨K.val % 128, by omega⟩ * a3 (ix2 o K)) + a4 (ix1 o) := by
  unfold outR
  refine (concatenate_pair_apply_left (t := S4x12000x128) (s₁ := S4x10000x128) (s₂ := S4x2000x128) (1 : Fin 3) _ _ _ (ix3 c r o) rfl
    (ix3 c (⟨r.val, h⟩ : Fin 10000) o) (fun b => match b with | ⟨0, _⟩ => rfl | ⟨1, _⟩ => rfl | ⟨2, _⟩ => rfl)).trans ?_
  refine (part_apply (N := 10000) (n := 160000) _ _ _ _ _ _ _ _ _ _ _ _ rfl (catX a0) a1 h1 a3 a4 c ⟨r.val, h⟩ o).trans ?_
  refine congrArg₂ (· + ·) (Finset.sum_congr rfl fun K _ => congrArg₂ (· * ·) ?_ rfl) rfl
  exact catX_apply a0 c _ _

theorem outR_hi (a0 : S4x12000x128.Idx → EReal) (a1 : S10000x16.Idx → BitVec 32) (a2 : S2000x16.Idx → BitVec 32)
    (a3 : S128x2048.Idx → EReal) (a4 : S128.Idx → EReal) (a5 : S128x2048.Idx → EReal) (a6 : S128.Idx → EReal)
    (h2 : ∀ i, (a2 i).toNat < 20000) (c : Fin 4) (r : Fin 12000) (o : Fin 128) (h : ¬ r.val < 10000) :
    outR a0 a1 a2 a3 a4 a5 a6 (ix3 c r o)
      = (∑ K : Fin 2048, rowR a0 (a2 (ix2 ⟨r.val - 10000, by omega⟩ (⟨K.val / 128, by omega⟩ : Fin 16))) c ⟨K.val % 128, by omega⟩ * a5 (ix2 o K)) + a6 (ix1 o) := by
  unfold outR
  have hr : r.val - 10000 < 2000 := by omega
  have hb : ∀ (p : Fin 2000) (b : Fin 3), b ≠ 1 → (ix3 c p o b).val = (ix3 c r o b).val := fun p b hb => by
    match b with
    | ⟨0, _⟩ => rfl
    | ⟨1, _⟩ => exact absurd rfl hb
    | ⟨2, _⟩ => rfl
  refine (concatenate_pair_apply_right (t := S4x12000x128) (s₁ := S4x10000x128) (s₂ := S4x2000x128) (1 : Fin 3) _ _ _ (ix3 c r o) rfl rfl
    (ix3 c (⟨r.val - 10000, hr⟩ : Fin 2000) o) (hb _) (by
      show r.val - 10000 + 10000 = r.val
      omega)).trans ?_
  refine (part_apply (N := 2000) (n := 32000) _ _ _ _ _ _ _ _ _ _ _ _ rfl (catX a0) a2 h2 a5 a6 c ⟨r.val - 10000, hr⟩ o).trans ?_
  refine congrArg₂ (· + ·) (Finset.sum_congr rfl fun K _ => congrArg₂ (· * ·) ?_ rfl) rfl
  exact catX_apply a0 c _ _

end Cert.Proof.RI

end
-- ==== Proof.Algebraic.lean ====
/-
  The kernel's result is the reference's: both are the same sums, index by index.
-/
module

public import proofs.«01_k».proof.Proof.KernelValue
public import proofs.«01_k».proof.Proof.RefValue

@[expose] public section

noncomputable section

namespace Cert.Proof.KI

open Cert.KernelIdeal Cert.KernelIdeal.Gen

open Idealize.ShloMosaic Idealize.ShloMosaic.TcCoe
open Idealize.ShloMosaic.ValueIdx
open Idealize.SL.Sem

theorem outR_eq (a0 : S4x12000x128.Idx → EReal) (a1 : S10000x16.Idx → BitVec 32) (a2 : S2000x16.Idx → BitVec 32)
    (a3 : S128x2048.Idx → EReal) (a4 : S128.Idx → EReal) (a5 : S128x2048.Idx → EReal) (a6 : S128.Idx → EReal) (hr : InRange a1 a2) :
    RI.outR a0 a1 a2 a3 a4 a5 a6 = spec a0 a1 a2 a3 a4 a5 a6 := by
  funext x
  obtain ⟨c, r, o, rfl⟩ : ∃ (c : Fin 4) (r : Fin 12000) (o : Fin 128), x = ix3 c r o := ⟨x 0, x 1, x 2, eq_ix3 x⟩
  show _ = specAt a0 a1 a2 a3 a4 a5 a6 c r o
  unfold specAt
  by_cases h : r.val < 10000
  · refine (RI.outR_lo a0 a1 a2 a3 a4 a5 a6 hr.1 c r o h).trans ?_
    rw [if_pos h, if_pos h]
    refine congrArg₂ (· + ·) (Finset.sum_congr rfl fun K _ => congrArg₂ (· * ·) ?_ rfl) rfl
    rw [nbr, dif_pos h]
    rfl
  · refine (RI.outR_hi a0 a1 a2 a3 a4 a5 a6 hr.2 c r o h).trans ?_
    rw [if_neg h, if_neg h]
    refine congrArg₂ (· + ·) (Finset.sum_congr rfl fun K _ => congrArg₂ (· * ·) ?_ rfl) rfl
    rw [nbr, dif_neg h]
    rfl

theorem algebraic : Cert.algebraic_KernelIdeal_ReferenceIdeal := by
  intro m g m' g' hpre hag
  have hr := range_of m hpre
  refine ⟨fun d => V5 m d (Proc.devRef .tc main_v30), ?_, ?_⟩
  · refine (θ_run Cert.KernelIdeal.defs _ _).mono (fun r h d => ?_) (run_main (F := Ideal) m g (hin_of m hr))
    obtain ⟨k0, k1, k2, k3, k4, k5, k6⟩ := args_kept m d
    exact ⟨h.1 d main_v30 rfl, (h.1 d main_arg0 rfl).trans k0, (h.1 d main_arg1 rfl).trans k1, (h.1 d main_arg2 rfl).trans k2, (h.1 d main_arg3 rfl).trans k3,
      (h.1 d main_arg4 rfl).trans k4, (h.1 d main_arg5 rfl).trans k5, (h.1 d main_arg6 rfl).trans k6⟩
  · refine (θ_run Cert.ReferenceIdeal.defs _ _).mono (fun r h d => ⟨(h d).1.trans ?_, (h d).2⟩) (Cert.ReferenceIdeal.Value.run (F := Ideal) m' g')
    obtain ⟨e0, e1, e2, e3, e4, e5, e6⟩ := hag d
    refine (RI.res_eq m' d).trans ?_
    rw [e0, e1, e2, e3, e4, e5, e6]
    exact (outR_eq (A0 m d) (A1 m d) (A2 m d) (A3 m d) (A4 m d) (A5 m d) (A6 m d) (hr d)).trans (out_eq m d (hr d)).symm

end Cert.Proof.KI

end
-- ==== Proof.lean ====
/-
  The certificate: the three frames, that the idealized kernel is the kernel's own text, and that its result is the
  reference's.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Gen.Pre_in_range
public import proofs.«01_k».proof.Proof.Frames
public import proofs.«01_k».proof.Proof.Algebraic
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Pre_in_range.Gen.facts,
    KI.frame_k, KI.frame_ki, KI.frame_r, trivial, KI.algebraic⟩

end Cert.Proof

end
